-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_LoraDown (m : (ℓ : Loc Cert.LoraDown.nD Cert.LoraDown.τ Cert.LoraDown.sig) → Buf (Elt Bits) ℓ) : Prop :=
  True

def Pre_LoraDownIdeal (m : (ℓ : Loc Cert.LoraDownIdeal.nD Cert.LoraDownIdeal.τ Cert.LoraDownIdeal.sig) → Buf (Elt Ideal) ℓ) : Prop :=
  True

def Pre_LoraDownRefIdeal (m : (ℓ : Loc Cert.LoraDownRefIdeal.nD Cert.LoraDownRefIdeal.τ Cert.LoraDownRefIdeal.sig) → Buf (Elt Ideal) ℓ) : Prop :=
  True

def Pre_LoraUp (m : (ℓ : Loc Cert.LoraUp.nD Cert.LoraUp.τ Cert.LoraUp.sig) → Buf (Elt Bits) ℓ) : Prop :=
  True

def Pre_LoraUpIdeal (m : (ℓ : Loc Cert.LoraUpIdeal.nD Cert.LoraUpIdeal.τ Cert.LoraUpIdeal.sig) → Buf (Elt Ideal) ℓ) : Prop :=
  True

def Pre_LoraUpRefIdeal (m : (ℓ : Loc Cert.LoraUpRefIdeal.nD Cert.LoraUpRefIdeal.τ Cert.LoraUpRefIdeal.sig) → Buf (Elt Ideal) ℓ) : Prop :=
  True

def Pre_GateDown (m : (ℓ : Loc Cert.GateDown.nD Cert.GateDown.τ Cert.GateDown.sig) → Buf (Elt Bits) ℓ) : Prop :=
  True

def Pre_GateDownIdeal (m : (ℓ : Loc Cert.GateDownIdeal.nD Cert.GateDownIdeal.τ Cert.GateDownIdeal.sig) → Buf (Elt Ideal) ℓ) : Prop :=
  True

def Pre_GateDownRefIdeal (m : (ℓ : Loc Cert.GateDownRefIdeal.nD Cert.GateDownRefIdeal.τ Cert.GateDownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_LruGates (m : (ℓ : Loc Cert.LruGates.nD Cert.LruGates.τ Cert.LruGates.sig) → Buf (Elt Bits) ℓ) : Prop :=
  True

def Pre_LruGatesIdeal (m : (ℓ : Loc Cert.LruGatesIdeal.nD Cert.LruGatesIdeal.τ Cert.LruGatesIdeal.sig) → Buf (Elt Ideal) ℓ) : Prop :=
  True

def Pre_LruGatesRefIdeal (m : (ℓ : Loc Cert.LruGatesRefIdeal.nD Cert.LruGatesRefIdeal.τ Cert.LruGatesRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Cattn (m : (ℓ : Loc Cert.Cattn.nD Cert.Cattn.τ Cert.Cattn.sig) → Buf (Elt Bits) ℓ) : Prop :=
  True

def Pre_CattnIdeal (m : (ℓ : Loc Cert.CattnIdeal.nD Cert.CattnIdeal.τ Cert.CattnIdeal.sig) → Buf (Elt Ideal) ℓ) : Prop :=
  True

def Pre_CattnIdeal_finite_context [hPre_finite_context : Cert.Pre_finite_context.Facts] (m : (ℓ : Loc Cert.CattnIdeal.nD Cert.CattnIdeal.τ Cert.CattnIdeal.sig) → Buf (Elt Ideal) ℓ) : Prop :=
  ∀ c : Dev Cert.CattnIdeal.nD,
    (Cert.Pre_finite_context.fn (F := Ideal) (m ((c.tc : Thread Cert.CattnIdeal.nD Cert.CattnIdeal.τ).loc Cert.CattnIdeal.main_arg0)) (m ((c.tc : Thread Cert.CattnIdeal.nD Cert.CattnIdeal.τ).loc Cert.CattnIdeal.main_arg1))).1 = (fun _ => 1#1)
    ∧ (Cert.Pre_finite_context.fn (F := Ideal) (m ((c.tc : Thread Cert.CattnIdeal.nD Cert.CattnIdeal.τ).loc Cert.CattnIdeal.main_arg0)) (m ((c.tc : Thread Cert.CattnIdeal.nD Cert.CattnIdeal.τ).loc Cert.CattnIdeal.main_arg1))).2 = (fun _ => 1#1)

def Pre_CattnRefIdeal (m : (ℓ : Loc Cert.CattnRefIdeal.nD Cert.CattnRefIdeal.τ Cert.CattnRefIdeal.sig) → Buf (Elt Ideal) ℓ) : Prop :=
  True

def Pre_CattnRefIdeal_finite_context [hPre_finite_context : Cert.Pre_finite_context.Facts] (m : (ℓ : Loc Cert.CattnRefIdeal.nD Cert.CattnRefIdeal.τ Cert.CattnRefIdeal.sig) → Buf (Elt Ideal) ℓ) : Prop :=
  ∀ c : Dev Cert.CattnRefIdeal.nD,
    (Cert.Pre_finite_context.fn (F := Ideal) (m ((c.tc : Thread Cert.CattnRefIdeal.nD Cert.CattnRefIdeal.τ).loc Cert.CattnRefIdeal.main_arg0)) (m ((c.tc : Thread Cert.CattnRefIdeal.nD Cert.CattnRefIdeal.τ).loc Cert.CattnRefIdeal.main_arg1))).1 = (fun _ => 1#1)
    ∧ (Cert.Pre_finite_context.fn (F := Ideal) (m ((c.tc : Thread Cert.CattnRefIdeal.nD Cert.CattnRefIdeal.τ).loc Cert.CattnRefIdeal.main_arg0)) (m ((c.tc : Thread Cert.CattnRefIdeal.nD Cert.CattnRefIdeal.τ).loc Cert.CattnRefIdeal.main_arg1))).2 = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_LoraDown [hLoraDown : Cert.LoraDown.Facts] : Prop :=
  ∀ (m : (ℓ : Loc Cert.LoraDown.nD Cert.LoraDown.τ Cert.LoraDown.sig) → Buf (Elt Bits) ℓ) (g : Dev Cert.LoraDown.nD → PrngReg), Pre_LoraDown m →
    θ_run (Cert.LoraDown.defs (F := Bits)) (onTc (τ := Cert.LoraDown.τ) (Cert.LoraDown.main (F := Bits))) ⟨m, fun _ => 0, g⟩ (fun r => (∀ c : Dev Cert.LoraDown.nD,
      r.2.mem ((c.tc : Thread Cert.LoraDown.nD Cert.LoraDown.τ).loc Cert.LoraDown.main_arg0) = m ((c.tc : Thread Cert.LoraDown.nD Cert.LoraDown.τ).loc Cert.LoraDown.main_arg0)
      ∧ r.2.mem ((c.tc : Thread Cert.LoraDown.nD Cert.LoraDown.τ).loc Cert.LoraDown.main_arg1) = m ((c.tc : Thread Cert.LoraDown.nD Cert.LoraDown.τ).loc Cert.LoraDown.main_arg1))
      ∧ r.2.sem = fun _ => 0)

def quiescent_LoraDownIdeal [hLoraDownIdeal : Cert.LoraDownIdeal.Facts] : Prop :=
  ∀ (m : (ℓ : Loc Cert.LoraDownIdeal.nD Cert.LoraDownIdeal.τ Cert.LoraDownIdeal.sig) → Buf (Elt Ideal) ℓ) (g : Dev Cert.LoraDownIdeal.nD → PrngReg), Pre_LoraDownIdeal m →
    θ_run (Cert.LoraDownIdeal.defs (F := Ideal)) (onTc (τ := Cert.LoraDownIdeal.τ) (Cert.LoraDownIdeal.main (F := Ideal))) ⟨m, fun _ => 0, g⟩ (fun r => (∀ c : Dev Cert.LoraDownIdeal.nD,
      r.2.mem ((c.tc : Thread Cert.LoraDownIdeal.nD Cert.LoraDownIdeal.τ).loc Cert.LoraDownIdeal.main_arg0) = m ((c.tc : Thread Cert.LoraDownIdeal.nD Cert.LoraDownIdeal.τ).loc Cert.LoraDownIdeal.main_arg0)
      ∧ r.2.mem ((c.tc : Thread Cert.LoraDownIdeal.nD Cert.LoraDownIdeal.τ).loc Cert.LoraDownIdeal.main_arg1) = m ((c.tc : Thread Cert.LoraDownIdeal.nD Cert.LoraDownIdeal.τ).loc Cert.LoraDownIdeal.main_arg1))
      ∧ r.2.sem = fun _ => 0)

def quiescent_LoraDownRefIdeal [hLoraDownRefIdeal : Cert.LoraDownRefIdeal.Facts] : Prop :=
  ∀ (m : (ℓ : Loc Cert.LoraDownRefIdeal.nD Cert.LoraDownRefIdeal.τ Cert.LoraDownRefIdeal.sig) → Buf (Elt Ideal) ℓ) (g : Dev Cert.LoraDownRefIdeal.nD → PrngReg), Pre_LoraDownRefIdeal m →
    θ_run (Cert.LoraDownRefIdeal.defs (F := Ideal)) (onTc (τ := Cert.LoraDownRefIdeal.τ) (Cert.LoraDownRefIdeal.main (F := Ideal))) ⟨m, fun _ => 0, g⟩ (fun r => (∀ c : Dev Cert.LoraDownRefIdeal.nD,
      r.2.mem ((c.tc : Thread Cert.LoraDownRefIdeal.nD Cert.LoraDownRefIdeal.τ).loc Cert.LoraDownRefIdeal.main_arg0) = m ((c.tc : Thread Cert.LoraDownRefIdeal.nD Cert.LoraDownRefIdeal.τ).loc Cert.LoraDownRefIdeal.main_arg0)
      ∧ r.2.mem ((c.tc : Thread Cert.LoraDownRefIdeal.nD Cert.LoraDownRefIdeal.τ).loc Cert.LoraDownRefIdeal.main_arg1) = m ((c.tc : Thread Cert.LoraDownRefIdeal.nD Cert.LoraDownRefIdeal.τ).loc Cert.LoraDownRefIdeal.main_arg1))
      ∧ r.2.sem = fun _ => 0)

def quiescent_LoraUp [hLoraUp : Cert.LoraUp.Facts] : Prop :=
  ∀ (m : (ℓ : Loc Cert.LoraUp.nD Cert.LoraUp.τ Cert.LoraUp.sig) → Buf (Elt Bits) ℓ) (g : Dev Cert.LoraUp.nD → PrngReg), Pre_LoraUp m →
    θ_run (Cert.LoraUp.defs (F := Bits)) (onTc (τ := Cert.LoraUp.τ) (Cert.LoraUp.main (F := Bits))) ⟨m, fun _ => 0, g⟩ (fun r => (∀ c : Dev Cert.LoraUp.nD,
      r.2.mem ((c.tc : Thread Cert.LoraUp.nD Cert.LoraUp.τ).loc Cert.LoraUp.main_arg0) = m ((c.tc : Thread Cert.LoraUp.nD Cert.LoraUp.τ).loc Cert.LoraUp.main_arg0)
      ∧ r.2.mem ((c.tc : Thread Cert.LoraUp.nD Cert.LoraUp.τ).loc Cert.LoraUp.main_arg1) = m ((c.tc : Thread Cert.LoraUp.nD Cert.LoraUp.τ).loc Cert.LoraUp.main_arg1))
      ∧ r.2.sem = fun _ => 0)

def quiescent_LoraUpIdeal [hLoraUpIdeal : Cert.LoraUpIdeal.Facts] : Prop :=
  ∀ (m : (ℓ : Loc Cert.LoraUpIdeal.nD Cert.LoraUpIdeal.τ Cert.LoraUpIdeal.sig) → Buf (Elt Ideal) ℓ) (g : Dev Cert.LoraUpIdeal.nD → PrngReg), Pre_LoraUpIdeal m →
    θ_run (Cert.LoraUpIdeal.defs (F := Ideal)) (onTc (τ := Cert.LoraUpIdeal.τ) (Cert.LoraUpIdeal.main (F := Ideal))) ⟨m, fun _ => 0, g⟩ (fun r => (∀ c : Dev Cert.LoraUpIdeal.nD,
      r.2.mem ((c.tc : Thread Cert.LoraUpIdeal.nD Cert.LoraUpIdeal.τ).loc Cert.LoraUpIdeal.main_arg0) = m ((c.tc : Thread Cert.LoraUpIdeal.nD Cert.LoraUpIdeal.τ).loc Cert.LoraUpIdeal.main_arg0)
      ∧ r.2.mem ((c.tc : Thread Cert.LoraUpIdeal.nD Cert.LoraUpIdeal.τ).loc Cert.LoraUpIdeal.main_arg1) = m ((c.tc : Thread Cert.LoraUpIdeal.nD Cert.LoraUpIdeal.τ).loc Cert.LoraUpIdeal.main_arg1))
      ∧ r.2.sem = fun _ => 0)

def quiescent_LoraUpRefIdeal [hLoraUpRefIdeal : Cert.LoraUpRefIdeal.Facts] : Prop :=
  ∀ (m : (ℓ : Loc Cert.LoraUpRefIdeal.nD Cert.LoraUpRefIdeal.τ Cert.LoraUpRefIdeal.sig) → Buf (Elt Ideal) ℓ) (g : Dev Cert.LoraUpRefIdeal.nD → PrngReg), Pre_LoraUpRefIdeal m →
    θ_run (Cert.LoraUpRefIdeal.defs (F := Ideal)) (onTc (τ := Cert.LoraUpRefIdeal.τ) (Cert.LoraUpRefIdeal.main (F := Ideal))) ⟨m, fun _ => 0, g⟩ (fun r => (∀ c : Dev Cert.LoraUpRefIdeal.nD,
      r.2.mem ((c.tc : Thread Cert.LoraUpRefIdeal.nD Cert.LoraUpRefIdeal.τ).loc Cert.LoraUpRefIdeal.main_arg0) = m ((c.tc : Thread Cert.LoraUpRefIdeal.nD Cert.LoraUpRefIdeal.τ).loc Cert.LoraUpRefIdeal.main_arg0)
      ∧ r.2.mem ((c.tc : Thread Cert.LoraUpRefIdeal.nD Cert.LoraUpRefIdeal.τ).loc Cert.LoraUpRefIdeal.main_arg1) = m ((c.tc : Thread Cert.LoraUpRefIdeal.nD Cert.LoraUpRefIdeal.τ).loc Cert.LoraUpRefIdeal.main_arg1))
      ∧ r.2.sem = fun _ => 0)

def quiescent_GateDown [hGateDown : Cert.GateDown.Facts] : Prop :=
  ∀ (m : (ℓ : Loc Cert.GateDown.nD Cert.GateDown.τ Cert.GateDown.sig) → Buf (Elt Bits) ℓ) (g : Dev Cert.GateDown.nD → PrngReg), Pre_GateDown m →
    θ_run (Cert.GateDown.defs (F := Bits)) (onTc (τ := Cert.GateDown.τ) (Cert.GateDown.main (F := Bits))) ⟨m, fun _ => 0, g⟩ (fun r => (∀ c : Dev Cert.GateDown.nD,
      r.2.mem ((c.tc : Thread Cert.GateDown.nD Cert.GateDown.τ).loc Cert.GateDown.main_arg0) = m ((c.tc : Thread Cert.GateDown.nD Cert.GateDown.τ).loc Cert.GateDown.main_arg0)
      ∧ r.2.mem ((c.tc : Thread Cert.GateDown.nD Cert.GateDown.τ).loc Cert.GateDown.main_arg1) = m ((c.tc : Thread Cert.GateDown.nD Cert.GateDown.τ).loc Cert.GateDown.main_arg1))
      ∧ r.2.sem = fun _ => 0)

def quiescent_GateDownIdeal [hGateDownIdeal : Cert.GateDownIdeal.Facts] : Prop :=
  ∀ (m : (ℓ : Loc Cert.GateDownIdeal.nD Cert.GateDownIdeal.τ Cert.GateDownIdeal.sig) → Buf (Elt Ideal) ℓ) (g : Dev Cert.GateDownIdeal.nD → PrngReg), Pre_GateDownIdeal m →
    θ_run (Cert.GateDownIdeal.defs (F := Ideal)) (onTc (τ := Cert.GateDownIdeal.τ) (Cert.GateDownIdeal.main (F := Ideal))) ⟨m, fun _ => 0, g⟩ (fun r => (∀ c : Dev Cert.GateDownIdeal.nD,
      r.2.mem ((c.tc : Thread Cert.GateDownIdeal.nD Cert.GateDownIdeal.τ).loc Cert.GateDownIdeal.main_arg0) = m ((c.tc : Thread Cert.GateDownIdeal.nD Cert.GateDownIdeal.τ).loc Cert.GateDownIdeal.main_arg0)
      ∧ r.2.mem ((c.tc : Thread Cert.GateDownIdeal.nD Cert.GateDownIdeal.τ).loc Cert.GateDownIdeal.main_arg1) = m ((c.tc : Thread Cert.GateDownIdeal.nD Cert.GateDownIdeal.τ).loc Cert.GateDownIdeal.main_arg1))
      ∧ r.2.sem = fun _ => 0)

def quiescent_GateDownRefIdeal [hGateDownRefIdeal : Cert.GateDownRefIdeal.Facts] : Prop :=
  ∀ (m : (ℓ : Loc Cert.GateDownRefIdeal.nD Cert.GateDownRefIdeal.τ Cert.GateDownRefIdeal.sig) → Buf (Elt Ideal) ℓ) (g : Dev Cert.GateDownRefIdeal.nD → PrngReg), Pre_GateDownRefIdeal m →
    θ_run (Cert.GateDownRefIdeal.defs (F := Ideal)) (onTc (τ := Cert.GateDownRefIdeal.τ) (Cert.GateDownRefIdeal.main (F := Ideal))) ⟨m, fun _ => 0, g⟩ (fun r => (∀ c : Dev Cert.GateDownRefIdeal.nD,
      r.2.mem ((c.tc : Thread Cert.GateDownRefIdeal.nD Cert.GateDownRefIdeal.τ).loc Cert.GateDownRefIdeal.main_arg0) = m ((c.tc : Thread Cert.GateDownRefIdeal.nD Cert.GateDownRefIdeal.τ).loc Cert.GateDownRefIdeal.main_arg0)
      ∧ r.2.mem ((c.tc : Thread Cert.GateDownRefIdeal.nD Cert.GateDownRefIdeal.τ).loc Cert.GateDownRefIdeal.main_arg1) = m ((c.tc : Thread Cert.GateDownRefIdeal.nD Cert.GateDownRefIdeal.τ).loc Cert.GateDownRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_LruGates [hLruGates : Cert.LruGates.Facts] : Prop :=
  ∀ (m : (ℓ : Loc Cert.LruGates.nD Cert.LruGates.τ Cert.LruGates.sig) → Buf (Elt Bits) ℓ) (g : Dev Cert.LruGates.nD → PrngReg), Pre_LruGates m →
    θ_run (Cert.LruGates.defs (F := Bits)) (onTc (τ := Cert.LruGates.τ) (Cert.LruGates.main (F := Bits))) ⟨m, fun _ => 0, g⟩ (fun r => (∀ c : Dev Cert.LruGates.nD,
      r.2.mem ((c.tc : Thread Cert.LruGates.nD Cert.LruGates.τ).loc Cert.LruGates.main_arg0) = m ((c.tc : Thread Cert.LruGates.nD Cert.LruGates.τ).loc Cert.LruGates.main_arg0)
      ∧ r.2.mem ((c.tc : Thread Cert.LruGates.nD Cert.LruGates.τ).loc Cert.LruGates.main_arg1) = m ((c.tc : Thread Cert.LruGates.nD Cert.LruGates.τ).loc Cert.LruGates.main_arg1)
      ∧ r.2.mem ((c.tc : Thread Cert.LruGates.nD Cert.LruGates.τ).loc Cert.LruGates.main_arg2) = m ((c.tc : Thread Cert.LruGates.nD Cert.LruGates.τ).loc Cert.LruGates.main_arg2))
      ∧ r.2.sem = fun _ => 0)

def quiescent_LruGatesIdeal [hLruGatesIdeal : Cert.LruGatesIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg), Pre_LruGatesIdeal m →
    θ_run (Cert.LruGatesIdeal.defs (F := Ideal)) (onTc (τ := Cert.LruGatesIdeal.τ) (Cert.LruGatesIdeal.main (F := Ideal))) ⟨m, fun _ => 0, g⟩ (fun r => (∀ c : Dev Cert.LruGatesIdeal.nD,
      r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
      ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1)
      ∧ r.2.mem ((c.tc : Thread Cert.LruGatesIdeal.nD Cert.LruGatesIdeal.τ).loc Cert.LruGatesIdeal.main_arg2) = m ((c.tc : Thread Cert.LruGatesIdeal.nD Cert.LruGatesIdeal.τ).loc Cert.LruGatesIdeal.main_arg2))
      ∧ r.2.sem = fun _ => 0)

def quiescent_LruGatesRefIdeal [hLruGatesRefIdeal : Cert.LruGatesRefIdeal.Facts] : Prop :=
  ∀ (m : (ℓ : Loc Cert.LruGatesRefIdeal.nD Cert.LruGatesRefIdeal.τ Cert.LruGatesRefIdeal.sig) → Buf (Elt Ideal) ℓ) (g : Dev Cert.LruGatesRefIdeal.nD → PrngReg), Pre_LruGatesRefIdeal m →
    θ_run (Cert.LruGatesRefIdeal.defs (F := Ideal)) (onTc (τ := Cert.LruGatesRefIdeal.τ) (Cert.LruGatesRefIdeal.main (F := Ideal))) ⟨m, fun _ => 0, g⟩ (fun r => (∀ c : Dev Cert.LruGatesRefIdeal.nD,
      r.2.mem ((c.tc : Thread Cert.LruGatesRefIdeal.nD Cert.LruGatesRefIdeal.τ).loc Cert.LruGatesRefIdeal.main_arg0) = m ((c.tc : Thread Cert.LruGatesRefIdeal.nD Cert.LruGatesRefIdeal.τ).loc Cert.LruGatesRefIdeal.main_arg0)
      ∧ r.2.mem ((c.tc : Thread Cert.LruGatesRefIdeal.nD Cert.LruGatesRefIdeal.τ).loc Cert.LruGatesRefIdeal.main_arg1) = m ((c.tc : Thread Cert.LruGatesRefIdeal.nD Cert.LruGatesRefIdeal.τ).loc Cert.LruGatesRefIdeal.main_arg1)
      ∧ r.2.mem ((c.tc : Thread Cert.LruGatesRefIdeal.nD Cert.LruGatesRefIdeal.τ).loc Cert.LruGatesRefIdeal.main_arg2) = m ((c.tc : Thread Cert.LruGatesRefIdeal.nD Cert.LruGatesRefIdeal.τ).loc Cert.LruGatesRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Cattn [hCattn : Cert.Cattn.Facts] : Prop :=
  ∀ (m : (ℓ : Loc Cert.Cattn.nD Cert.Cattn.τ Cert.Cattn.sig) → Buf (Elt Bits) ℓ) (g : Dev Cert.Cattn.nD → PrngReg), Pre_Cattn m →
    θ_run (Cert.Cattn.defs (F := Bits)) (onTc (τ := Cert.Cattn.τ) (Cert.Cattn.main (F := Bits))) ⟨m, fun _ => 0, g⟩ (fun r => (∀ c : Dev Cert.Cattn.nD,
      r.2.mem ((c.tc : Thread Cert.Cattn.nD Cert.Cattn.τ).loc Cert.Cattn.main_arg0) = m ((c.tc : Thread Cert.Cattn.nD Cert.Cattn.τ).loc Cert.Cattn.main_arg0)
      ∧ r.2.mem ((c.tc : Thread Cert.Cattn.nD Cert.Cattn.τ).loc Cert.Cattn.main_arg1) = m ((c.tc : Thread Cert.Cattn.nD Cert.Cattn.τ).loc Cert.Cattn.main_arg1))
      ∧ r.2.sem = fun _ => 0)

def quiescent_CattnIdeal [hCattnIdeal : Cert.CattnIdeal.Facts] : Prop :=
  ∀ (m : (ℓ : Loc Cert.CattnIdeal.nD Cert.CattnIdeal.τ Cert.CattnIdeal.sig) → Buf (Elt Ideal) ℓ) (g : Dev Cert.CattnIdeal.nD → PrngReg), Pre_CattnIdeal m →
    θ_run (Cert.CattnIdeal.defs (F := Ideal)) (onTc (τ := Cert.CattnIdeal.τ) (Cert.CattnIdeal.main (F := Ideal))) ⟨m, fun _ => 0, g⟩ (fun r => (∀ c : Dev Cert.CattnIdeal.nD,
      r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
      ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1))
      ∧ r.2.sem = fun _ => 0)

def quiescent_CattnIdeal_pre_finite_context [hCattnIdeal : Cert.CattnIdeal.Facts] [hPre_finite_context : Cert.Pre_finite_context.Facts] : Prop :=
  ∀ (m : (ℓ : Loc Cert.CattnIdeal.nD Cert.CattnIdeal.τ Cert.CattnIdeal.sig) → Buf (Elt Ideal) ℓ) (g : Dev Cert.CattnIdeal.nD → PrngReg), Pre_CattnIdeal_finite_context m →
    θ_run (Cert.CattnIdeal.defs (F := Ideal)) (onTc (τ := Cert.CattnIdeal.τ) (Cert.CattnIdeal.main (F := Ideal))) ⟨m, fun _ => 0, g⟩ (fun r => (∀ c : Dev Cert.CattnIdeal.nD,
      r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
      ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1))
      ∧ r.2.sem = fun _ => 0)

def quiescent_CattnRefIdeal [hCattnRefIdeal : Cert.CattnRefIdeal.Facts] : Prop :=
  ∀ (m : (ℓ : Loc Cert.CattnRefIdeal.nD Cert.CattnRefIdeal.τ Cert.CattnRefIdeal.sig) → Buf (Elt Ideal) ℓ) (g : Dev Cert.CattnRefIdeal.nD → PrngReg), Pre_CattnRefIdeal m →
    θ_run (Cert.CattnRefIdeal.defs (F := Ideal)) (onTc (τ := Cert.CattnRefIdeal.τ) (Cert.CattnRefIdeal.main (F := Ideal))) ⟨m, fun _ => 0, g⟩ (fun r => (∀ c : Dev Cert.CattnRefIdeal.nD,
      r.2.mem ((c.tc : Thread Cert.CattnRefIdeal.nD Cert.CattnRefIdeal.τ).loc Cert.CattnRefIdeal.main_arg0) = m ((c.tc : Thread Cert.CattnRefIdeal.nD Cert.CattnRefIdeal.τ).loc Cert.CattnRefIdeal.main_arg0)
      ∧ r.2.mem ((c.tc : Thread Cert.CattnRefIdeal.nD Cert.CattnRefIdeal.τ).loc Cert.CattnRefIdeal.main_arg1) = m ((c.tc : Thread Cert.CattnRefIdeal.nD Cert.CattnRefIdeal.τ).loc Cert.CattnRefIdeal.main_arg1))
      ∧ r.2.sem = fun _ => 0)

def quiescent_CattnRefIdeal_pre_finite_context [hCattnRefIdeal : Cert.CattnRefIdeal.Facts] [hPre_finite_context : Cert.Pre_finite_context.Facts] : Prop :=
  ∀ (m : (ℓ : Loc Cert.CattnRefIdeal.nD Cert.CattnRefIdeal.τ Cert.CattnRefIdeal.sig) → Buf (Elt Ideal) ℓ) (g : Dev Cert.CattnRefIdeal.nD → PrngReg), Pre_CattnRefIdeal_finite_context m →
    θ_run (Cert.CattnRefIdeal.defs (F := Ideal)) (onTc (τ := Cert.CattnRefIdeal.τ) (Cert.CattnRefIdeal.main (F := Ideal))) ⟨m, fun _ => 0, g⟩ (fun r => (∀ c : Dev Cert.CattnRefIdeal.nD,
      r.2.mem ((c.tc : Thread Cert.CattnRefIdeal.nD Cert.CattnRefIdeal.τ).loc Cert.CattnRefIdeal.main_arg0) = m ((c.tc : Thread Cert.CattnRefIdeal.nD Cert.CattnRefIdeal.τ).loc Cert.CattnRefIdeal.main_arg0)
      ∧ r.2.mem ((c.tc : Thread Cert.CattnRefIdeal.nD Cert.CattnRefIdeal.τ).loc Cert.CattnRefIdeal.main_arg1) = m ((c.tc : Thread Cert.CattnRefIdeal.nD Cert.CattnRefIdeal.τ).loc Cert.CattnRefIdeal.main_arg1))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v28) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v2)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v2) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v1) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v2)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v2) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v1) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_LoraDown_LoraDownIdeal : Prop :=
  True

def algebraic_LoraDownIdeal_LoraDownRefIdeal [hLoraDownIdeal : Cert.LoraDownIdeal.Facts] [hLoraDownRefIdeal : Cert.LoraDownRefIdeal.Facts] : Prop :=
  ∀ (m : (ℓ : Loc Cert.LoraDownIdeal.nD Cert.LoraDownIdeal.τ Cert.LoraDownIdeal.sig) → Buf (Elt Ideal) ℓ) (g : Dev Cert.LoraDownIdeal.nD → PrngReg)
    (m' : (ℓ : Loc Cert.LoraDownRefIdeal.nD Cert.LoraDownRefIdeal.τ Cert.LoraDownRefIdeal.sig) → Buf (Elt Ideal) ℓ) (g' : Dev Cert.LoraDownRefIdeal.nD → PrngReg), Pre_LoraDownIdeal m →
    (∀ c : Dev Cert.LoraDownIdeal.nD,
      m' ((c.tc : Thread Cert.LoraDownRefIdeal.nD Cert.LoraDownRefIdeal.τ).loc Cert.LoraDownRefIdeal.main_arg0) = m ((c.tc : Thread Cert.LoraDownIdeal.nD Cert.LoraDownIdeal.τ).loc Cert.LoraDownIdeal.main_arg0)
      ∧ m' ((c.tc : Thread Cert.LoraDownRefIdeal.nD Cert.LoraDownRefIdeal.τ).loc Cert.LoraDownRefIdeal.main_arg1) = m ((c.tc : Thread Cert.LoraDownIdeal.nD Cert.LoraDownIdeal.τ).loc Cert.LoraDownIdeal.main_arg1)) →
    ∃ (v0 : (c : Dev Cert.LoraDownIdeal.nD) → Buf (Elt Ideal) ((c.tc : Thread Cert.LoraDownIdeal.nD Cert.LoraDownIdeal.τ).loc Cert.LoraDownIdeal.main_v7)),
      θ_run (Cert.LoraDownIdeal.defs (F := Ideal)) (onTc (τ := Cert.LoraDownIdeal.τ) (Cert.LoraDownIdeal.main (F := Ideal))) ⟨m, fun _ => 0, g⟩ (fun r => ∀ c : Dev Cert.LoraDownIdeal.nD,
          r.2.mem ((c.tc : Thread Cert.LoraDownIdeal.nD Cert.LoraDownIdeal.τ).loc Cert.LoraDownIdeal.main_v7) = v0 c
          ∧ r.2.mem ((c.tc : Thread Cert.LoraDownIdeal.nD Cert.LoraDownIdeal.τ).loc Cert.LoraDownIdeal.main_arg0) = m ((c.tc : Thread Cert.LoraDownIdeal.nD Cert.LoraDownIdeal.τ).loc Cert.LoraDownIdeal.main_arg0)
          ∧ r.2.mem ((c.tc : Thread Cert.LoraDownIdeal.nD Cert.LoraDownIdeal.τ).loc Cert.LoraDownIdeal.main_arg1) = m ((c.tc : Thread Cert.LoraDownIdeal.nD Cert.LoraDownIdeal.τ).loc Cert.LoraDownIdeal.main_arg1))
      ∧ θ_run (Cert.LoraDownRefIdeal.defs (F := Ideal)) (onTc (τ := Cert.LoraDownRefIdeal.τ) (Cert.LoraDownRefIdeal.main (F := Ideal))) ⟨m', fun _ => 0, g'⟩ (fun r => ∀ c : Dev Cert.LoraDownRefIdeal.nD,
          r.2.mem ((c.tc : Thread Cert.LoraDownRefIdeal.nD Cert.LoraDownRefIdeal.τ).loc Cert.LoraDownRefIdeal.main_v7) = v0 c
          ∧ r.2.mem ((c.tc : Thread Cert.LoraDownRefIdeal.nD Cert.LoraDownRefIdeal.τ).loc Cert.LoraDownRefIdeal.main_arg0) = m' ((c.tc : Thread Cert.LoraDownRefIdeal.nD Cert.LoraDownRefIdeal.τ).loc Cert.LoraDownRefIdeal.main_arg0)
          ∧ r.2.mem ((c.tc : Thread Cert.LoraDownRefIdeal.nD Cert.LoraDownRefIdeal.τ).loc Cert.LoraDownRefIdeal.main_arg1) = m' ((c.tc : Thread Cert.LoraDownRefIdeal.nD Cert.LoraDownRefIdeal.τ).loc Cert.LoraDownRefIdeal.main_arg1))

def preserves_LoraUp_LoraUpIdeal : Prop :=
  True

def algebraic_LoraUpIdeal_LoraUpRefIdeal [hLoraUpIdeal : Cert.LoraUpIdeal.Facts] [hLoraUpRefIdeal : Cert.LoraUpRefIdeal.Facts] : Prop :=
  ∀ (m : (ℓ : Loc Cert.LoraUpIdeal.nD Cert.LoraUpIdeal.τ Cert.LoraUpIdeal.sig) → Buf (Elt Ideal) ℓ) (g : Dev Cert.LoraUpIdeal.nD → PrngReg)
    (m' : (ℓ : Loc Cert.LoraUpRefIdeal.nD Cert.LoraUpRefIdeal.τ Cert.LoraUpRefIdeal.sig) → Buf (Elt Ideal) ℓ) (g' : Dev Cert.LoraUpRefIdeal.nD → PrngReg), Pre_LoraUpIdeal m →
    (∀ c : Dev Cert.LoraUpIdeal.nD,
      m' ((c.tc : Thread Cert.LoraUpRefIdeal.nD Cert.LoraUpRefIdeal.τ).loc Cert.LoraUpRefIdeal.main_arg0) = m ((c.tc : Thread Cert.LoraUpIdeal.nD Cert.LoraUpIdeal.τ).loc Cert.LoraUpIdeal.main_arg0)
      ∧ m' ((c.tc : Thread Cert.LoraUpRefIdeal.nD Cert.LoraUpRefIdeal.τ).loc Cert.LoraUpRefIdeal.main_arg1) = m ((c.tc : Thread Cert.LoraUpIdeal.nD Cert.LoraUpIdeal.τ).loc Cert.LoraUpIdeal.main_arg1)) →
    ∃ (v0 : (c : Dev Cert.LoraUpIdeal.nD) → Buf (Elt Ideal) ((c.tc : Thread Cert.LoraUpIdeal.nD Cert.LoraUpIdeal.τ).loc Cert.LoraUpIdeal.main_v11)),
      θ_run (Cert.LoraUpIdeal.defs (F := Ideal)) (onTc (τ := Cert.LoraUpIdeal.τ) (Cert.LoraUpIdeal.main (F := Ideal))) ⟨m, fun _ => 0, g⟩ (fun r => ∀ c : Dev Cert.LoraUpIdeal.nD,
          r.2.mem ((c.tc : Thread Cert.LoraUpIdeal.nD Cert.LoraUpIdeal.τ).loc Cert.LoraUpIdeal.main_v11) = v0 c
          ∧ r.2.mem ((c.tc : Thread Cert.LoraUpIdeal.nD Cert.LoraUpIdeal.τ).loc Cert.LoraUpIdeal.main_arg0) = m ((c.tc : Thread Cert.LoraUpIdeal.nD Cert.LoraUpIdeal.τ).loc Cert.LoraUpIdeal.main_arg0)
          ∧ r.2.mem ((c.tc : Thread Cert.LoraUpIdeal.nD Cert.LoraUpIdeal.τ).loc Cert.LoraUpIdeal.main_arg1) = m ((c.tc : Thread Cert.LoraUpIdeal.nD Cert.LoraUpIdeal.τ).loc Cert.LoraUpIdeal.main_arg1))
      ∧ θ_run (Cert.LoraUpRefIdeal.defs (F := Ideal)) (onTc (τ := Cert.LoraUpRefIdeal.τ) (Cert.LoraUpRefIdeal.main (F := Ideal))) ⟨m', fun _ => 0, g'⟩ (fun r => ∀ c : Dev Cert.LoraUpRefIdeal.nD,
          r.2.mem ((c.tc : Thread Cert.LoraUpRefIdeal.nD Cert.LoraUpRefIdeal.τ).loc Cert.LoraUpRefIdeal.main_v8) = v0 c
          ∧ r.2.mem ((c.tc : Thread Cert.LoraUpRefIdeal.nD Cert.LoraUpRefIdeal.τ).loc Cert.LoraUpRefIdeal.main_arg0) = m' ((c.tc : Thread Cert.LoraUpRefIdeal.nD Cert.LoraUpRefIdeal.τ).loc Cert.LoraUpRefIdeal.main_arg0)
          ∧ r.2.mem ((c.tc : Thread Cert.LoraUpRefIdeal.nD Cert.LoraUpRefIdeal.τ).loc Cert.LoraUpRefIdeal.main_arg1) = m' ((c.tc : Thread Cert.LoraUpRefIdeal.nD Cert.LoraUpRefIdeal.τ).loc Cert.LoraUpRefIdeal.main_arg1))

def preserves_GateDown_GateDownIdeal : Prop :=
  True

def algebraic_GateDownIdeal_GateDownRefIdeal [hGateDownIdeal : Cert.GateDownIdeal.Facts] [hGateDownRefIdeal : Cert.GateDownRefIdeal.Facts] : Prop :=
  ∀ (m : (ℓ : Loc Cert.GateDownIdeal.nD Cert.GateDownIdeal.τ Cert.GateDownIdeal.sig) → Buf (Elt Ideal) ℓ) (g : Dev Cert.GateDownIdeal.nD → PrngReg)
    (m' : (ℓ : Loc Cert.GateDownRefIdeal.nD Cert.GateDownRefIdeal.τ Cert.GateDownRefIdeal.sig) → Buf (Elt Ideal) ℓ) (g' : Dev Cert.GateDownRefIdeal.nD → PrngReg), Pre_GateDownIdeal m →
    (∀ c : Dev Cert.GateDownIdeal.nD,
      m' ((c.tc : Thread Cert.GateDownRefIdeal.nD Cert.GateDownRefIdeal.τ).loc Cert.GateDownRefIdeal.main_arg0) = m ((c.tc : Thread Cert.GateDownIdeal.nD Cert.GateDownIdeal.τ).loc Cert.GateDownIdeal.main_arg0)
      ∧ m' ((c.tc : Thread Cert.GateDownRefIdeal.nD Cert.GateDownRefIdeal.τ).loc Cert.GateDownRefIdeal.main_arg1) = m ((c.tc : Thread Cert.GateDownIdeal.nD Cert.GateDownIdeal.τ).loc Cert.GateDownIdeal.main_arg1)) →
    ∃ (v0 : (c : Dev Cert.GateDownIdeal.nD) → Buf (Elt Ideal) ((c.tc : Thread Cert.GateDownIdeal.nD Cert.GateDownIdeal.τ).loc Cert.GateDownIdeal.main_v2)),
      θ_run (Cert.GateDownIdeal.defs (F := Ideal)) (onTc (τ := Cert.GateDownIdeal.τ) (Cert.GateDownIdeal.main (F := Ideal))) ⟨m, fun _ => 0, g⟩ (fun r => ∀ c : Dev Cert.GateDownIdeal.nD,
          r.2.mem ((c.tc : Thread Cert.GateDownIdeal.nD Cert.GateDownIdeal.τ).loc Cert.GateDownIdeal.main_v2) = v0 c
          ∧ r.2.mem ((c.tc : Thread Cert.GateDownIdeal.nD Cert.GateDownIdeal.τ).loc Cert.GateDownIdeal.main_arg0) = m ((c.tc : Thread Cert.GateDownIdeal.nD Cert.GateDownIdeal.τ).loc Cert.GateDownIdeal.main_arg0)
          ∧ r.2.mem ((c.tc : Thread Cert.GateDownIdeal.nD Cert.GateDownIdeal.τ).loc Cert.GateDownIdeal.main_arg1) = m ((c.tc : Thread Cert.GateDownIdeal.nD Cert.GateDownIdeal.τ).loc Cert.GateDownIdeal.main_arg1))
      ∧ θ_run (Cert.GateDownRefIdeal.defs (F := Ideal)) (onTc (τ := Cert.GateDownRefIdeal.τ) (Cert.GateDownRefIdeal.main (F := Ideal))) ⟨m', fun _ => 0, g'⟩ (fun r => ∀ c : Dev Cert.GateDownRefIdeal.nD,
          r.2.mem ((c.tc : Thread Cert.GateDownRefIdeal.nD Cert.GateDownRefIdeal.τ).loc Cert.GateDownRefIdeal.main_v1) = v0 c
          ∧ r.2.mem ((c.tc : Thread Cert.GateDownRefIdeal.nD Cert.GateDownRefIdeal.τ).loc Cert.GateDownRefIdeal.main_arg0) = m' ((c.tc : Thread Cert.GateDownRefIdeal.nD Cert.GateDownRefIdeal.τ).loc Cert.GateDownRefIdeal.main_arg0)
          ∧ r.2.mem ((c.tc : Thread Cert.GateDownRefIdeal.nD Cert.GateDownRefIdeal.τ).loc Cert.GateDownRefIdeal.main_arg1) = m' ((c.tc : Thread Cert.GateDownRefIdeal.nD Cert.GateDownRefIdeal.τ).loc Cert.GateDownRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_LruGates_LruGatesIdeal : Prop :=
  True

def algebraic_LruGatesIdeal_LruGatesRefIdeal [hLruGatesIdeal : Cert.LruGatesIdeal.Facts] [hLruGatesRefIdeal : Cert.LruGatesRefIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg)
    (m' : (ℓ : Loc Cert.LruGatesRefIdeal.nD Cert.LruGatesRefIdeal.τ Cert.LruGatesRefIdeal.sig) → Buf (Elt Ideal) ℓ) (g' : Dev Cert.LruGatesRefIdeal.nD → PrngReg), Pre_LruGatesIdeal m →
    (∀ c : Dev Cert.LruGatesIdeal.nD,
      m' ((c.tc : Thread Cert.LruGatesRefIdeal.nD Cert.LruGatesRefIdeal.τ).loc Cert.LruGatesRefIdeal.main_arg0) = m ((c.tc : Thread Cert.LruGatesIdeal.nD Cert.LruGatesIdeal.τ).loc Cert.LruGatesIdeal.main_arg0)
      ∧ m' ((c.tc : Thread Cert.LruGatesRefIdeal.nD Cert.LruGatesRefIdeal.τ).loc Cert.LruGatesRefIdeal.main_arg1) = m ((c.tc : Thread Cert.LruGatesIdeal.nD Cert.LruGatesIdeal.τ).loc Cert.LruGatesIdeal.main_arg1)
      ∧ m' ((c.tc : Thread Cert.LruGatesRefIdeal.nD Cert.LruGatesRefIdeal.τ).loc Cert.LruGatesRefIdeal.main_arg2) = m ((c.tc : Thread Cert.LruGatesIdeal.nD Cert.LruGatesIdeal.τ).loc Cert.LruGatesIdeal.main_arg2)) →
    ∃ (v0 : (c : Dev Cert.LruGatesIdeal.nD) → Buf (Elt Ideal) ((c.tc : Thread Cert.LruGatesIdeal.nD Cert.LruGatesIdeal.τ).loc Cert.LruGatesIdeal.main_v59)),
      θ_run (Cert.LruGatesIdeal.defs (F := Ideal)) (onTc (τ := Cert.LruGatesIdeal.τ) (Cert.LruGatesIdeal.main (F := Ideal))) ⟨m, fun _ => 0, g⟩ (fun r => ∀ c : Dev Cert.LruGatesIdeal.nD,
          r.2.mem ((c.tc : Thread Cert.LruGatesIdeal.nD Cert.LruGatesIdeal.τ).loc Cert.LruGatesIdeal.main_v59) = v0 c
          ∧ r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
          ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1)
          ∧ r.2.mem ((c.tc : Thread Cert.LruGatesIdeal.nD Cert.LruGatesIdeal.τ).loc Cert.LruGatesIdeal.main_arg2) = m ((c.tc : Thread Cert.LruGatesIdeal.nD Cert.LruGatesIdeal.τ).loc Cert.LruGatesIdeal.main_arg2))
      ∧ θ_run (Cert.LruGatesRefIdeal.defs (F := Ideal)) (onTc (τ := Cert.LruGatesRefIdeal.τ) (Cert.LruGatesRefIdeal.main (F := Ideal))) ⟨m', fun _ => 0, g'⟩ (fun r => ∀ c : Dev Cert.LruGatesRefIdeal.nD,
          r.2.mem ((c.tc : Thread Cert.LruGatesRefIdeal.nD Cert.LruGatesRefIdeal.τ).loc Cert.LruGatesRefIdeal.main_v25) = v0 c
          ∧ r.2.mem ((c.tc : Thread Cert.LruGatesRefIdeal.nD Cert.LruGatesRefIdeal.τ).loc Cert.LruGatesRefIdeal.main_arg0) = m' ((c.tc : Thread Cert.LruGatesRefIdeal.nD Cert.LruGatesRefIdeal.τ).loc Cert.LruGatesRefIdeal.main_arg0)
          ∧ r.2.mem ((c.tc : Thread Cert.LruGatesRefIdeal.nD Cert.LruGatesRefIdeal.τ).loc Cert.LruGatesRefIdeal.main_arg1) = m' ((c.tc : Thread Cert.LruGatesRefIdeal.nD Cert.LruGatesRefIdeal.τ).loc Cert.LruGatesRefIdeal.main_arg1)
          ∧ r.2.mem ((c.tc : Thread Cert.LruGatesRefIdeal.nD Cert.LruGatesRefIdeal.τ).loc Cert.LruGatesRefIdeal.main_arg2) = m' ((c.tc : Thread Cert.LruGatesRefIdeal.nD Cert.LruGatesRefIdeal.τ).loc Cert.LruGatesRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v59)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v59) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v127) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v12) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v1)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v18) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v46) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Cattn_CattnIdeal : Prop :=
  True

def algebraic_CattnIdeal_CattnRefIdeal_pre_finite_context [hCattnIdeal : Cert.CattnIdeal.Facts] [hCattnRefIdeal : Cert.CattnRefIdeal.Facts] [hPre_finite_context : Cert.Pre_finite_context.Facts] : Prop :=
  ∀ (m : (ℓ : Loc Cert.CattnIdeal.nD Cert.CattnIdeal.τ Cert.CattnIdeal.sig) → Buf (Elt Ideal) ℓ) (g : Dev Cert.CattnIdeal.nD → PrngReg)
    (m' : (ℓ : Loc Cert.CattnRefIdeal.nD Cert.CattnRefIdeal.τ Cert.CattnRefIdeal.sig) → Buf (Elt Ideal) ℓ) (g' : Dev Cert.CattnRefIdeal.nD → PrngReg), Pre_CattnIdeal_finite_context m →
    (∀ c : Dev Cert.CattnIdeal.nD,
      m' ((c.tc : Thread Cert.CattnRefIdeal.nD Cert.CattnRefIdeal.τ).loc Cert.CattnRefIdeal.main_arg0) = m ((c.tc : Thread Cert.CattnIdeal.nD Cert.CattnIdeal.τ).loc Cert.CattnIdeal.main_arg0)
      ∧ m' ((c.tc : Thread Cert.CattnRefIdeal.nD Cert.CattnRefIdeal.τ).loc Cert.CattnRefIdeal.main_arg1) = m ((c.tc : Thread Cert.CattnIdeal.nD Cert.CattnIdeal.τ).loc Cert.CattnIdeal.main_arg1)) →
    ∃ (v0 : (c : Dev Cert.CattnIdeal.nD) → Buf (Elt Ideal) ((c.tc : Thread Cert.CattnIdeal.nD Cert.CattnIdeal.τ).loc Cert.CattnIdeal.main_v0)),
      θ_run (Cert.CattnIdeal.defs (F := Ideal)) (onTc (τ := Cert.CattnIdeal.τ) (Cert.CattnIdeal.main (F := Ideal))) ⟨m, fun _ => 0, g⟩ (fun r => ∀ c : Dev Cert.CattnIdeal.nD,
          r.2.mem ((c.tc : Thread Cert.CattnIdeal.nD Cert.CattnIdeal.τ).loc Cert.CattnIdeal.main_v0) = v0 c
          ∧ r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
          ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1))
      ∧ θ_run (Cert.CattnRefIdeal.defs (F := Ideal)) (onTc (τ := Cert.CattnRefIdeal.τ) (Cert.CattnRefIdeal.main (F := Ideal))) ⟨m', fun _ => 0, g'⟩ (fun r => ∀ c : Dev Cert.CattnRefIdeal.nD,
          r.2.mem ((c.tc : Thread Cert.CattnRefIdeal.nD Cert.CattnRefIdeal.τ).loc Cert.CattnRefIdeal.main_v28) = v0 c
          ∧ r.2.mem ((c.tc : Thread Cert.CattnRefIdeal.nD Cert.CattnRefIdeal.τ).loc Cert.CattnRefIdeal.main_arg0) = m' ((c.tc : Thread Cert.CattnRefIdeal.nD Cert.CattnRefIdeal.τ).loc Cert.CattnRefIdeal.main_arg0)
          ∧ r.2.mem ((c.tc : Thread Cert.CattnRefIdeal.nD Cert.CattnRefIdeal.τ).loc Cert.CattnRefIdeal.main_arg1) = m' ((c.tc : Thread Cert.CattnRefIdeal.nD Cert.CattnRefIdeal.τ).loc Cert.CattnRefIdeal.main_arg1))

def Claim : Prop :=
  ∃ (hMoe : Cert.Moe.Facts) (hMoeIdeal : Cert.MoeIdeal.Facts) (hMoeRefIdeal : Cert.MoeRefIdeal.Facts) (hMm : Cert.Mm.Facts) (hMmIdeal : Cert.MmIdeal.Facts) (hMmRefIdeal : Cert.MmRefIdeal.Facts) (hMmIn : Cert.MmIn.Facts) (hMmInIdeal : Cert.MmInIdeal.Facts) (hMmInRefIdeal : Cert.MmInRefIdeal.Facts) (hLoraDown : Cert.LoraDown.Facts) (hLoraDownIdeal : Cert.LoraDownIdeal.Facts) (hLoraDownRefIdeal : Cert.LoraDownRefIdeal.Facts) (hLoraUp : Cert.LoraUp.Facts) (hLoraUpIdeal : Cert.LoraUpIdeal.Facts) (hLoraUpRefIdeal : Cert.LoraUpRefIdeal.Facts) (hGateDown : Cert.GateDown.Facts) (hGateDownIdeal : Cert.GateDownIdeal.Facts) (hGateDownRefIdeal : Cert.GateDownRefIdeal.Facts) (hGateUp : Cert.GateUp.Facts) (hGateUpIdeal : Cert.GateUpIdeal.Facts) (hGateUpRefIdeal : Cert.GateUpRefIdeal.Facts) (hLruGates : Cert.LruGates.Facts) (hLruGatesIdeal : Cert.LruGatesIdeal.Facts) (hLruGatesRefIdeal : Cert.LruGatesRefIdeal.Facts) (hNorm : Cert.Norm.Facts) (hNormIdeal : Cert.NormIdeal.Facts) (hNormRefIdeal : Cert.NormRefIdeal.Facts) (hFinal : Cert.Final.Facts) (hFinalIdeal : Cert.FinalIdeal.Facts) (hFinalRefIdeal : Cert.FinalRefIdeal.Facts) (hRope : Cert.Rope.Facts) (hRopeIdeal : Cert.RopeIdeal.Facts) (hRopeRefIdeal : Cert.RopeRefIdeal.Facts) (hRouter : Cert.Router.Facts) (hRouterIdeal : Cert.RouterIdeal.Facts) (hRouterRefIdeal : Cert.RouterRefIdeal.Facts) (hScatter : Cert.Scatter.Facts) (hScatterIdeal : Cert.ScatterIdeal.Facts) (hScatterRefIdeal : Cert.ScatterRefIdeal.Facts) (hAttn : Cert.Attn.Facts) (hAttnIdeal : Cert.AttnIdeal.Facts) (hAttnRefIdeal : Cert.AttnRefIdeal.Facts) (hCattn : Cert.Cattn.Facts) (hCattnIdeal : Cert.CattnIdeal.Facts) (hCattnRefIdeal : Cert.CattnRefIdeal.Facts) (hPre_finite : Cert.Pre_finite.Facts) (hPre_finite_context : Cert.Pre_finite_context.Facts),
    quiescent_Moe (hMoe := hMoe)
    ∧ quiescent_MoeIdeal (hMoeIdeal := hMoeIdeal)
    ∧ quiescent_MoeRefIdeal (hMoeRefIdeal := hMoeRefIdeal)
    ∧ quiescent_Mm (hMm := hMm)
    ∧ quiescent_MmIdeal (hMmIdeal := hMmIdeal)
    ∧ quiescent_MmRefIdeal (hMmRefIdeal := hMmRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_LoraDown (hLoraDown := hLoraDown)
    ∧ quiescent_LoraDownIdeal (hLoraDownIdeal := hLoraDownIdeal)
    ∧ quiescent_LoraDownRefIdeal (hLoraDownRefIdeal := hLoraDownRefIdeal)
    ∧ quiescent_LoraUp (hLoraUp := hLoraUp)
    ∧ quiescent_LoraUpIdeal (hLoraUpIdeal := hLoraUpIdeal)
    ∧ quiescent_LoraUpRefIdeal (hLoraUpRefIdeal := hLoraUpRefIdeal)
    ∧ quiescent_GateDown (hGateDown := hGateDown)
    ∧ quiescent_GateDownIdeal (hGateDownIdeal := hGateDownIdeal)
    ∧ quiescent_GateDownRefIdeal (hGateDownRefIdeal := hGateDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_LruGates (hLruGates := hLruGates)
    ∧ quiescent_LruGatesIdeal (hLruGatesIdeal := hLruGatesIdeal)
    ∧ quiescent_LruGatesRefIdeal (hLruGatesRefIdeal := hLruGatesRefIdeal)
    ∧ quiescent_Norm (hNorm := hNorm)
    ∧ quiescent_NormIdeal (hNormIdeal := hNormIdeal)
    ∧ quiescent_NormRefIdeal (hNormRefIdeal := hNormRefIdeal)
    ∧ quiescent_Final (hFinal := hFinal)
    ∧ quiescent_FinalIdeal (hFinalIdeal := hFinalIdeal)
    ∧ quiescent_FinalRefIdeal (hFinalRefIdeal := hFinalRefIdeal)
    ∧ quiescent_Rope (hRope := hRope)
    ∧ quiescent_RopeIdeal (hRopeIdeal := hRopeIdeal)
    ∧ quiescent_RopeRefIdeal (hRopeRefIdeal := hRopeRefIdeal)
    ∧ quiescent_Router (hRouter := hRouter)
    ∧ quiescent_RouterIdeal (hRouterIdeal := hRouterIdeal)
    ∧ quiescent_RouterRefIdeal (hRouterRefIdeal := hRouterRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Cattn (hCattn := hCattn)
    ∧ quiescent_CattnIdeal (hCattnIdeal := hCattnIdeal)
    ∧ quiescent_CattnIdeal_pre_finite_context (hCattnIdeal := hCattnIdeal) (hPre_finite_context := hPre_finite_context)
    ∧ quiescent_CattnRefIdeal (hCattnRefIdeal := hCattnRefIdeal)
    ∧ quiescent_CattnRefIdeal_pre_finite_context (hCattnRefIdeal := hCattnRefIdeal) (hPre_finite_context := hPre_finite_context)
    ∧ preserves_Moe_MoeIdeal
    ∧ algebraic_MoeIdeal_MoeRefIdeal (hMoeIdeal := hMoeIdeal) (hMoeRefIdeal := hMoeRefIdeal)
    ∧ preserves_Mm_MmIdeal
    ∧ algebraic_MmIdeal_MmRefIdeal (hMmIdeal := hMmIdeal) (hMmRefIdeal := hMmRefIdeal)
    ∧ preserves_MmIn_MmInIdeal
    ∧ algebraic_MmInIdeal_MmInRefIdeal (hMmInIdeal := hMmInIdeal) (hMmInRefIdeal := hMmInRefIdeal)
    ∧ preserves_LoraDown_LoraDownIdeal
    ∧ algebraic_LoraDownIdeal_LoraDownRefIdeal (hLoraDownIdeal := hLoraDownIdeal) (hLoraDownRefIdeal := hLoraDownRefIdeal)
    ∧ preserves_LoraUp_LoraUpIdeal
    ∧ algebraic_LoraUpIdeal_LoraUpRefIdeal (hLoraUpIdeal := hLoraUpIdeal) (hLoraUpRefIdeal := hLoraUpRefIdeal)
    ∧ preserves_GateDown_GateDownIdeal
    ∧ algebraic_GateDownIdeal_GateDownRefIdeal (hGateDownIdeal := hGateDownIdeal) (hGateDownRefIdeal := hGateDownRefIdeal)
    ∧ preserves_GateUp_GateUpIdeal
    ∧ algebraic_GateUpIdeal_GateUpRefIdeal (hGateUpIdeal := hGateUpIdeal) (hGateUpRefIdeal := hGateUpRefIdeal)
    ∧ preserves_LruGates_LruGatesIdeal
    ∧ algebraic_LruGatesIdeal_LruGatesRefIdeal (hLruGatesIdeal := hLruGatesIdeal) (hLruGatesRefIdeal := hLruGatesRefIdeal)
    ∧ preserves_Norm_NormIdeal
    ∧ algebraic_NormIdeal_NormRefIdeal (hNormIdeal := hNormIdeal) (hNormRefIdeal := hNormRefIdeal)
    ∧ preserves_Final_FinalIdeal
    ∧ algebraic_FinalIdeal_FinalRefIdeal (hFinalIdeal := hFinalIdeal) (hFinalRefIdeal := hFinalRefIdeal)
    ∧ preserves_Rope_RopeIdeal
    ∧ algebraic_RopeIdeal_RopeRefIdeal (hRopeIdeal := hRopeIdeal) (hRopeRefIdeal := hRopeRefIdeal)
    ∧ preserves_Router_RouterIdeal
    ∧ algebraic_RouterIdeal_RouterRefIdeal (hRouterIdeal := hRouterIdeal) (hRouterRefIdeal := hRouterRefIdeal)
    ∧ preserves_Scatter_ScatterIdeal
    ∧ algebraic_ScatterIdeal_ScatterRefIdeal (hScatterIdeal := hScatterIdeal) (hScatterRefIdeal := hScatterRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Cattn_CattnIdeal
    ∧ algebraic_CattnIdeal_CattnRefIdeal_pre_finite_context (hCattnIdeal := hCattnIdeal) (hCattnRefIdeal := hCattnRefIdeal) (hPre_finite_context := hPre_finite_context)
-- ==== Pre_finite.lean ====
abbrev S8 : Shape := ⟨1, ![8]⟩
abbrev S32x2048x640 : Shape := ⟨3, ![32, 2048, 640]⟩
abbrev S32x2048x1792 : Shape := ⟨3, ![32, 2048, 1792]⟩
abbrev S32x256x1792 : Shape := ⟨3, ![32, 256, 1792]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S32x2048x640 : S_.BroadcastsInDim S32x2048x640 (![] : Fin 0 → Fin S32x2048x640.rank)
  reducesTo_S32x2048x640_S_d0_1_2 : S32x2048x640.ReducesTo [0, 1, 2] S_
  bcast_S_S32x256x1792 : S_.BroadcastsInDim S32x256x1792 (![] : Fin 0 → Fin S32x256x1792.rank)
  reducesTo_S32x256x1792_S_d0_1_2 : S32x256x1792.ReducesTo [0, 1, 2] S_

variable [Facts]

def fn {F : FTy → Type} [FloatOps F] (main_arg0 : FVec F S8 .f32) (main_arg1 : FVec F S32x2048x640 .f32) (main_arg2 : FVec F S32x2048x1792 .f32) (main_arg3 : FVec F S32x256x1792 .f32) : IVec S_ 1 × IVec S_ 1 × IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S32x2048x640 .f32 := Host.absf main_arg1
  let main_cst_0 : FVec F S_ .f32 := constant S_ .f32 0x7F800000#32
  let main_v5 : FVec F S32x2048x640 .f32 := broadcastInDim S32x2048x640 ![] bcast_S_S32x2048x640 main_cst_0
  let main_v6 : IVec S32x2048x640 1 := cmpf .olt main_v4 main_v5
  let main_c_1 : IVec S_ 1 := constantI S_ 1 1#1
  let main_v7 : IVec S_ 1 := (fun x v => Host.reduce IntOp.andi x v reducesTo_S32x2048x640_S_d0_1_2 h_S_) main_v6 main_c_1
  let main_v8 : FVec F S32x256x1792 .f32 := Host.absf main_arg3
  let main_cst_2 : FVec F S_ .f32 := constant S_ .f32 0x7F800000#32
  let main_v9 : FVec F S32x256x1792 .f32 := broadcastInDim S32x256x1792 ![] bcast_S_S32x256x1792 main_cst_2
  let main_v10 : IVec S32x256x1792 1 := cmpf .olt main_v8 main_v9
  let main_c_3 : IVec S_ 1 := constantI S_ 1 1#1
  let main_v11 : IVec S_ 1 := (fun x v => Host.reduce IntOp.andi x v reducesTo_S32x256x1792_S_d0_1_2 h_S_) main_v10 main_c_3
  (main_v3, main_v7, main_v11)
-- ==== Pre_finite_context.lean ====
abbrev S8 : Shape := ⟨1, ![8]⟩
abbrev S32x256x1792 : Shape := ⟨3, ![32, 256, 1792]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S32x256x1792 : S_.BroadcastsInDim S32x256x1792 (![] : Fin 0 → Fin S32x256x1792.rank)
  reducesTo_S32x256x1792_S_d0_1_2 : S32x256x1792.ReducesTo [0, 1, 2] S_

variable [Facts]

def fn {F : FTy → Type} [FloatOps F] (main_arg0 : FVec F S8 .f32) (main_arg1 : FVec F S32x256x1792 .f32) : IVec S_ 1 × IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S32x256x1792 .f32 := Host.absf main_arg1
  let main_cst_0 : FVec F S_ .f32 := constant S_ .f32 0x7F800000#32
  let main_v5 : FVec F S32x256x1792 .f32 := broadcastInDim S32x256x1792 ![] bcast_S_S32x256x1792 main_cst_0
  let main_v6 : IVec S32x256x1792 1 := cmpf .olt main_v4 main_v5
  let main_c_1 : IVec S_ 1 := constantI S_ 1 1#1
  let main_v7 : IVec S_ 1 := (fun x v => Host.reduce IntOp.andi x v reducesTo_S32x256x1792_S_d0_1_2 h_S_) main_v6 main_c_1
  (main_v3, main_v7)
-- ==== Moe.lean ====
abbrev S32x16x2048 : Shape := ⟨3, ![32, 16, 2048]⟩
abbrev S32x2048x1024 : Shape := ⟨3, ![32, 2048, 1024]⟩
abbrev S16x1024x1024 : Shape := ⟨3, ![16, 1024, 1024]⟩
abbrev S32x16x256 : Shape := ⟨3, ![32, 16, 256]⟩
abbrev S512x1x256 : Shape := ⟨3, ![512, 1, 256]⟩
abbrev S512x256x1 : Shape := ⟨3, ![512, 256, 1]⟩
abbrev S512x256x1024 : Shape := ⟨3, ![512, 256, 1024]⟩
abbrev S1x1x256 : Shape := ⟨3, ![1, 1, 256]⟩
abbrev S1x256x1 : Shape := ⟨3, ![1, 256, 1]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S1x1x1 : Shape := ⟨3, ![1, 1, 1]⟩
abbrev S1x1x1024 : Shape := ⟨3, ![1, 1, 1024]⟩
abbrev S1x1024 : Shape := ⟨2, ![1, 1024]⟩
abbrev S1024x1024 : Shape := ⟨2, ![1024, 1024]⟩
abbrev S256x1 : Shape := ⟨2, ![256, 1]⟩

abbrev nBuf : Space → Nat
  | .hbm => 13
  | .vmem => 13
  | .smem => 2
  | _ => 0

abbrev bufTy : (tb : Table) → Fin (tcTables nBuf tb) → BufTy
  | .hbm, ⟨0, _⟩ => ⟨S32x16x2048, .f32⟩
  | .hbm, ⟨1, _⟩ => ⟨S32x2048x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S32x16x256, .f32⟩
  | .hbm, ⟨9, _⟩ => ⟨S32x16x256, .i32⟩
  | .hbm, ⟨10, _⟩ => ⟨S512x1x256, .i32⟩
  | .hbm, ⟨11, _⟩ => ⟨S512x256x1, .f32⟩
  | .hbm, ⟨12, _⟩ => ⟨S512x256x1024, .f32⟩
  | .local _ .vmem, ⟨0, _⟩ => ⟨S1x256x1, .f32⟩
  | .local _ .vmem, ⟨1, _⟩ => ⟨S1x256x1, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | .local _ .smem, ⟨0, _⟩ => ⟨S1x1x256, .i32⟩
  | .local _ .smem, ⟨1, _⟩ => ⟨S1x1x256, .i32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 16], ![false, false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_19 : Index := 0#32
  let c0_20 : Index := 0#32
  let c0_i32 : BitVec 32 := 0#32
  let c1_i32 : BitVec 32 := 1#32
  let arg10 : BitVec 32 := Scf.iv c0_i32 c1_i32 k0_t1
  let v23 : Index := Scalar.indexCast arg10
  ![0, 0, v23.toNat]
def k0_off2 (v24 : BitVec 32) : Fin 3 → Nat :=
  let c0_21 : Index := 0#32
  let v25 : Index := Scalar.indexCast v24
  let c0_22 : Index := 0#32
  ![0, v25.toNat, 0]

def k0_chk1 (v24 : BitVec 32) : Prop :=
  (∀ a, (k0_off2 v24) a + S1x1x1024.size a ≤ S1x2048x1024.size a)
theorem k0_off2_inb : ∀ (v24 : BitVec 32) (k0_hw1 : k0_chk1 v24), ∀ a, (k0_off2 v24) a + S1x1x1024.size a ≤ S1x2048x1024.size a := fun v24 k0_hw1 => k0_hw1

def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let v28 : Index := Scalar.indexCast arg10
  let c0_23 : Index := 0#32
  ![v28.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MoeRefIdeal.lean ====
abbrev S32x16x2048 : Shape := ⟨3, ![32, 16, 2048]⟩
abbrev S32x2048x1024 : Shape := ⟨3, ![32, 2048, 1024]⟩
abbrev S16x1024x1024 : Shape := ⟨3, ![16, 1024, 1024]⟩
abbrev S32x16x256 : Shape := ⟨3, ![32, 16, 256]⟩
abbrev S32 : Shape := ⟨1, ![32]⟩
abbrev S32x1x1 : Shape := ⟨3, ![32, 1, 1]⟩
abbrev S_ : Shape := ⟨0, ![]⟩
abbrev S32x16x256x1 : Shape := ⟨4, ![32, 16, 256, 1]⟩
abbrev S32x16x256x2 : Shape := ⟨4, ![32, 16, 256, 2]⟩
abbrev S32x16x256x1024 : Shape := ⟨4, ![32, 16, 256, 1024]⟩
abbrev S16x1024x32x256 : Shape := ⟨4, ![16, 1024, 32, 256]⟩
abbrev S512x256x1024 : Shape := ⟨3, ![512, 256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S32x2048x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S32x16x256, .f32⟩
  | .hbm, ⟨6, _⟩ => ⟨S32x16x256, .i32⟩
  | .hbm, ⟨7, _⟩ => ⟨S32, .i32⟩
  | .hbm, ⟨8, _⟩ => ⟨S32x1x1, .i32⟩
  | .hbm, ⟨9, _⟩ => ⟨S_, .i32⟩
  | .hbm, ⟨10, _⟩ => ⟨S32x1x1, .i32⟩
  | .hbm, ⟨11, _⟩ => ⟨S32x1x1, .i1⟩
  | .hbm, ⟨12, _⟩ => ⟨S_, .i32⟩
  | .hbm, ⟨13, _⟩ => ⟨S32x1x1, .i32⟩
  | .hbm, ⟨14, _⟩ => ⟨S32x1x1, .i32⟩
  | .hbm, ⟨15, _⟩ => ⟨S32x1x1, .i32⟩
  | .hbm, ⟨16, _⟩ => ⟨S_, .i32⟩
  | .hbm, ⟨17, _⟩ => ⟨S32x16x256, .i32⟩
  | .hbm, ⟨18, _⟩ => ⟨S32x16x256, .i1⟩
  | .hbm, ⟨19, _⟩ => ⟨S_, .i32⟩
  | .hbm, ⟨20, _⟩ => ⟨S32x16x256, .i32⟩
  | .hbm, ⟨21, _⟩ => ⟨S32x16x256, .i32⟩
  | .hbm, ⟨22, _⟩ => ⟨S32x16x256, .i32⟩
  | .hbm, ⟨23, _⟩ => ⟨S32x16x256, .i32⟩
  | .hbm, ⟨24, _⟩ => ⟨S32x16x256x1, .i32⟩
  | .hbm, ⟨25, _⟩ => ⟨S32x16x256x1, .i32⟩
  | .hbm, ⟨26, _⟩ => ⟨S32x16x256x2, .i32⟩
  | .hbm, ⟨27, _⟩ => ⟨S32x16x256x1024, .f32⟩
  | .hbm, ⟨28, _⟩ => ⟨S16x1024x32x256, .f32⟩
  | .hbm, ⟨29, _⟩ => ⟨S32x16x256x1024, .f32⟩
  | .hbm, ⟨30, _⟩ => ⟨S32x16x256x1024, .f32⟩
  | .hbm, ⟨31, _⟩ => ⟨S32x16x256x1024, .f32⟩
  | .hbm, ⟨32, _⟩ => ⟨S_, .f32⟩
  | .hbm, ⟨33, _⟩ => ⟨S32x16x256x1024, .f32⟩
  | .hbm, ⟨34, _⟩ => ⟨S32x16x256x1024, .f32⟩
  | .hbm, ⟨35, _⟩ => ⟨S_, .f32⟩
  | .hbm, ⟨36, _⟩ => ⟨S32x16x256x1024, .f32⟩
  | .hbm, ⟨37, _⟩ => ⟨S32x16x256x1024, .f32⟩
  | .hbm, ⟨38, _⟩ => ⟨S32x16x256x1024, .f32⟩
  | .hbm, ⟨39, _⟩ => ⟨S16x1024x32x256, .f32⟩
  | .hbm, ⟨40, _⟩ => ⟨S32x16x256x1024, .f32⟩
  | .hbm, ⟨41, _⟩ => ⟨S32x16x256x1024, .f32⟩
  | .hbm, ⟨42, _⟩ => ⟨S16x1024x32x256, .f32⟩
  | .hbm, ⟨43, _⟩ => ⟨S32x16x256x1024, .f32⟩
  | .hbm, ⟨44, _⟩ => ⟨S32x16x256x1, .f32⟩
  | .hbm, ⟨45, _⟩ => ⟨S32x16x256x1024, .f32⟩
  | .hbm, ⟨46, _⟩ => ⟨S32x16x256x1024, .f32⟩
  | .hbm, ⟨47, _⟩ => ⟨S512x256x1024, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_values : Ref sig .tc := ⟨.hbm, 5, rfl⟩
abbrev main_indices : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Mm.lean ====
abbrev S32x2048x1024 : Shape := ⟨3, ![32, 2048, 1024]⟩
abbrev S1024x1024 : Shape := ⟨2, ![1024, 1024]⟩
abbrev S65536x1024 : Shape := ⟨2, ![65536, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmIdeal.lean ====
abbrev S32x2048x1024 : Shape := ⟨3, ![32, 2048, 1024]⟩
abbrev S1024x1024 : Shape := ⟨2, ![1024, 1024]⟩
abbrev S65536x1024 : Shape := ⟨2, ![65536, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S32x2048x1024 : Shape := ⟨3, ![32, 2048, 1024]⟩
abbrev S1024x1024 : Shape := ⟨2, ![1024, 1024]⟩
abbrev S65536x1024 : Shape := ⟨2, ![65536, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S32x2048x1024, .f32⟩
  | .hbm, ⟨3, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmIn.lean ====
abbrev S32x2048x1024 : Shape := ⟨3, ![32, 2048, 1024]⟩
abbrev S1024x1792 : Shape := ⟨2, ![1024, 1792]⟩
abbrev S65536x1024 : Shape := ⟨2, ![65536, 1024]⟩
abbrev S65536x1792 : Shape := ⟨2, ![65536, 1792]⟩
abbrev S512x1024 : Shape := ⟨2, ![512, 1024]⟩
abbrev S512x1792 : Shape := ⟨2, ![512, 1792]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1792, .f32⟩
  | .hbm, ⟨2, _⟩ => ⟨S65536x1024, .f32⟩
  | .hbm, ⟨3, _⟩ => ⟨S1024x1792, .bf16⟩
  | .hbm, ⟨4, _⟩ => ⟨S65536x1792, .f32⟩
  | .local _ .vmem, ⟨0, _⟩ => ⟨S512x1024, .f32⟩
  | .local _ .vmem, ⟨1, _⟩ => ⟨S512x1024, .f32⟩
  | .local _ .vmem, ⟨2, _⟩ => ⟨S1024x1792, .bf16⟩
  | .local _ .vmem, ⟨3, _⟩ => ⟨S512x1792, .f32⟩
  | .local _ .vmem, ⟨4, _⟩ => ⟨S512x1792, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInIdeal.lean ====
abbrev S32x2048x1024 : Shape := ⟨3, ![32, 2048, 1024]⟩
abbrev S1024x1792 : Shape := ⟨2, ![1024, 1792]⟩
abbrev S65536x1024 : Shape := ⟨2, ![65536, 1024]⟩
abbrev S65536x1792 : Shape := ⟨2, ![65536, 1792]⟩
abbrev S512x1024 : Shape := ⟨2, ![512, 1024]⟩
abbrev S512x1792 : Shape := ⟨2, ![512, 1792]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1792, .f32⟩
  | .hbm, ⟨2, _⟩ => ⟨S65536x1024, .f32⟩
  | .hbm, ⟨3, _⟩ => ⟨S1024x1792, .bf16⟩
  | .hbm, ⟨4, _⟩ => ⟨S65536x1792, .f32⟩
  | .local _ .vmem, ⟨0, _⟩ => ⟨S512x1024, .f32⟩
  | .local _ .vmem, ⟨1, _⟩ => ⟨S512x1024, .f32⟩
  | .local _ .vmem, ⟨2, _⟩ => ⟨S1024x1792, .bf16⟩
  | .local _ .vmem, ⟨3, _⟩ => ⟨S512x1792, .f32⟩
  | .local _ .vmem, ⟨4, _⟩ => ⟨S512x1792, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInRefIdeal.lean ====
abbrev S32x2048x1024 : Shape := ⟨3, ![32, 2048, 1024]⟩
abbrev S1024x1792 : Shape := ⟨2, ![1024, 1792]⟩
abbrev S32x2048x1792 : Shape := ⟨3, ![32, 2048, 1792]⟩
abbrev S65536x1792 : Shape := ⟨2, ![65536, 1792]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1792, .f32⟩
  | .hbm, ⟨2, _⟩ => ⟨S32x2048x1792, .f32⟩
  | .hbm, ⟨3, _⟩ => ⟨S65536x1792, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LoraDown.lean ====
abbrev S32x2048x1024 : Shape := ⟨3, ![32, 2048, 1024]⟩
abbrev S2x1024x64 : Shape := ⟨3, ![2, 1024, 64]⟩
abbrev S65536x1024 : Shape := ⟨2, ![65536, 1024]⟩
abbrev S1x1024x64 : Shape := ⟨3, ![1, 1024, 64]⟩
abbrev S1024x64 : Shape := ⟨2, ![1024, 64]⟩
abbrev S1024x128 : Shape := ⟨2, ![1024, 128]⟩
abbrev S65536x128 : Shape := ⟨2, ![65536, 128]⟩
abbrev S512x1024 : Shape := ⟨2, ![512, 1024]⟩
abbrev S512x128 : Shape := ⟨2, ![512, 128]⟩

abbrev nBuf : Space → Nat
  | .hbm => 10
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S2x1024x64, .f32⟩
  | .hbm, ⟨2, _⟩ => ⟨S65536x1024, .f32⟩
  | .hbm, ⟨3, _⟩ => ⟨S1x1024x64, .f32⟩
  | .hbm, ⟨4, _⟩ => ⟨S1024x64, .f32⟩
  | .hbm, ⟨5, _⟩ => ⟨S1x1024x64, .f32⟩
  | .hbm, ⟨6, _⟩ => ⟨S1024x64, .f32⟩
  | .hbm, ⟨7, _⟩ => ⟨S1024x128, .f32⟩
  | .hbm, ⟨8, _⟩ => ⟨S1024x128, .bf16⟩
  | .hbm, ⟨9, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraDownRefIdeal.lean ====
abbrev S32x2048x1024 : Shape := ⟨3, ![32, 2048, 1024]⟩
abbrev S2x1024x64 : Shape := ⟨3, ![2, 1024, 64]⟩
abbrev S1x1024x64 : Shape := ⟨3, ![1, 1024, 64]⟩
abbrev S1024x64 : Shape := ⟨2, ![1024, 64]⟩
abbrev S32x2048x64 : Shape := ⟨3, ![32, 2048, 64]⟩
abbrev S32x2048x128 : Shape := ⟨3, ![32, 2048, 128]⟩
abbrev S65536x128 : Shape := ⟨2, ![65536, 128]⟩

abbrev nBuf : Space → Nat
  | .hbm => 10
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S2x1024x64, .f32⟩
  | .hbm, ⟨2, _⟩ => ⟨S1x1024x64, .f32⟩
  | .hbm, ⟨3, _⟩ => ⟨S1024x64, .f32⟩
  | .hbm, ⟨4, _⟩ => ⟨S32x2048x64, .f32⟩
  | .hbm, ⟨5, _⟩ => ⟨S1x1024x64, .f32⟩
  | .hbm, ⟨6, _⟩ => ⟨S1024x64, .f32⟩
  | .hbm, ⟨7, _⟩ => ⟨S32x2048x64, .f32⟩
  | .hbm, ⟨8, _⟩ => ⟨S32x2048x128, .f32⟩
  | .hbm, ⟨9, _⟩ => ⟨S65536x128, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== LoraUp.lean ====
abbrev S65536x128 : Shape := ⟨2, ![65536, 128]⟩
abbrev S2x64x1024 : Shape := ⟨3, ![2, 64, 1024]⟩
abbrev S1x64x1024 : Shape := ⟨3, ![1, 64, 1024]⟩
abbrev S64x1024 : Shape := ⟨2, ![64, 1024]⟩
abbrev S_ : Shape := ⟨0, ![]⟩
abbrev S64x2048 : Shape := ⟨2, ![64, 2048]⟩
abbrev S128x2048 : Shape := ⟨2, ![128, 2048]⟩
abbrev S65536x2048 : Shape := ⟨2, ![65536, 2048]⟩
abbrev S512x128 : Shape := ⟨2, ![512, 128]⟩
abbrev S512x2048 : Shape := ⟨2, ![512, 2048]⟩

abbrev nBuf : Space → Nat
  | .hbm => 15
  | .vmem => 5
  | .smem => 0
  | _ => 0

abbrev bufTy : (tb : Table) → Fin (tcTables nBuf tb) → BufTy
  | .hbm, ⟨0, _⟩ => ⟨S65536x128, .f32⟩
  | .hbm, ⟨1, _⟩ => ⟨S2x64x1024, .f32⟩
  | .hbm, ⟨2, _⟩ => ⟨S1x64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S1x64x1024, .f32⟩
  | .hbm, ⟨7, _⟩ => ⟨S64x1024, .f32⟩
  | .hbm, ⟨8, _⟩ => ⟨S64x2048, .f32⟩
  | .hbm, ⟨9, _⟩ => ⟨S1x64x1024, .f32⟩
  | .hbm, ⟨10, _⟩ => ⟨S64x1024, .f32⟩
  | .hbm, ⟨11, _⟩ => ⟨S64x2048, .f32⟩
  | .hbm, ⟨12, _⟩ => ⟨S128x2048, .f32⟩
  | .hbm, ⟨13, _⟩ => ⟨S128x2048, .bf16⟩
  | .hbm, ⟨14, _⟩ => ⟨S65536x2048, .f32⟩
  | .local _ .vmem, ⟨0, _⟩ => ⟨S512x128, .f32⟩
  | .local _ .vmem, ⟨1, _⟩ => ⟨S512x128, .f32⟩
  | .local _ .vmem, ⟨2, _⟩ => ⟨S128x2048, .bf16⟩
  | .local _ .vmem, ⟨3, _⟩ => ⟨S512x2048, .f32⟩
  | .local _ .vmem, ⟨4, _⟩ => ⟨S512x2048, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraUpRefIdeal.lean ====
abbrev S65536x128 : Shape := ⟨2, ![65536, 128]⟩
abbrev S2x64x1024 : Shape := ⟨3, ![2, 64, 1024]⟩
abbrev S65536x64 : Shape := ⟨2, ![65536, 64]⟩
abbrev S1x64x1024 : Shape := ⟨3, ![1, 64, 1024]⟩
abbrev S64x1024 : Shape := ⟨2, ![64, 1024]⟩
abbrev S65536x1024 : Shape := ⟨2, ![65536, 1024]⟩
abbrev S65536x2048 : Shape := ⟨2, ![65536, 2048]⟩

abbrev nBuf : Space → Nat
  | .hbm => 11
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S2x64x1024, .f32⟩
  | .hbm, ⟨2, _⟩ => ⟨S65536x64, .f32⟩
  | .hbm, ⟨3, _⟩ => ⟨S1x64x1024, .f32⟩
  | .hbm, ⟨4, _⟩ => ⟨S64x1024, .f32⟩
  | .hbm, ⟨5, _⟩ => ⟨S65536x1024, .f32⟩
  | .hbm, ⟨6, _⟩ => ⟨S65536x64, .f32⟩
  | .hbm, ⟨7, _⟩ => ⟨S1x64x1024, .f32⟩
  | .hbm, ⟨8, _⟩ => ⟨S64x1024, .f32⟩
  | .hbm, ⟨9, _⟩ => ⟨S65536x1024, .f32⟩
  | .hbm, ⟨10, _⟩ => ⟨S65536x2048, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== GateDown.lean ====
abbrev S32x2048x1024 : Shape := ⟨3, ![32, 2048, 1024]⟩
abbrev S1024x160 : Shape := ⟨2, ![1024, 160]⟩
abbrev S65536x1024 : Shape := ⟨2, ![65536, 1024]⟩
abbrev S65536x160 : Shape := ⟨2, ![65536, 160]⟩
abbrev S512x1024 : Shape := ⟨2, ![512, 1024]⟩
abbrev S512x160 : Shape := ⟨2, ![512, 160]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x160, .f32⟩
  | .hbm, ⟨2, _⟩ => ⟨S65536x1024, .f32⟩
  | .hbm, ⟨3, _⟩ => ⟨S1024x160, .bf16⟩
  | .hbm, ⟨4, _⟩ => ⟨S65536x160, .f32⟩
  | .local _ .vmem, ⟨0, _⟩ => ⟨S512x1024, .f32⟩
  | .local _ .vmem, ⟨1, _⟩ => ⟨S512x1024, .f32⟩
  | .local _ .vmem, ⟨2, _⟩ => ⟨S1024x160, .bf16⟩
  | .local _ .vmem, ⟨3, _⟩ => ⟨S512x160, .f32⟩
  | .local _ .vmem, ⟨4, _⟩ => ⟨S512x160, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDownRefIdeal.lean ====
abbrev S32x2048x1024 : Shape := ⟨3, ![32, 2048, 1024]⟩
abbrev S1024x160 : Shape := ⟨2, ![1024, 160]⟩
abbrev S32x2048x160 : Shape := ⟨3, ![32, 2048, 160]⟩
abbrev S65536x160 : Shape := ⟨2, ![65536, 160]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x160, .f32⟩
  | .hbm, ⟨2, _⟩ => ⟨S32x2048x160, .f32⟩
  | .hbm, ⟨3, _⟩ => ⟨S65536x160, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateUp.lean ====
abbrev S65536x160 : Shape := ⟨2, ![65536, 160]⟩
abbrev S160x1024 : Shape := ⟨2, ![160, 1024]⟩
abbrev S65536x1024 : Shape := ⟨2, ![65536, 1024]⟩
abbrev S512x160 : Shape := ⟨2, ![512, 160]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S65536x160, .f32⟩
  | .hbm, ⟨1, _⟩ => ⟨S160x1024, .f32⟩
  | .hbm, ⟨2, _⟩ => ⟨S160x1024, .bf16⟩
  | .hbm, ⟨3, _⟩ => ⟨S65536x1024, .f32⟩
  | .local _ .vmem, ⟨0, _⟩ => ⟨S512x160, .f32⟩
  | .local _ .vmem, ⟨1, _⟩ => ⟨S512x160, .f32⟩
  | .local _ .vmem, ⟨2, _⟩ => ⟨S160x1024, .bf16⟩
  | .local _ .vmem, ⟨3, _⟩ => ⟨S512x1024, .f32⟩
  | .local _ .vmem, ⟨4, _⟩ => ⟨S512x1024, .f32⟩
  | _, _ => ⟨S65536x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateUpRefIdeal.lean ====
abbrev S65536x160 : Shape := ⟨2, ![65536, 160]⟩
abbrev S160x1024 : Shape := ⟨2, ![160, 1024]⟩
abbrev S65536x1024 : Shape := ⟨2, ![65536, 1024]⟩

abbrev nBuf : Space → Nat
  | .hbm => 3
  | .vmem => 0
  | .smem => 0
  | _ => 0

abbrev bufTy : (tb : Table) → Fin (tcTables nBuf tb) → BufTy
  | .hbm, ⟨0, _⟩ => ⟨S65536x160, .f32⟩
  | .hbm, ⟨1, _⟩ => ⟨S160x1024, .f32⟩
  | .hbm, ⟨2, _⟩ => ⟨S65536x1024, .f32⟩
  | _, _ => ⟨S65536x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruGates.lean ====
abbrev S32x2304x512 : Shape := ⟨3, ![32, 2304, 512]⟩
abbrev S2x8x64x64 : Shape := ⟨4, ![2, 8, 64, 64]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x2048 : Shape := ⟨2, ![512, 2048]⟩
abbrev S73728x512 : Shape := ⟨2, ![73728, 512]⟩
abbrev S73728x2048 : Shape := ⟨2, ![73728, 2048]⟩

abbrev nBuf : Space → Nat
  | .hbm => 67
  | .vmem => 5
  | .smem => 0
  | _ => 0

abbrev bufTy : (tb : Table) → Fin (tcTables nBuf tb) → BufTy
  | .hbm, ⟨0, _⟩ => ⟨S32x2304x512, .f32⟩
  | .hbm, ⟨1, _⟩ => ⟨S2x8x64x64, .f32⟩
  | .hbm, ⟨2, _⟩ => ⟨S2x8x64x64, .f32⟩
  | .hbm, ⟨3, _⟩ => ⟨S1x8x64x64, .f32⟩
  | .hbm, ⟨4, _⟩ => ⟨S8x64x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x64x1x64, .f32⟩
  | .hbm, ⟨13, _⟩ => ⟨S8x1x8x1, .f32⟩
  | .hbm, ⟨14, _⟩ => ⟨S8x64x8x64, .f32⟩
  | .hbm, ⟨15, _⟩ => ⟨S8x64x8x64, .f32⟩
  | .hbm, ⟨16, _⟩ => ⟨S8x64x8x64, .f32⟩
  | .hbm, ⟨17, _⟩ => ⟨S512x512, .f32⟩
  | .hbm, ⟨18, _⟩ => ⟨S1x8x64x64, .f32⟩
  | .hbm, ⟨19, _⟩ => ⟨S8x64x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x64x1x64, .f32⟩
  | .hbm, ⟨28, _⟩ => ⟨S8x1x8x1, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S1x8x64x64, .f32⟩
  | .hbm, ⟨34, _⟩ => ⟨S8x64x64, .f32⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S8x8, .f32⟩
  | .hbm, ⟨42, _⟩ => ⟨S8x64x1x64, .f32⟩
  | .hbm, ⟨43, _⟩ => ⟨S8x1x8x1, .f32⟩
  | .hbm, ⟨44, _⟩ => ⟨S8x64x8x64, .f32⟩
  | .hbm, ⟨45, _⟩ => ⟨S8x64x8x64, .f32⟩
  | .hbm, ⟨46, _⟩ => ⟨S8x64x8x64, .f32⟩
  | .hbm, ⟨47, _⟩ => ⟨S512x512, .f32⟩
  | .hbm, ⟨48, _⟩ => ⟨S1x8x64x64, .f32⟩
  | .hbm, ⟨49, _⟩ => ⟨S8x64x64, .f32⟩
  | .hbm, ⟨50, _⟩ => ⟨S8x8, .i32⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i1⟩
  | .hbm, ⟨56, _⟩ => ⟨S8x8, .f32⟩
  | .hbm, ⟨57, _⟩ => ⟨S8x64x1x64, .f32⟩
  | .hbm, ⟨58, _⟩ => ⟨S8x1x8x1, .f32⟩
  | .hbm, ⟨59, _⟩ => ⟨S8x64x8x64, .f32⟩
  | .hbm, ⟨60, _⟩ => ⟨S8x64x8x64, .f32⟩
  | .hbm, ⟨61, _⟩ => ⟨S8x64x8x64, .f32⟩
  | .hbm, ⟨62, _⟩ => ⟨S512x512, .f32⟩
  | .hbm, ⟨63, _⟩ => ⟨S512x2048, .f32⟩
  | .hbm, ⟨64, _⟩ => ⟨S512x2048, .bf16⟩
  | .hbm, ⟨65, _⟩ => ⟨S73728x512, .f32⟩
  | .hbm, ⟨66, _⟩ => ⟨S73728x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | _, _ => ⟨S32x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![144, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruGatesRefIdeal.lean ====
abbrev S32x2304x512 : Shape := ⟨3, ![32, 2304, 512]⟩
abbrev S2x8x64x64 : Shape := ⟨4, ![2, 8, 64, 64]⟩
abbrev S1x8x64x64 : Shape := ⟨4, ![1, 8, 64, 64]⟩
abbrev S8x64x64 : Shape := ⟨3, ![8, 64, 64]⟩
abbrev S32x2304x8x64 : Shape := ⟨4, ![32, 2304, 8, 64]⟩
abbrev S8x64x32x2304 : Shape := ⟨4, ![8, 64, 32, 2304]⟩
abbrev S32x2304x2048 : Shape := ⟨3, ![32, 2304, 2048]⟩
abbrev S73728x2048 : Shape := ⟨2, ![73728, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32x2304x512, .f32⟩
  | .hbm, ⟨1, _⟩ => ⟨S2x8x64x64, .f32⟩
  | .hbm, ⟨2, _⟩ => ⟨S2x8x64x64, .f32⟩
  | .hbm, ⟨3, _⟩ => ⟨S1x8x64x64, .f32⟩
  | .hbm, ⟨4, _⟩ => ⟨S8x64x64, .f32⟩
  | .hbm, ⟨5, _⟩ => ⟨S32x2304x8x64, .f32⟩
  | .hbm, ⟨6, _⟩ => ⟨S8x64x32x2304, .f32⟩
  | .hbm, ⟨7, _⟩ => ⟨S32x2304x8x64, .f32⟩
  | .hbm, ⟨8, _⟩ => ⟨S32x2304x512, .f32⟩
  | .hbm, ⟨9, _⟩ => ⟨S1x8x64x64, .f32⟩
  | .hbm, ⟨10, _⟩ => ⟨S8x64x64, .f32⟩
  | .hbm, ⟨11, _⟩ => ⟨S32x2304x8x64, .f32⟩
  | .hbm, ⟨12, _⟩ => ⟨S8x64x32x2304, .f32⟩
  | .hbm, ⟨13, _⟩ => ⟨S32x2304x8x64, .f32⟩
  | .hbm, ⟨14, _⟩ => ⟨S32x2304x512, .f32⟩
  | .hbm, ⟨15, _⟩ => ⟨S1x8x64x64, .f32⟩
  | .hbm, ⟨16, _⟩ => ⟨S8x64x64, .f32⟩
  | .hbm, ⟨17, _⟩ => ⟨S32x2304x8x64, .f32⟩
  | .hbm, ⟨18, _⟩ => ⟨S8x64x32x2304, .f32⟩
  | .hbm, ⟨19, _⟩ => ⟨S32x2304x8x64, .f32⟩
  | .hbm, ⟨20, _⟩ => ⟨S32x2304x512, .f32⟩
  | .hbm, ⟨21, _⟩ => ⟨S1x8x64x64, .f32⟩
  | .hbm, ⟨22, _⟩ => ⟨S8x64x64, .f32⟩
  | .hbm, ⟨23, _⟩ => ⟨S32x2304x8x64, .f32⟩
  | .hbm, ⟨24, _⟩ => ⟨S8x64x32x2304, .f32⟩
  | .hbm, ⟨25, _⟩ => ⟨S32x2304x8x64, .f32⟩
  | .hbm, ⟨26, _⟩ => ⟨S32x2304x512, .f32⟩
  | .hbm, ⟨27, _⟩ => ⟨S32x2304x2048, .f32⟩
  | .hbm, ⟨28, _⟩ => ⟨S73728x2048, .f32⟩
  | _, _ => ⟨S32x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== Norm.lean ====
abbrev S32x2048x1024 : Shape := ⟨3, ![32, 2048, 1024]⟩
abbrev S1024 : Shape := ⟨1, ![1024]⟩
abbrev S32x1x1024 : Shape := ⟨3, ![32, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1x1024, .f32⟩
  | .hbm, ⟨5, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormRefIdeal.lean ====
abbrev S32x2048x1024 : Shape := ⟨3, ![32, 2048, 1024]⟩
abbrev S1024 : Shape := ⟨1, ![1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x1x1024, .f32⟩
  | .hbm, ⟨22, _⟩ => ⟨S32x1x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Final.lean ====
abbrev S32x2048x1024 : Shape := ⟨3, ![32, 2048, 1024]⟩
abbrev S1024 : Shape := ⟨1, ![1024]⟩
abbrev S_ : Shape := ⟨0, ![]⟩
abbrev S32x1x1024 : Shape := ⟨3, ![32, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S_, .f32⟩
  | .hbm, ⟨3, _⟩ => ⟨S32x1x1024, .f32⟩
  | .hbm, ⟨4, _⟩ => ⟨S1x1024, .f32⟩
  | .hbm, ⟨5, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x2048x1024, .f32⟩
  | .hbm, ⟨3, _⟩ => ⟨S_, .f32⟩
  | .hbm, ⟨4, _⟩ => ⟨S32x2048, .f32⟩
  | .hbm, ⟨5, _⟩ => ⟨S32x2048x1, .f32⟩
  | .hbm, ⟨6, _⟩ => ⟨S_, .f32⟩
  | .hbm, ⟨7, _⟩ => ⟨S32x2048x1, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S32x2048x1, .f32⟩
  | .hbm, ⟨13, _⟩ => ⟨S32x2048x1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Rope.lean ====
abbrev S32x2048x1792 : Shape := ⟨3, ![32, 2048, 1792]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x2x64 : Shape := ⟨4, ![1, 2048, 2, 64]⟩
abbrev S2048x128 : Shape := ⟨2, ![2048, 128]⟩
abbrev S2048x640 : Shape := ⟨2, ![2048, 640]⟩
abbrev S32x2048x640 : Shape := ⟨3, ![32, 2048, 640]⟩
abbrev S1x512x640 : Shape := ⟨3, ![1, 512, 640]⟩
abbrev S512x640 : Shape := ⟨2, ![512, 640]⟩
abbrev S1x512x128 : Shape := ⟨3, ![1, 512, 128]⟩
abbrev S512x128 : Shape := ⟨2, ![512, 128]⟩

abbrev nBuf : Space → Nat
  | .hbm => 67
  | .vmem => 8
  | .smem => 0
  | _ => 0

abbrev bufTy : (tb : Table) → Fin (tcTables nBuf tb) → BufTy
  | .hbm, ⟨0, _⟩ => ⟨S32x2048x1792, .f32⟩
  | .hbm, ⟨1, _⟩ => ⟨S32, .i32⟩
  | .hbm, ⟨2, _⟩ => ⟨S32x64, .i32⟩
  | .hbm, ⟨3, _⟩ => ⟨S2048, .i32⟩
  | .hbm, ⟨4, _⟩ => ⟨S2048, .f32⟩
  | .hbm, ⟨5, _⟩ => ⟨S64, .i32⟩
  | .hbm, ⟨6, _⟩ => ⟨S1x64, .i32⟩
  | .hbm, ⟨7, _⟩ => ⟨S32x64, .i32⟩
  | .hbm, ⟨8, _⟩ => ⟨S2048, .i32⟩
  | .hbm, ⟨9, _⟩ => ⟨S2048, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x32, .f32⟩
  | .hbm, ⟨37, _⟩ => ⟨S2048x16, .f32⟩
  | .hbm, ⟨38, _⟩ => ⟨S2048x32, .f32⟩
  | .hbm, ⟨39, _⟩ => ⟨S2048x16, .f32⟩
  | .hbm, ⟨40, _⟩ => ⟨S2048x16, .f32⟩
  | .hbm, ⟨41, _⟩ => ⟨S2048x32, .f32⟩
  | .hbm, ⟨42, _⟩ => ⟨S2048x16, .f32⟩
  | .hbm, ⟨43, _⟩ => ⟨S2048x32, .f32⟩
  | .hbm, ⟨44, _⟩ => ⟨S2048x64, .f32⟩
  | .hbm, ⟨45, _⟩ => ⟨S2048x64, .f32⟩
  | .hbm, ⟨46, _⟩ => ⟨S1x2048x1x64, .f32⟩
  | .hbm, ⟨47, _⟩ => ⟨S1x2048x8x64, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S1x2048x1x64, .f32⟩
  | .hbm, ⟨53, _⟩ => ⟨S1x2048x2x64, .f32⟩
  | .hbm, ⟨54, _⟩ => ⟨S2048x128, .f32⟩
  | .hbm, ⟨55, _⟩ => ⟨S2048x640, .f32⟩
  | .hbm, ⟨56, _⟩ => ⟨S1x2048x1x64, .f32⟩
  | .hbm, ⟨57, _⟩ => ⟨S1x2048x8x64, .f32⟩
  | .hbm, ⟨58, _⟩ => ⟨S2048x512, .f32⟩
  | .hbm, ⟨59, _⟩ => ⟨S_, .f32⟩
  | .hbm, ⟨60, _⟩ => ⟨S2048x512, .f32⟩
  | .hbm, ⟨61, _⟩ => ⟨S2048x512, .f32⟩
  | .hbm, ⟨62, _⟩ => ⟨S1x2048x1x64, .f32⟩
  | .hbm, ⟨63, _⟩ => ⟨S1x2048x2x64, .f32⟩
  | .hbm, ⟨64, _⟩ => ⟨S2048x128, .f32⟩
  | .hbm, ⟨65, _⟩ => ⟨S2048x640, .f32⟩
  | .hbm, ⟨66, _⟩ => ⟨S32x2048x640, .f32⟩
  | .local _ .vmem, ⟨0, _⟩ => ⟨S1x512x640, .f32⟩
  | .local _ .vmem, ⟨1, _⟩ => ⟨S1x512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S1x512x640, .f32⟩
  | .local _ .vmem, ⟨7, _⟩ => ⟨S1x512x640, .f32⟩
  | _, _ => ⟨S32x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_3 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_4 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeRefIdeal.lean ====
abbrev S32x2048x1792 : Shape := ⟨3, ![32, 2048, 1792]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S32x2048x512 : Shape := ⟨3, ![32, 2048, 512]⟩
abbrev S32x2048x8x64 : Shape := ⟨4, ![32, 2048, 8, 64]⟩
abbrev S32x2048x8x32 : Shape := ⟨4, ![32, 2048, 8, 32]⟩
abbrev S2048x1x16 : Shape := ⟨3, ![2048, 1, 16]⟩
abbrev S32x2048x8x16 : Shape := ⟨4, ![32, 2048, 8, 16]⟩
abbrev S1x2048x1x16 : Shape := ⟨4, ![1, 2048, 1, 16]⟩
abbrev S32x2048x128 : Shape := ⟨3, ![32, 2048, 128]⟩
abbrev S32x2048x2x64 : Shape := ⟨4, ![32, 2048, 2, 64]⟩
abbrev S32x2048x2x32 : Shape := ⟨4, ![32, 2048, 2, 32]⟩
abbrev S32x2048x2x16 : Shape := ⟨4, ![32, 2048, 2, 16]⟩
abbrev S32x2048x640 : Shape := ⟨3, ![32, 2048, 640]⟩

abbrev nBuf : Space → Nat
  | .hbm => 134
  | .vmem => 0
  | .smem => 0
  | _ => 0

abbrev hbmTy0_0 (i : Nat) : BufTy := match i % 128 with
  | 0 => ⟨S32x2048x1792, .f32⟩
  | 1 => ⟨S32, .i32⟩
  | 2 => ⟨S32x64, .i32⟩
  | 3 => ⟨S2048, .i32⟩
  | 4 => ⟨S2048, .f32⟩
  | 5 => ⟨S64, .i32⟩
  | 6 => ⟨S1x64, .i32⟩
  | 7 => ⟨S32x64, .i32⟩
  | 8 => ⟨S2048, .i32⟩
  | 9 => ⟨S2048, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S32x2048x512, .f32⟩
  | 35 => ⟨S32x2048x8x64, .f32⟩
  | 36 => ⟨S32x2048x8x32, .f32⟩
  | 37 => ⟨S2048x16, .f32⟩
  | 38 => ⟨S2048x1x16, .f32⟩
  | 39 => ⟨S2048x16, .f32⟩
  | 40 => ⟨S2048x1x16, .f32⟩
  | 41 => ⟨S32x2048x8x16, .f32⟩
  | 42 => ⟨S32x2048x8x16, .f32⟩
  | 43 => ⟨S1x2048x1x16, .f32⟩
  | 44 => ⟨S32x2048x8x16, .f32⟩
  | 45 => ⟨S32x2048x8x16, .f32⟩
  | 46 => ⟨S1x2048x1x16, .f32⟩
  | 47 => ⟨S32x2048x8x16, .f32⟩
  | 48 => ⟨S32x2048x8x16, .f32⟩
  | 49 => ⟨S32x2048x8x16, .f32⟩
  | 50 => ⟨S1x2048x1x16, .f32⟩
  | 51 => ⟨S32x2048x8x16, .f32⟩
  | 52 => ⟨S32x2048x8x16, .f32⟩
  | 53 => ⟨S1x2048x1x16, .f32⟩
  | 54 => ⟨S32x2048x8x16, .f32⟩
  | 55 => ⟨S32x2048x8x16, .f32⟩
  | 56 => ⟨S32x2048x8x16, .f32⟩
  | 57 => ⟨S32x2048x8x32, .f32⟩
  | 58 => ⟨S32x2048x8x32, .f32⟩
  | 59 => ⟨S2048x16, .f32⟩
  | 60 => ⟨S2048x1x16, .f32⟩
  | 61 => ⟨S2048x16, .f32⟩
  | 62 => ⟨S2048x1x16, .f32⟩
  | 63 => ⟨S32x2048x8x16, .f32⟩
  | 64 => ⟨S32x2048x8x16, .f32⟩
  | 65 => ⟨S1x2048x1x16, .f32⟩
  | 66 => ⟨S32x2048x8x16, .f32⟩
  | 67 => ⟨S32x2048x8x16, .f32⟩
  | 68 => ⟨S1x2048x1x16, .f32⟩
  | 69 => ⟨S32x2048x8x16, .f32⟩
  | 70 => ⟨S32x2048x8x16, .f32⟩
  | 71 => ⟨S32x2048x8x16, .f32⟩
  | 72 => ⟨S1x2048x1x16, .f32⟩
  | 73 => ⟨S32x2048x8x16, .f32⟩
  | 74 => ⟨S32x2048x8x16, .f32⟩
  | 75 => ⟨S1x2048x1x16, .f32⟩
  | 76 => ⟨S32x2048x8x16, .f32⟩
  | 77 => ⟨S32x2048x8x16, .f32⟩
  | 78 => ⟨S32x2048x8x16, .f32⟩
  | 79 => ⟨S32x2048x8x32, .f32⟩
  | 80 => ⟨S32x2048x8x64, .f32⟩
  | 81 => ⟨S32x2048x128, .f32⟩
  | 82 => ⟨S32x2048x2x64, .f32⟩
  | 83 => ⟨S32x2048x2x32, .f32⟩
  | 84 => ⟨S2048x16, .f32⟩
  | 85 => ⟨S2048x1x16, .f32⟩
  | 86 => ⟨S2048x16, .f32⟩
  | 87 => ⟨S2048x1x16, .f32⟩
  | 88 => ⟨S32x2048x2x16, .f32⟩
  | 89 => ⟨S32x2048x2x16, .f32⟩
  | 90 => ⟨S1x2048x1x16, .f32⟩
  | 91 => ⟨S32x2048x2x16, .f32⟩
  | 92 => ⟨S32x2048x2x16, .f32⟩
  | 93 => ⟨S1x2048x1x16, .f32⟩
  | 94 => ⟨S32x2048x2x16, .f32⟩
  | 95 => ⟨S32x2048x2x16, .f32⟩
  | 96 => ⟨S32x2048x2x16, .f32⟩
  | 97 => ⟨S1x2048x1x16, .f32⟩
  | 98 => ⟨S32x2048x2x16, .f32⟩
  | 99 => ⟨S32x2048x2x16, .f32⟩
  | 100 => ⟨S1x2048x1x16, .f32⟩
  | 101 => ⟨S32x2048x2x16, .f32⟩
  | 102 => ⟨S32x2048x2x16, .f32⟩
  | 103 => ⟨S32x2048x2x16, .f32⟩
  | 104 => ⟨S32x2048x2x32, .f32⟩
  | 105 => ⟨S32x2048x2x32, .f32⟩
  | 106 => ⟨S2048x16, .f32⟩
  | 107 => ⟨S2048x1x16, .f32⟩
  | 108 => ⟨S2048x16, .f32⟩
  | 109 => ⟨S2048x1x16, .f32⟩
  | 110 => ⟨S32x2048x2x16, .f32⟩
  | 111 => ⟨S32x2048x2x16, .f32⟩
  | 112 => ⟨S1x2048x1x16, .f32⟩
  | 113 => ⟨S32x2048x2x16, .f32⟩
  | 114 => ⟨S32x2048x2x16, .f32⟩
  | 115 => ⟨S1x2048x1x16, .f32⟩
  | 116 => ⟨S32x2048x2x16, .f32⟩
  | 117 => ⟨S32x2048x2x16, .f32⟩
  | 118 => ⟨S32x2048x2x16, .f32⟩
  | 119 => ⟨S1x2048x1x16, .f32⟩
  | 120 => ⟨S32x2048x2x16, .f32⟩
  | 121 => ⟨S32x2048x2x16, .f32⟩
  | 122 => ⟨S1x2048x1x16, .f32⟩
  | 123 => ⟨S32x2048x2x16, .f32⟩
  | 124 => ⟨S32x2048x2x16, .f32⟩
  | 125 => ⟨S32x2048x2x16, .f32⟩
  | 126 => ⟨S32x2048x2x32, .f32⟩
  | 127 => ⟨S32x2048x2x64, .f32⟩
  | _ => ⟨S32x2048x1792, .f32⟩

abbrev hbmTy0_1 (i : Nat) : BufTy := match i % 128 with
  | 0 => ⟨S_, .f32⟩
  | 1 => ⟨S32x2048x8x64, .f32⟩
  | 2 => ⟨S32x2048x8x64, .f32⟩
  | 3 => ⟨S32x2048x512, .f32⟩
  | 4 => ⟨S32x2048x128, .f32⟩
  | 5 => ⟨S32x2048x640, .f32⟩
  | _ => ⟨S32x2048x1792, .f32⟩

abbrev hbmTy (i : Nat) : BufTy := match i / 128 with
  | 0 => hbmTy0_0 i
  | 1 => hbmTy0_1 i
  | _ => ⟨S32x2048x1792, .f32⟩

abbrev bufTy : (tb : Table) → Fin (tcTables nBuf tb) → BufTy
  | .hbm, ⟨i, _⟩ => hbmTy i
  | _, _ => ⟨S32x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_cst_3 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩

abbrev nD : Nat := 1
abbrev τ : Topo := Topo.v7x

variable {F : FTy → Type} [FloatOps F]
-- ==== Router.lean ====
abbrev S32x2048x1024 : Shape := ⟨3, ![32, 2048, 1024]⟩
abbrev S1024x16 : Shape := ⟨2, ![1024, 16]⟩
abbrev S16x1024 : Shape := ⟨2, ![16, 1024]⟩
abbrev S32x16x2048 : Shape := ⟨3, ![32, 16, 2048]⟩
abbrev S1x512x1024 : Shape := ⟨3, ![1, 512, 1024]⟩
abbrev S1x16x512 : Shape := ⟨3, ![1, 16, 512]⟩
abbrev S512x1024 : Shape := ⟨2, ![512, 1024]⟩
abbrev S16x512 : Shape := ⟨2, ![16, 512]⟩
abbrev S512 : Shape := ⟨1, ![512]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x16, .f32⟩
  | .hbm, ⟨2, _⟩ => ⟨S16x1024, .f32⟩
  | .hbm, ⟨3, _⟩ => ⟨S32x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S16x1024, .f32⟩
  | .local _ .vmem, ⟨3, _⟩ => ⟨S1x16x512, .f32⟩
  | .local _ .vmem, ⟨4, _⟩ => ⟨S1x16x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RouterRefIdeal.lean ====
abbrev S32x2048x1024 : Shape := ⟨3, ![32, 2048, 1024]⟩
abbrev S1024x16 : Shape := ⟨2, ![1024, 16]⟩
abbrev S16x32x2048 : Shape := ⟨3, ![16, 32, 2048]⟩
abbrev S32x16x2048 : Shape := ⟨3, ![32, 16, 2048]⟩
abbrev S_ : Shape := ⟨0, ![]⟩
abbrev S32x2048 : Shape := ⟨2, ![32, 2048]⟩
abbrev S32x1x2048 : Shape := ⟨3, ![32, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x16, .f32⟩
  | .hbm, ⟨2, _⟩ => ⟨S16x32x2048, .f32⟩
  | .hbm, ⟨3, _⟩ => ⟨S32x16x2048, .f32⟩
  | .hbm, ⟨4, _⟩ => ⟨S_, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .f32⟩
  | .hbm, ⟨9, _⟩ => ⟨S32x1x2048, .f32⟩
  | .hbm, ⟨10, _⟩ => ⟨S32x16x2048, .f32⟩
  | .hbm, ⟨11, _⟩ => ⟨S32x16x2048, .f32⟩
  | .hbm, ⟨12, _⟩ => ⟨S32x16x2048, .f32⟩
  | .hbm, ⟨13, _⟩ => ⟨S_, .f32⟩
  | .hbm, ⟨14, _⟩ => ⟨S32x2048, .f32⟩
  | .hbm, ⟨15, _⟩ => ⟨S32x1x2048, .f32⟩
  | .hbm, ⟨16, _⟩ => ⟨S32x16x2048, .f32⟩
  | .hbm, ⟨17, _⟩ => ⟨S32x16x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Scatter.lean ====
abbrev S32x16x2048 : Shape := ⟨3, ![32, 16, 2048]⟩
abbrev S512x256x1024 : Shape := ⟨3, ![512, 256, 1024]⟩
abbrev S32x16x256 : Shape := ⟨3, ![32, 16, 256]⟩
abbrev S512x1x256 : Shape := ⟨3, ![512, 1, 256]⟩
abbrev S32x2048x1024 : Shape := ⟨3, ![32, 2048, 1024]⟩
abbrev S1x1x256 : Shape := ⟨3, ![1, 1, 256]⟩
abbrev S1x256x1024 : Shape := ⟨3, ![1, 256, 1024]⟩
abbrev S1x2048x1024 : Shape := ⟨3, ![1, 2048, 1024]⟩
abbrev S1x1x1 : Shape := ⟨3, ![1, 1, 1]⟩
abbrev S1x1x1024 : Shape := ⟨3, ![1, 1, 1024]⟩
abbrev S1x1024 : Shape := ⟨2, ![1, 1024]⟩

abbrev nBuf : Space → Nat
  | .hbm => 6
  | .vmem => 4
  | .smem => 2
  | _ => 0

abbrev bufTy : (tb : Table) → Fin (tcTables nBuf tb) → BufTy
  | .hbm, ⟨0, _⟩ => ⟨S32x16x2048, .f32⟩
  | .hbm, ⟨1, _⟩ => ⟨S512x256x1024, .f32⟩
  | .hbm, ⟨2, _⟩ => ⟨S32x16x256, .f32⟩
  | .hbm, ⟨3, _⟩ => ⟨S32x16x256, .i32⟩
  | .hbm, ⟨4, _⟩ => ⟨S512x1x256, .i32⟩
  | .hbm, ⟨5, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .smem, ⟨0, _⟩ => ⟨S1x1x256, .i32⟩
  | .local _ .smem, ⟨1, _⟩ => ⟨S1x1x256, .i32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

@[reducible] def k0_t1_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k0_off1 (k0_t1 : Fin k0_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k0_t1
  let v4 : Index := Scalar.indexCast arg5
  ![0, 0, v4.toNat]
def k0_off2 (v5 : BitVec 32) : Fin 3 → Nat :=
  let c0_4 : Index := 0#32
  let v6 : Index := Scalar.indexCast v5
  let c0_5 : Index := 0#32
  ![0, v6.toNat, 0]

def k0_chk1 (v5 : BitVec 32) : Prop :=
  (∀ a, (k0_off2 v5) a + S1x1x1024.size a ≤ S1x2048x1024.size a)
theorem k0_off2_inb : ∀ (v5 : BitVec 32) (k0_hw1 : k0_chk1 v5), ∀ a, (k0_off2 v5) a + S1x1x1024.size a ≤ S1x2048x1024.size a := fun v5 k0_hw1 => k0_hw1

def k0_off3 (k0_t1 : Fin k0_t1_loop.trips) : Fin 3 → Nat :=
  let c0_6 : Index := 0#32
  let c0_i32_1 : BitVec 32 := 0#32
  let c1_i32 : BitVec 32 := 1#32
  let arg5 : BitVec 32 := Scf.iv c0_i32_1 c1_i32 k0_t1
  let v9 : Index := Scalar.indexCast arg5
  let c0_7 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ScatterRefIdeal.lean ====
abbrev S32x16x2048 : Shape := ⟨3, ![32, 16, 2048]⟩
abbrev S512x256x1024 : Shape := ⟨3, ![512, 256, 1024]⟩
abbrev S32x16x256 : Shape := ⟨3, ![32, 16, 256]⟩
abbrev S32 : Shape := ⟨1, ![32]⟩
abbrev S32x1x1 : Shape := ⟨3, ![32, 1, 1]⟩
abbrev S_ : Shape := ⟨0, ![]⟩
abbrev S32x2048x1024 : Shape := ⟨3, ![32, 2048, 1024]⟩
abbrev S32x16x256x1024 : Shape := ⟨4, ![32, 16, 256, 1024]⟩
abbrev S32x16x256x1 : Shape := ⟨4, ![32, 16, 256, 1]⟩
abbrev S32x16x256x2 : Shape := ⟨4, ![32, 16, 256, 2]⟩

abbrev nBuf : Space → Nat
  | .hbm => 28
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S512x256x1024, .f32⟩
  | .hbm, ⟨2, _⟩ => ⟨S32x16x256, .f32⟩
  | .hbm, ⟨3, _⟩ => ⟨S32x16x256, .i32⟩
  | .hbm, ⟨4, _⟩ => ⟨S32, .i32⟩
  | .hbm, ⟨5, _⟩ => ⟨S32x1x1, .i32⟩
  | .hbm, ⟨6, _⟩ => ⟨S_, .f32⟩
  | .hbm, ⟨7, _⟩ => ⟨S32x2048x1024, .f32⟩
  | .hbm, ⟨8, _⟩ => ⟨S32x16x256x1024, .f32⟩
  | .hbm, ⟨9, _⟩ => ⟨S_, .i32⟩
  | .hbm, ⟨10, _⟩ => ⟨S32x1x1, .i32⟩
  | .hbm, ⟨11, _⟩ => ⟨S32x1x1, .i1⟩
  | .hbm, ⟨12, _⟩ => ⟨S_, .i32⟩
  | .hbm, ⟨13, _⟩ => ⟨S32x1x1, .i32⟩
  | .hbm, ⟨14, _⟩ => ⟨S32x1x1, .i32⟩
  | .hbm, ⟨15, _⟩ => ⟨S32x1x1, .i32⟩
  | .hbm, ⟨16, _⟩ => ⟨S_, .i32⟩
  | .hbm, ⟨17, _⟩ => ⟨S32x16x256, .i32⟩
  | .hbm, ⟨18, _⟩ => ⟨S32x16x256, .i1⟩
  | .hbm, ⟨19, _⟩ => ⟨S_, .i32⟩
  | .hbm, ⟨20, _⟩ => ⟨S32x16x256, .i32⟩
  | .hbm, ⟨21, _⟩ => ⟨S32x16x256, .i32⟩
  | .hbm, ⟨22, _⟩ => ⟨S32x16x256, .i32⟩
  | .hbm, ⟨23, _⟩ => ⟨S32x16x256, .i32⟩
  | .hbm, ⟨24, _⟩ => ⟨S32x16x256x1, .i32⟩
  | .hbm, ⟨25, _⟩ => ⟨S32x16x256x1, .i32⟩
  | .hbm, ⟨26, _⟩ => ⟨S32x16x256x2, .i32⟩
  | .hbm, ⟨27, _⟩ => ⟨S32x2048x1024, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Attn.lean ====
abbrev S8 : Shape := ⟨1, ![8]⟩
abbrev S32x2048x640 : Shape := ⟨3, ![32, 2048, 640]⟩
abbrev S32x2048x1792 : Shape := ⟨3, ![32, 2048, 1792]⟩
abbrev S32x256x1792 : Shape := ⟨3, ![32, 256, 1792]⟩
abbrev S32x2048x512 : Shape := ⟨3, ![32, 2048, 512]⟩
abbrev S1x128x512 : Shape := ⟨3, ![1, 128, 512]⟩
abbrev S1x128x128 : Shape := ⟨3, ![1, 128, 128]⟩
abbrev S1x256x128 : Shape := ⟨3, ![1, 256, 128]⟩
abbrev S256x128 : Shape := ⟨2, ![256, 128]⟩
abbrev S128x128 : Shape := ⟨2, ![128, 128]⟩
abbrev S640x128 : Shape := ⟨2, ![640, 128]⟩
abbrev S128x640 : Shape := ⟨2, ![128, 640]⟩
abbrev S128x512 : Shape := ⟨2, ![128, 512]⟩
abbrev S640x64 : Shape := ⟨2, ![640, 64]⟩
abbrev S128x64 : Shape := ⟨2, ![128, 64]⟩
abbrev S1 : Shape := ⟨1, ![1]⟩
abbrev S128 : Shape := ⟨1, ![128]⟩
abbrev S128x1 : Shape := ⟨2, ![128, 1]⟩

abbrev nBuf : Space → Nat
  | .hbm => 5
  | .vmem => 20
  | .smem => 1
  | _ => 0

abbrev bufTy : (tb : Table) → Fin (tcTables nBuf tb) → BufTy
  | .hbm, ⟨0, _⟩ => ⟨S8, .f32⟩
  | .hbm, ⟨1, _⟩ => ⟨S32x2048x640, .f32⟩
  | .hbm, ⟨2, _⟩ => ⟨S32x2048x1792, .f32⟩
  | .hbm, ⟨3, _⟩ => ⟨S32x256x1792, .f32⟩
  | .hbm, ⟨4, _⟩ => ⟨S32x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x128x512, .f32⟩
  | .local _ .vmem, ⟨19, _⟩ => ⟨S1x128x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c4_i32 : BitVec 32 := 4#32
  let c0_i32_0 : BitVec 32 := 0#32
  ![arg0.toNat, v2.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c4_i32 : BitVec 32 := 4#32
  let c0_i32_1 : BitVec 32 := 0#32
  ![arg0.toNat, v2.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c4_i32 : BitVec 32 := 4#32
  let c0_i32_0 : BitVec 32 := 0#32
  ![arg0.toNat, v2.toNat, c4_i32.toNat]

def cc0_transform_5 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c5_i32 : BitVec 32 := 5#32
  let c0_i32_1 : BitVec 32 := 0#32
  ![arg0.toNat, v2.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c5_i32 : BitVec 32 := 5#32
  let c0_i32_0 : BitVec 32 := 0#32
  ![arg0.toNat, v2.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8 : Shape := ⟨1, ![8]⟩
abbrev S32x2048x640 : Shape := ⟨3, ![32, 2048, 640]⟩
abbrev S32x2048x1792 : Shape := ⟨3, ![32, 2048, 1792]⟩
abbrev S32x256x1792 : Shape := ⟨3, ![32, 256, 1792]⟩
abbrev S32x2048x512 : Shape := ⟨3, ![32, 2048, 512]⟩
abbrev S32x2048x2x4x64 : Shape := ⟨5, ![32, 2048, 2, 4, 64]⟩
abbrev S32x2048x128 : Shape := ⟨3, ![32, 2048, 128]⟩
abbrev S32x2048x2x64 : Shape := ⟨4, ![32, 2048, 2, 64]⟩
abbrev S32x256x128 : Shape := ⟨3, ![32, 256, 128]⟩
abbrev S32x256x2x64 : Shape := ⟨4, ![32, 256, 2, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S32x2x256x2048x4 : Shape := ⟨5, ![32, 2, 256, 2048, 4]⟩
abbrev S32x2x4x2048x256 : Shape := ⟨5, ![32, 2, 4, 2048, 256]⟩
abbrev S32x2x2048x2048x4 : Shape := ⟨5, ![32, 2, 2048, 2048, 4]⟩
abbrev S32x2x4x2048x2048 : Shape := ⟨5, ![32, 2, 4, 2048, 2048]⟩
abbrev S2x4x1x1 : Shape := ⟨4, ![2, 4, 1, 1]⟩
abbrev S32x2x4x2048x1 : Shape := ⟨5, ![32, 2, 4, 2048, 1]⟩
abbrev S32x2x4x2048x2305 : Shape := ⟨5, ![32, 2, 4, 2048, 2305]⟩
abbrev S32x2x4x2048 : Shape := ⟨4, ![32, 2, 4, 2048]⟩
abbrev S32x2x64x4x2048 : Shape := ⟨5, ![32, 2, 64, 4, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8, .f32⟩
  | .hbm, ⟨1, _⟩ => ⟨S32x2048x640, .f32⟩
  | .hbm, ⟨2, _⟩ => ⟨S32x2048x1792, .f32⟩
  | .hbm, ⟨3, _⟩ => ⟨S32x256x1792, .f32⟩
  | .hbm, ⟨4, _⟩ => ⟨S32x2048x512, .f32⟩
  | .hbm, ⟨5, _⟩ => ⟨S32x2048x2x4x64, .f32⟩
  | .hbm, ⟨6, _⟩ => ⟨S32x2048x128, .f32⟩
  | .hbm, ⟨7, _⟩ => ⟨S32x2048x2x64, .f32⟩
  | .hbm, ⟨8, _⟩ => ⟨S32x2048x128, .f32⟩
  | .hbm, ⟨9, _⟩ => ⟨S32x2048x2x64, .f32⟩
  | .hbm, ⟨10, _⟩ => ⟨S32x256x128, .f32⟩
  | .hbm, ⟨11, _⟩ => ⟨S32x256x2x64, .f32⟩
  | .hbm, ⟨12, _⟩ => ⟨S32x256x128, .f32⟩
  | .hbm, ⟨13, _⟩ => ⟨S32x256x2x64, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S32x2x256x2048x4, .f32⟩
  | .hbm, ⟨26, _⟩ => ⟨S32x2x4x2048x256, .f32⟩
  | .hbm, ⟨27, _⟩ => ⟨S32x2x2048x2048x4, .f32⟩
  | .hbm, ⟨28, _⟩ => ⟨S32x2x4x2048x2048, .f32⟩
  | .hbm, ⟨29, _⟩ => ⟨S_, .f32⟩
  | .hbm, ⟨30, _⟩ => ⟨S_, .f32⟩
  | .hbm, ⟨31, _⟩ => ⟨S32x2x4x2048x2048, .i1⟩
  | .hbm, ⟨32, _⟩ => ⟨S32x2x4x2048x2048, .f32⟩
  | .hbm, ⟨33, _⟩ => ⟨S32x2x4x2048x2048, .f32⟩
  | .hbm, ⟨34, _⟩ => ⟨S2x4x1x1, .f32⟩
  | .hbm, ⟨35, _⟩ => ⟨S32x2x4x2048x1, .f32⟩
  | .hbm, ⟨36, _⟩ => ⟨S32x2x4x2048x2305, .f32⟩
  | .hbm, ⟨37, _⟩ => ⟨S_, .f32⟩
  | .hbm, ⟨38, _⟩ => ⟨S32x2x4x2048, .f32⟩
  | .hbm, ⟨39, _⟩ => ⟨S_, .f32⟩
  | .hbm, ⟨40, _⟩ => ⟨S32x2x4x2048, .f32⟩
  | .hbm, ⟨41, _⟩ => ⟨S32x2x4x2048, .f32⟩
  | .hbm, ⟨42, _⟩ => ⟨S32x2x4x2048x1, .f32⟩
  | .hbm, ⟨43, _⟩ => ⟨S32x2x4x2048x2305, .f32⟩
  | .hbm, ⟨44, _⟩ => ⟨S32x2x4x2048x2305, .f32⟩
  | .hbm, ⟨45, _⟩ => ⟨S32x2x4x2048x2305, .f32⟩
  | .hbm, ⟨46, _⟩ => ⟨S_, .f32⟩
  | .hbm, ⟨47, _⟩ => ⟨S32x2x4x2048, .f32⟩
  | .hbm, ⟨48, _⟩ => ⟨S32x2x4x2048x1, .f32⟩
  | .hbm, ⟨49, _⟩ => ⟨S32x2x4x2048x2305, .f32⟩
  | .hbm, ⟨50, _⟩ => ⟨S32x2x4x2048x2305, .f32⟩
  | .hbm, ⟨51, _⟩ => ⟨S32x2x4x2048x256, .f32⟩
  | .hbm, ⟨52, _⟩ => ⟨S32x2x64x4x2048, .f32⟩
  | .hbm, ⟨53, _⟩ => ⟨S32x2048x2x4x64, .f32⟩
  | .hbm, ⟨54, _⟩ => ⟨S32x2x4x2048x2048, .f32⟩
  | .hbm, ⟨55, _⟩ => ⟨S32x2x64x4x2048, .f32⟩
  | .hbm, ⟨56, _⟩ => ⟨S32x2048x2x4x64, .f32⟩
  | .hbm, ⟨57, _⟩ => ⟨S32x2048x2x4x64, .f32⟩
  | .hbm, ⟨58, _⟩ => ⟨S32x2048x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Cattn.lean ====
abbrev S8 : Shape := ⟨1, ![8]⟩
abbrev S32x256x1792 : Shape := ⟨3, ![32, 256, 1792]⟩
abbrev S32x256x512 : Shape := ⟨3, ![32, 256, 512]⟩
abbrev S1x256x512 : Shape := ⟨3, ![1, 256, 512]⟩
abbrev S1x256x128 : Shape := ⟨3, ![1, 256, 128]⟩
abbrev S256x512 : Shape := ⟨2, ![256, 512]⟩
abbrev S256x128 : Shape := ⟨2, ![256, 128]⟩
abbrev S256x64 : Shape := ⟨2, ![256, 64]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 3
  | .vmem => 8
  | .smem => 1
  | _ => 0

abbrev bufTy : (tb : Table) → Fin (tcTables nBuf tb) → BufTy
  | .hbm, ⟨0, _⟩ => ⟨S8, .f32⟩
  | .hbm, ⟨1, _⟩ => ⟨S32x256x1792, .f32⟩
  | .hbm, ⟨2, _⟩ => ⟨S32x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x512, .f32⟩
  | .local _ .vmem, ⟨7, _⟩ => ⟨S1x256x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CattnRefIdeal.lean ====
abbrev S8 : Shape := ⟨1, ![8]⟩
abbrev S32x256x1792 : Shape := ⟨3, ![32, 256, 1792]⟩
abbrev S32x256x512 : Shape := ⟨3, ![32, 256, 512]⟩
abbrev S32x256x8x64 : Shape := ⟨4, ![32, 256, 8, 64]⟩
abbrev S32x256x128 : Shape := ⟨3, ![32, 256, 128]⟩
abbrev S32x256x2x64 : Shape := ⟨4, ![32, 256, 2, 64]⟩
abbrev S_ : Shape := ⟨0, ![]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S2x4x1x1 : Shape := ⟨4, ![2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x64x4x256 : Shape := ⟨5, ![32, 2, 64, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S8, .f32⟩
  | .hbm, ⟨1, _⟩ => ⟨S32x256x1792, .f32⟩
  | .hbm, ⟨2, _⟩ => ⟨S32x256x512, .f32⟩
  | .hbm, ⟨3, _⟩ => ⟨S32x256x8x64, .f32⟩
  | .hbm, ⟨4, _⟩ => ⟨S32x256x128, .f32⟩
  | .hbm, ⟨5, _⟩ => ⟨S32x256x2x64, .f32⟩
  | .hbm, ⟨6, _⟩ => ⟨S32x256x128, .f32⟩
  | .hbm, ⟨7, _⟩ => ⟨S32x256x2x64, .f32⟩
  | .hbm, ⟨8, _⟩ => ⟨S_, .f32⟩
  | .hbm, ⟨9, _⟩ => ⟨S32x256x8x64, .f32⟩
  | .hbm, ⟨10, _⟩ => ⟨S32x256x8x64, .f32⟩
  | .hbm, ⟨11, _⟩ => ⟨S32x256x2x4x64, .f32⟩
  | .hbm, ⟨12, _⟩ => ⟨S32x2x256x256x4, .f32⟩
  | .hbm, ⟨13, _⟩ => ⟨S32x2x4x256x256, .f32⟩
  | .hbm, ⟨14, _⟩ => ⟨S2x4x1x1, .f32⟩
  | .hbm, ⟨15, _⟩ => ⟨S32x2x4x256x1, .f32⟩
  | .hbm, ⟨16, _⟩ => ⟨S32x2x4x256x257, .f32⟩
  | .hbm, ⟨17, _⟩ => ⟨S_, .f32⟩
  | .hbm, ⟨18, _⟩ => ⟨S32x2x4x256, .f32⟩
  | .hbm, ⟨19, _⟩ => ⟨S_, .f32⟩
  | .hbm, ⟨20, _⟩ => ⟨S32x2x4x256, .f32⟩
  | .hbm, ⟨21, _⟩ => ⟨S32x2x4x256, .f32⟩
  | .hbm, ⟨22, _⟩ => ⟨S32x2x4x256x1, .f32⟩
  | .hbm, ⟨23, _⟩ => ⟨S32x2x4x256x257, .f32⟩
  | .hbm, ⟨24, _⟩ => ⟨S32x2x4x256x257, .f32⟩
  | .hbm, ⟨25, _⟩ => ⟨S32x2x4x256x257, .f32⟩
  | .hbm, ⟨26, _⟩ => ⟨S_, .f32⟩
  | .hbm, ⟨27, _⟩ => ⟨S32x2x4x256, .f32⟩
  | .hbm, ⟨28, _⟩ => ⟨S32x2x4x256x1, .f32⟩
  | .hbm, ⟨29, _⟩ => ⟨S32x2x4x256x257, .f32⟩
  | .hbm, ⟨30, _⟩ => ⟨S32x2x4x256x257, .f32⟩
  | .hbm, ⟨31, _⟩ => ⟨S32x2x4x256x256, .f32⟩
  | .hbm, ⟨32, _⟩ => ⟨S32x2x64x4x256, .f32⟩
  | .hbm, ⟨33, _⟩ => ⟨S32x256x2x4x64, .f32⟩
  | .hbm, ⟨34, _⟩ => ⟨S32x256x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.TopkRange.lean ====
/- The positions a top-k returns lie on the axis it selects along: what the gather in the feed-forward call rests on. -/
module

public import Idealize.ShloMosaic.Lib.Pointwise

@[expose] public section

namespace Cert.TopkRange

open Idealize.ShloMosaic

/-- Every position a top-k returns is smaller than the extent of the axis it selects along: it is a position of the
    sorted axis, moved there by the sort. -/
theorem position_lt {s : Shape} {α : Type} (t : Shape) (d : Nat) (gt : α → α → BitVec 1) (x : s.Idx → α)
    (h : s.Slices (fun _ => 0) t) (hd : d < s.rank) (j : t.Idx) :
    ((Host.topK t d gt x h).2 j).toNat < s.size ⟨d, hd⟩ := by
  unfold Host.topK Host.sort2 extractStridedSlice
  simp only [hd, dif_pos, iotaInDim, BitVec.toNat_ofNat]
  exact lt_of_le_of_lt (Nat.mod_le _ _) (Fin.isLt _)

end Cert.TopkRange
-- ==== Proof.MoeIdealWords.lean ====
/- The side condition of the feed-forward call's gather: every token position the grid reads is below the number of
   tokens, because the positions are the ones a top-k returned. -/
module

public import proofs.«01_k».proof.Proof.Gen.MoeIdeal.Frame
public import proofs.«01_k».proof.Proof.TopkRange

@[expose] public section

set_option maxRecDepth 16384

noncomputable section

namespace Cert.MoeIdeal.Words

open Cert.MoeIdeal Cert.MoeIdeal.Gen Idealize.ShloMosaic Idealize.ShloMosaic.TcCoe Idealize.SL.Sem

variable {F : FTy → Type} [FloatOps F] (m : (ℓ : Loc nD τ sig) → Buf (Elt F) ℓ)

/-- The positions the top-k of the affinities returns, one row of 256 for each batch and expert. -/
abbrev chosen (c : Dev nD) : S32x16x256.Idx → BitVec 32 :=
  (Host.topK S32x16x256 2 (FloatOps.cmpfTotal (F := F) .gt) (m ((c : Thread nD τ).loc main_arg0) : FVec F S32x16x2048 .f32)
    sliceFits_S32x16x2048_S32x16x256).2

/-- The positions as the grid finds them. -/
abbrev words (c : Dev nD) : S512x1x256.Idx → BitVec 32 := V m c main_v3

/-- They are the top-k's positions, batch and expert merged into one row axis. -/
theorem entry_words (c : Dev nD) : words m c = shapeCast S512x1x256 (chosen m c) shapeCasts_S32x16x256_S512x1x256 := by
  unfold_abbrev_sides
  after_results <;> rfl

/-- Every position is below the number of tokens. -/
theorem words_lt (c : Dev nD) (i : S512x1x256.Idx) : (words m c i).toNat < 2048 := by
  rw [entry_words]
  exact Cert.TopkRange.position_lt (s := S32x16x2048) S32x16x256 2 _ _ _ (by decide) _

/-- A position below the number of tokens names a row of the block of tokens. -/
theorem names_row (w : BitVec 32) (h : w.toNat < 2048) : k0_chk1 w := by
  intro a
  match a with
  | ⟨0, _⟩ => show 0 + 1 ≤ 1; omega
  | ⟨1, _⟩ => show w.toNat + 1 ≤ 2048; omega
  | ⟨2, _⟩ => show 0 + 1024 ≤ 1024; omega

/-- The side condition of the gather holds at every grid point and trip. -/
theorem hyps : Hyps m := Hyps.of fun c t kq hkq => by
  simp only [View.readAt_apply, Memref.IsWhole.read_unread]
  refine names_row _ ?_
  unfold iblk
  rw [View.read_apply, cast_eq]
  exact words_lt m c _

end Cert.MoeIdeal.Words

end
-- ==== Proof.MoeGather.lean ====
/- The feed-forward call's gather: after its 256 trips the scratch buffer of a grid point holds, row by row, the tokens
   whose positions the point's row of words names. -/
module

public import proofs.«01_k».proof.Proof.Gen.MoeIdeal.Value
public import proofs.«01_k».proof.Proof.MoeIdealWords
public import Idealize.ShloMosaic.Lib.Pointwise

@[expose] public section

set_option maxRecDepth 16384

noncomputable section

namespace Cert.MoeIdeal.Gather

open Cert.MoeIdeal Cert.MoeIdeal.Gen Idealize.ShloMosaic Idealize.ShloMosaic.TcCoe Idealize.SL.Sem

variable {F : FTy → Type} [FloatOps F] (m : (ℓ : Loc nD τ sig) → Buf (Elt F) ℓ) (hH : Hyps m)

/-- The loop makes 256 trips. -/
theorem trips_eq : k0_t1_loop.trips = 256 := by decide +kernel

/-- The words of point `t`: which tokens it takes. -/
abbrev wordsOf (c : Dev nD) (t : Fin cfg0.N) : S1x1x256.Idx → BitVec 32 := iblk m c 0 t

/-- The block of tokens of point `t`. -/
abbrev tokensOf (c : Dev nD) (t : Fin cfg0.N) : S1x2048x1024.Idx → F .f32 := iblk m c 2 t

/-- Each word is below the number of tokens. -/
theorem wordsOf_lt (c : Dev nD) (t : Fin cfg0.N) (i : S1x1x256.Idx) : (wordsOf m c t i).toNat < 2048 := by
  unfold wordsOf iblk
  rw [View.read_apply, cast_eq]
  exact Words.words_lt m c _

/-- The gathered block: row `r` is the token the `r`-th word names. -/
abbrev gathered (c : Dev nD) (t : Fin cfg0.N) : S256x1024.Idx → F .f32 := fun y =>
  tokensOf m c t (ix3 (0 : Fin 1) (⟨(wordsOf m c t (ix3 (0 : Fin 1) (0 : Fin 1) (y 0))).toNat, wordsOf_lt m c t _⟩ : Fin 2048) (y 1))

/-- The stores of the trips before `n` at point `t`. -/
abbrev stores (c : Dev nD) (t : Fin cfg0.N) (n : Nat) : List (View.Piece (Elt F) S256x1024 .f32) :=
  pb_k0_t1 Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) scM0_0 (Memref.isWhole_whole _)
    ((hs0_0 t).unread (iblk m c 0 t)) ((hs0_2 t).unread (iblk m c 2 t)) (Hyps.c0 hH c t) n

/-- The word trip `k` reads. -/
abbrev word (c : Dev nD) (t : Fin cfg0.N) (k : Fin k0_t1_loop.trips) : BitVec 32 :=
  (ms0_0 t).view.readAt (Elt F) (Rect.unit (s := S1x1x256) (k0_off1 k) S1x1x1.size (k0_off1_inb k)).toLoadRect
    ((hs0_0 t).unread (iblk m c 0 t)) (Shape.Idx.first (numel1_S1x1x1.symm ▸ Nat.one_pos))

/-- It is the `k`-th word of the point. -/
theorem word_eq (c : Dev nD) (t : Fin cfg0.N) (k : Fin k0_t1_loop.trips) (hk : k.val < 256) :
    word m c t k = wordsOf m c t (ix3 (0 : Fin 1) (0 : Fin 1) (⟨k.val, hk⟩ : Fin 256)) := by
  unfold word
  rw [View.readAt_apply, Memref.IsWhole.read_unread]
  refine congrArg (wordsOf m c t) (funext fun a => Fin.ext ?_)
  have e := k0_off1_eq k
  match a with
  | ⟨0, _⟩ => show k0_off1 k 0 + 1 * 0 = 0; rw [e]; rfl
  | ⟨1, _⟩ => show k0_off1 k 1 + 1 * 0 = 0; rw [e]; rfl
  | ⟨2, _⟩ => show k0_off1 k 2 + 1 * 0 = k.val; rw [e]; rfl

/-- The token trip `k` loads. -/
abbrev loaded (c : Dev nD) (t : Fin cfg0.N) (k : Fin k0_t1_loop.trips) : Vec F S1x1x1024 .f32 :=
  (ms0_2 t).view.readAt (Elt F)
    (Rect.unit (s := S1x2048x1024) (k0_off2 (word m c t k)) S1x1x1024.size
      (k0_off2_inb (word m c t k) (Hyps.c0 hH c t k.val k.isLt))).toLoadRect
    ((hs0_2 t).unread (iblk m c 2 t))

/-- Entry `b` of it: that entry of the token its word names. -/
theorem loaded_at (c : Dev nD) (t : Fin cfg0.N) (k : Fin k0_t1_loop.trips) (hk : k.val < 256) (b : Fin 1024) :
    loaded m hH c t k (ix3 (0 : Fin 1) (0 : Fin 1) b) = gathered m c t (ix2 (⟨k.val, hk⟩ : Fin 256) b) := by
  unfold loaded
  rw [View.readAt_apply, Memref.IsWhole.read_unread]
  refine congrArg (tokensOf m c t) (funext fun a => Fin.ext ?_)
  match a with
  | ⟨0, _⟩ => rfl
  | ⟨1, _⟩ => show (word m c t k).toNat + 1 * 0
                = (wordsOf m c t (ix3 (0 : Fin 1) (0 : Fin 1) (⟨k.val, hk⟩ : Fin 256))).toNat
              rw [word_eq m c t k hk]; omega
  | ⟨2, _⟩ => show 0 + 1 * b.val = b.val; omega

/-- The store of trip `k`: the loaded token, on row `k` of the scratch buffer. -/
abbrev storeOf (c : Dev nD) (t : Fin cfg0.N) (k : Fin k0_t1_loop.trips) : View.Piece (Elt F) S256x1024 .f32 :=
  ⟨Rect.unit (s := S256x1024) (k0_off3 k) S1x1024.size (k0_off3_inb k), k0_pay1 (loaded m hH c t k)⟩

/-- The trips before `k + 1` add that one store to the trips before `k`. -/
theorem stores_succ (c : Dev nD) (t : Fin cfg0.N) (k : Fin k0_t1_loop.trips) :
    stores m hH c t (k.val + 1) = storeOf m hH c t k :: stores m hH c t k.val := by
  unfold stores
  rw [pb_k0_t1_succ]
  unfold tripL_k0_t1 trip_k0_t1
  rfl

/-- What the store of trip `k` writes is row `k` of the gathered block. -/
theorem store_writes (c : Dev nD) (t : Fin cfg0.N) (k : Fin k0_t1_loop.trips) (x : (storeOf m hH c t k).1.shape.Idx) :
    (storeOf m hH c t k).2 x = gathered m c t ((storeOf m hH c t k).1.emb x) := by
  have hk : k.val < 256 := trips_eq ▸ k.isLt
  obtain ⟨a, b, rfl⟩ : ∃ (a : Fin 1) (b : Fin 1024), x = ix2 a b := ⟨x 0, x 1, eq_ix2 x⟩
  have e := k0_off3_eq k
  have hx : (storeOf m hH c t k).1.emb (ix2 a b) = ix2 (⟨k.val, hk⟩ : Fin 256) b := by
    refine funext fun d => Fin.ext ?_
    match d with
    | ⟨0, _⟩ => show k0_off3 k 0 + 1 * a.val = k.val
                rw [e]; show k.val + 1 * a.val = k.val; omega
    | ⟨1, _⟩ => show k0_off3 k 1 + 1 * b.val = b.val
                rw [e]; show 0 + 1 * b.val = b.val; omega
  rw [hx, ← loaded_at m hH c t k hk b]
  show k0_pay1 (loaded m hH c t k) (ix2 a b) = _
  unfold k0_pay1
  refine (shapeCast_apply _ _ _ (ix2 (0 : Fin 1) b) ?_).trans (shapeCast_apply _ _ _ _ ?_)
  · rw [Shape.rowMajor_val_two, Shape.rowMajor_val_two]
    show 0 * 1024 + b.val = a.val * 1024 + b.val; omega
  · rw [Shape.rowMajor_val_three, Shape.rowMajor_val_two]
    show (0 * 1 + 0) * 1024 + b.val = 0 * 1024 + b.val; omega

/-- The store of trip `k` covers row `k`. -/
theorem store_covers (c : Dev nD) (t : Fin cfg0.N) (k : Fin k0_t1_loop.trips) (y : S256x1024.Idx) (hy : (y 0).val = k.val) :
    y ∈ (storeOf m hH c t k).1.set := by
  have e := k0_off3_eq k
  have h1 : (y 1).val < 1024 := (y 1).isLt
  show y ∈ (Rect.unit (s := S256x1024) (k0_off3 k) S1x1024.size (k0_off3_inb k)).set
  rw [Rect.mem_set_unit, e]
  intro a
  match a with
  | ⟨0, _⟩ => show k.val ≤ (y 0).val ∧ (y 0).val < k.val + 1; omega
  | ⟨1, _⟩ => show 0 ≤ (y 1).val ∧ (y 1).val < 0 + 1024; omega

/-- Every store of the first `n` trips writes the gathered block. -/
theorem stores_write (c : Dev nD) (t : Fin cfg0.N) : ∀ n ≤ 256, ∀ p ∈ stores m hH c t n,
    ∀ x : p.1.shape.Idx, p.2 x = gathered m c t (p.1.emb x)
  | 0, _, p, hp => absurd hp List.not_mem_nil
  | n + 1, hn, p, hp => by
    have hk : n < k0_t1_loop.trips := by rw [trips_eq]; omega
    rw [stores_succ m hH c t ⟨n, hk⟩] at hp
    rcases List.mem_cons.mp hp with rfl | hp
    · exact store_writes m hH c t ⟨n, hk⟩
    · exact stores_write c t n (by omega) p hp

/-- The stores of the first `n` trips cover the first `n` rows. -/
theorem stores_cover (c : Dev nD) (t : Fin cfg0.N) (y : S256x1024.Idx) : ∀ n ≤ 256, (y 0).val < n →
    ∃ p ∈ stores m hH c t n, y ∈ p.1.set
  | 0, _, h => absurd h (Nat.not_lt_zero _)
  | n + 1, hn, h => by
    have hk : n < k0_t1_loop.trips := by rw [trips_eq]; omega
    rw [stores_succ m hH c t ⟨n, hk⟩]
    by_cases hy : (y 0).val = n
    · exact ⟨_, List.mem_cons_self, store_covers m hH c t ⟨n, hk⟩ y hy⟩
    · obtain ⟨p, hp, hyp⟩ := stores_cover c t y n (by omega) (by omega)
      exact ⟨p, List.mem_cons_of_mem _ hp, hyp⟩

/-- What the body reads back from the scratch buffer after the loop: the gathered block. -/
theorem scratch_eq (c : Dev nD) (t : Fin cfg0.N) (inb) :
    (View.whole cc0_scratch0).readCov (stores m hH c t (Scf.trips 0#32 (Scalar.addi 0#32 256#32) 1#32))
      (Rect.unit (s := S256x1024) ![0, 0] S256x1024.size inb).toLoadRect = gathered m c t := by
  have hn : Scf.trips 0#32 (Scalar.addi 0#32 256#32) 1#32 = 256 := trips_eq
  rw [hn]
  have hc : ∀ y, ∃ p ∈ stores m hH c t 256, y ∈ p.1.set := fun y => stores_cover m hH c t y 256 le_rfl (y 0).isLt
  rw [View.readCov_eq_canon_ld _ _ _ hc, View.ld_unit_zero (funext fun a => by fin_cases a <;> rfl)]
  exact funext fun y => View.canon_apply_of_pieces (gathered m c t) _ (stores_write m hH c t 256 le_rfl) y (hc y)

end Cert.MoeIdeal.Gather

end
-- ==== Proof.MoeRefRows.lean ====
/- The reference's gather: what its indexing `h[batch, positions]` reads, entry by entry. -/
module

public import proofs.«01_k».proof.Proof.Gen.MoeRefIdeal.Read
public import proofs.«01_k».proof.Proof.TopkRange
public import Idealize.ShloMosaic.Lib.Pointwise
public import Idealize.ShloMosaic.Lib.Pipeline.Value

@[expose] public section

set_option maxRecDepth 16384

noncomputable section

namespace Cert.MoeRefIdeal.Rows

open Cert.MoeRefIdeal Cert.MoeRefIdeal.Gen Cert.MoeRefIdeal.Read Idealize.ShloMosaic Idealize.ShloMosaic.TcCoe Idealize.SL.Sem

variable {F : FTy → Type} [FloatOps F] (x0 : S32x16x2048.Idx → F .f32) (x1 : S32x2048x1024.Idx → F .f32)

/-- Each is below the number of tokens. -/
theorem chosen_lt (i : S32x16x256.Idx) : (val_main_indices (F := F) x0 i).toNat < 2048 := by
  unfold val_main_indices
  exact Cert.TopkRange.position_lt (s := S32x16x2048) S32x16x256 2 _ _ _ (by decide) _

/-- The signed reading of a word below `2 ^ 31` is its unsigned one. -/
theorem signed (w : BitVec 32) (h : w.toNat < 2147483648) : w.toInt = w.toNat := by
  rw [BitVec.toInt_eq_toNat_of_lt (by omega)]

/-- A word below `2 ^ 31` is not negative as a signed integer. -/
theorem not_neg (w : BitVec 32) (h : w.toNat < 2147483648) : ¬ IntOp.cmpi .slt w 0#32 = 1#1 := by
  have e : ¬ (w.toInt < 0) := by rw [signed w h]; omega
  simp [IntOp.cmpi, BitVec.slt, e]

/-- The position word the indexing uses: a position is not negative, so it is taken as it is. -/
theorem wrapped (i : S32x16x256.Idx) : val_main_v11 (F := F) x0 i = val_main_indices (F := F) x0 i := by
  rw [val_main_v11_apply, val_main_v8_apply, val_main_v7_apply]
  exact if_neg (not_neg _ (by have := chosen_lt x0 i; omega))

/-- The batch word the indexing uses: the number of the batch. -/
theorem batch (i : S32x1x1.Idx) : val_main_v6 (F := F) i = BitVec.ofNat 32 (i 0).val := by
  have h0 : (i 0).val < 32 := (i 0).isLt
  rw [val_main_v6_apply, val_main_v3_apply, val_main_v2_apply, val_main_v1_apply, val_main_v0_apply]
  exact if_neg (not_neg _ (by rw [BitVec.toNat_ofNat]; show (i 0).val % _ < _; omega))

/-- The start index of the gather, first component: the number of the batch. -/
theorem start_batch (i : S32x16x256x2.Idx) (h : (i 3).val = 0) :
    val_main_v15 (F := F) x0 i = BitVec.ofNat 32 (i 0).val := by
  unfold val_main_v15
  refine (concatenate_pair_apply_left (s₁ := S32x16x256x1) (s₂ := S32x16x256x1) _ _ _ _ i rfl (ix4 (i 0) (i 1) (i 2) (0 : Fin 1) : S32x16x256x1.Idx) (fun b => ?_)).trans ?_
  · match b with
    | ⟨0, _⟩ => rfl
    | ⟨1, _⟩ => rfl
    | ⟨2, _⟩ => rfl
    | ⟨3, _⟩ => exact h.symm
  · rw [val_main_v13_apply, val_main_v12_apply, batch]; rfl

/-- The start index of the gather, second component: the position. -/
theorem start_position (i : S32x16x256x2.Idx) (h : (i 3).val = 1) :
    val_main_v15 (F := F) x0 i = val_main_indices (F := F) x0 (ix3 (i 0) (i 1) (i 2)) := by
  unfold val_main_v15
  refine (concatenate_pair_apply_right (s₁ := S32x16x256x1) (s₂ := S32x16x256x1) _ _ _ _ i rfl rfl (ix4 (i 0) (i 1) (i 2) (0 : Fin 1) : S32x16x256x1.Idx) (fun b hb => ?_) ?_).trans ?_
  · match b, hb with
    | ⟨0, _⟩, _ => rfl
    | ⟨1, _⟩, _ => rfl
    | ⟨2, _⟩, _ => rfl
    | ⟨3, _⟩, hb => exact absurd rfl hb
  · show 0 + 1 = (i 3).val; omega
  · rw [val_main_v14_apply, wrapped]
    refine congrArg (val_main_indices (F := F) x0) (funext fun a => Fin.ext ?_)
    match a with
    | ⟨0, _⟩ => rfl
    | ⟨1, _⟩ => rfl
    | ⟨2, _⟩ => rfl

/-- The gather's dimension numbers, under a short name. -/
abbrev dims := gather_S32x2048x1024_S32x16x256x2_S32x16x256x1024_3_01_n_n_01_3_111024

/-- The gathered entry: of the batch's tokens the one at the chosen position, the same column. -/
theorem row_at (i : S32x16x256x1024.Idx) : val_main_v16 (F := F) x0 x1 i
    = x1 (ix3 (i 0) (⟨(val_main_indices (F := F) x0 (ix3 (i 0) (i 1) (i 2))).toNat, chosen_lt x0 _⟩ : Fin 2048) (i 3)) := by
  have h0 : (i 0).val < 32 := (i 0).isLt
  unfold val_main_v16 Host.gather
  refine congrArg x1 (funext fun a => Fin.ext ?_)
  show dims.start i (val_main_v15 (F := F) x0) a + dims.batchCoord i a + dims.offCoord i a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide)]
    unfold GatherDims.start
    rw [dif_pos (by decide), start_batch x0 _ rfl, signed _ (by rw [BitVec.toNat_ofNat]; show (i 0).val % _ < _; omega)]
    rw [BitVec.toNat_ofNat]
    show min ((((i 0).val % 2 ^ 32 : Nat) : Int)).toNat (32 - 1) + 0 + 0 = (i 0).val
    omega
  · rw [GatherDims.offCoord_eq_zero _ _ _ (by decide)]
    unfold GatherDims.start
    have hw := chosen_lt x0 (ix3 (i 0) (i 1) (i 2))
    rw [dif_pos (by decide), start_position x0 _ rfl]
    show min (val_main_indices (F := F) x0 (ix3 (i 0) (i 1) (i 2))).toInt.toNat (2048 - 1) + 0 + 0
      = (val_main_indices (F := F) x0 (ix3 (i 0) (i 1) (i 2))).toNat
    rw [signed _ (by omega)]
    omega
  · unfold GatherDims.start GatherDims.offCoord
    rw [dif_neg (by decide), dif_pos (by decide)]
    show 0 + 0 + (i 3).val = (i 3).val
    omega

end Cert.MoeRefIdeal.Rows

end
-- ==== Proof.MoeRefValue.lean ====
/- The reference of the feed-forward call, entry by entry over the extended reals. -/
module

public import proofs.«01_k».proof.Proof.MoeRefRows

@[expose] public section

set_option maxRecDepth 16384

noncomputable section

namespace Cert.MoeRefIdeal.Entry

open Cert.MoeRefIdeal Cert.MoeRefIdeal.Gen Cert.MoeRefIdeal.Read Idealize.ShloMosaic Idealize.ShloMosaic.TcCoe Idealize.SL.Sem

/-- A token times one column of a weight. -/
abbrev mix (x : Fin 1024 → EReal) (w : Fin 1024 → Fin 1024 → EReal) (f : Fin 1024) : EReal := ∑ k : Fin 1024, x k * w k f

/-- One hidden entry of an expert: the gated product of the token's two projections. -/
abbrev hidden (x : Fin 1024 → EReal) (w1 w3 : Fin 1024 → Fin 1024 → EReal) (f : Fin 1024) : EReal :=
  mix x w1 f * Ideal.logistic (mix x w1 f) * mix x w3 f

/-- One entry of an expert's answer to a token, weighted by the token's affinity. -/
abbrev answer (x : Fin 1024 → EReal) (w1 w3 w2 : Fin 1024 → Fin 1024 → EReal) (g : EReal) (d : Fin 1024) : EReal :=
  mix (hidden x w1 w3) w2 d * g

variable (x0 : S32x16x2048.Idx → EReal) (x1 : S32x2048x1024.Idx → EReal) (x2 x3 x4 : S16x1024x1024.Idx → EReal)

/-- The token an expert takes in a slot. -/
abbrev token (b : Fin 32) (e : Fin 16) (r : Fin 256) (k : Fin 1024) : EReal :=
  x1 (ix3 b (⟨(val_main_indices (F := Ideal) x0 (ix3 b e r)).toNat, Rows.chosen_lt (F := Ideal) x0 _⟩ : Fin 2048) k)

/-- The gathered token, at an index given by its four coordinates. -/
theorem token_eq (b : Fin 32) (e : Fin 16) (r : Fin 256) (k : Fin 1024) :
    val_main_v16 (F := Ideal) x0 x1 (ix4 b e r k) = token x0 x1 b e r k := Rows.row_at (F := Ideal) x0 x1 _

/-- The first projection. -/
theorem first_at (b : Fin 32) (e : Fin 16) (r : Fin 256) (f : Fin 1024) :
    val_main_v18 (F := Ideal) x0 x1 x2 (ix4 b e r f) = mix (token x0 x1 b e r) (fun k f => x2 (ix3 e k f)) f := by
  rw [val_main_v18_apply, val_main_v17_apply]
  refine Finset.sum_congr rfl fun k _ => ?_
  rw [mul_comm, ← token_eq]
  congr 1
  · exact congrArg _ (funext fun a => match a with | ⟨0, _⟩ => rfl | ⟨1, _⟩ => rfl | ⟨2, _⟩ => rfl | ⟨3, _⟩ => rfl)
  · exact congrArg _ (funext fun a => match a with | ⟨0, _⟩ => rfl | ⟨1, _⟩ => rfl | ⟨2, _⟩ => rfl)

/-- The second projection. -/
theorem second_at (b : Fin 32) (e : Fin 16) (r : Fin 256) (f : Fin 1024) :
    val_main_v21 (F := Ideal) x0 x1 x3 (ix4 b e r f) = mix (token x0 x1 b e r) (fun k f => x3 (ix3 e k f)) f := by
  rw [val_main_v21_apply, val_main_v20_apply]
  refine Finset.sum_congr rfl fun k _ => ?_
  rw [mul_comm, ← token_eq]
  congr 1
  · exact congrArg _ (funext fun a => match a with | ⟨0, _⟩ => rfl | ⟨1, _⟩ => rfl | ⟨2, _⟩ => rfl | ⟨3, _⟩ => rfl)
  · exact congrArg _ (funext fun a => match a with | ⟨0, _⟩ => rfl | ⟨1, _⟩ => rfl | ⟨2, _⟩ => rfl)

/-- The hidden entry. -/
theorem hidden_at (b : Fin 32) (e : Fin 16) (r : Fin 256) (f : Fin 1024) :
    val_main_v22 (F := Ideal) x0 x1 x2 x3 (ix4 b e r f)
      = hidden (token x0 x1 b e r) (fun k f => x2 (ix3 e k f)) (fun k f => x3 (ix3 e k f)) f := by
  rw [val_main_v22_apply, val_main_v19_apply, val_main_call0_v5_apply, val_main_call0_v4_apply,
    val_main_call0_v3_apply, val_main_call0_v2_apply, val_main_call0_v1_apply, val_main_call0_v0_apply,
    val_main_call0_cst_apply, val_main_call0_cst_0_apply, first_at, second_at]
  simp
  rfl

/-- The third projection, of the hidden entries. -/
theorem third_at (b : Fin 32) (e : Fin 16) (r : Fin 256) (d : Fin 1024) :
    val_main_v24 (F := Ideal) x0 x1 x2 x3 x4 (ix4 b e r d)
      = mix (hidden (token x0 x1 b e r) (fun k f => x2 (ix3 e k f)) (fun k f => x3 (ix3 e k f))) (fun f d => x4 (ix3 e f d)) d := by
  rw [val_main_v24_apply, val_main_v23_apply]
  refine Finset.sum_congr rfl fun k _ => ?_
  rw [mul_comm, ← hidden_at]
  congr 1
  · exact congrArg _ (funext fun a => match a with | ⟨0, _⟩ => rfl | ⟨1, _⟩ => rfl | ⟨2, _⟩ => rfl | ⟨3, _⟩ => rfl)
  · exact congrArg _ (funext fun a => match a with | ⟨0, _⟩ => rfl | ⟨1, _⟩ => rfl | ⟨2, _⟩ => rfl)

/-- One entry of the reference's result, batch and expert given by the merged row. -/
theorem result_at (p : Fin 512) (b : Fin 32) (e : Fin 16) (hp : p.val = b.val * 16 + e.val) (r : Fin 256) (d : Fin 1024) :
    val_main_v28 (F := Ideal) x0 x1 x2 x3 x4 (ix3 p r d)
      = answer (token x0 x1 b e r) (fun k f => x2 (ix3 e k f)) (fun k f => x3 (ix3 e k f)) (fun f d => x4 (ix3 e f d))
          (val_main_values (F := Ideal) x0 (ix3 b e r)) d := by
  rw [val_main_v28_apply]
  have hi : idx_main_v28 (ix3 p r d) = ix4 b e r d := by
    refine funext fun a => Fin.ext ?_
    match a with
    | ⟨0, _⟩ => show ((p.val * 256 + r.val) * 1024 + d.val) / 4194304 = b.val; omega
    | ⟨1, _⟩ => show ((p.val * 256 + r.val) * 1024 + d.val) / 262144 % 16 = e.val; omega
    | ⟨2, _⟩ => show ((p.val * 256 + r.val) * 1024 + d.val) / 1024 % 256 = r.val; omega
    | ⟨3, _⟩ => show ((p.val * 256 + r.val) * 1024 + d.val) % 1024 = d.val; omega
  rw [hi, val_main_v27_apply, third_at, val_main_v26_apply, val_main_v25_apply]
  refine congrArg (mix _ _ d * ·) (congrArg _ (funext fun a => ?_))
  exact match a with | ⟨0, _⟩ => rfl | ⟨1, _⟩ => rfl | ⟨2, _⟩ => rfl

end Cert.MoeRefIdeal.Entry

end
-- ==== Proof.MoeValue.lean ====
/- The feed-forward call: what the kernel leaves in its result array is the reference's result, entry by entry over the
   extended reals. -/
module

public import proofs.«01_k».proof.Proof.MoeGather
public import proofs.«01_k».proof.Proof.MoeRefValue
public import proofs.«01_k».proof.Proof.Gen.MoeRefIdeal.Run

@[expose] public section

set_option maxRecDepth 16384

noncomputable section

namespace Cert.MoeIdeal.Ffn

open Cert.MoeIdeal Cert.MoeIdeal.Gen Idealize.ShloMosaic Idealize.ShloMosaic.TcCoe Idealize.SL.Sem
open Cert.MoeRefIdeal.Entry (mix hidden answer)

variable (m : (ℓ : Loc nD τ sig) → Buf (Elt Ideal) ℓ) (ρ : Dev nD → PrngReg)

/-- The affinities, the tokens and the three weights the program is given. -/
abbrev affinities (c : Dev nD) : S32x16x2048.Idx → EReal := m ((c : Thread nD τ).loc main_arg0)
@[inherit_doc affinities] abbrev tokens (c : Dev nD) : S32x2048x1024.Idx → EReal := m ((c : Thread nD τ).loc main_arg1)
@[inherit_doc affinities] abbrev weight1 (c : Dev nD) : S16x1024x1024.Idx → EReal := m ((c : Thread nD τ).loc main_arg2)
@[inherit_doc affinities] abbrev weight3 (c : Dev nD) : S16x1024x1024.Idx → EReal := m ((c : Thread nD τ).loc main_arg3)
@[inherit_doc affinities] abbrev weight2 (c : Dev nD) : S16x1024x1024.Idx → EReal := m ((c : Thread nD τ).loc main_arg4)

/-- The gates as the grid finds them. -/
abbrev gates (c : Dev nD) : S512x256x1.Idx → EReal := V m c main_v4

/-- They are the top-k's values, batch and expert merged into one row axis. -/
theorem entry_gates (c : Dev nD) : gates m c
    = shapeCast S512x256x1 (Cert.MoeRefIdeal.Read.val_main_values (F := Ideal) (affinities m c) : S32x16x256.Idx → EReal)
        shapeCasts_S32x16x256_S512x256x1 := by
  unfold_abbrev_sides
  after_results <;> rfl

/-- The tokens as the grid finds them: the argument itself. -/
theorem entry_tokens (c : Dev nD) (i : S32x2048x1024.Idx) : V m c main_arg1 i = tokens m c i := by
  rw [V_main_arg1]

/-- The weights as the grid finds them: the arguments themselves, the cast to the narrow format being the identity here. -/
theorem entry_weight1 (c : Dev nD) (i : S16x1024x1024.Idx) : (V m c main_v0 i : EReal) = weight1 m c i := by
  have h : V m c main_v0 = truncf (F := Ideal) .bf16 (m ((c : Thread nD τ).loc main_arg2)) bitsLt_bf16_f32 := by
    unfold_abbrev_sides
    after_results <;> rfl
  show (V m c main_v0 : S16x1024x1024.Idx → Ideal .bf16) i = _
  rw [h]; rfl

@[inherit_doc entry_weight1]
theorem entry_weight3 (c : Dev nD) (i : S16x1024x1024.Idx) : (V m c main_v1 i : EReal) = weight3 m c i := by
  have h : V m c main_v1 = truncf (F := Ideal) .bf16 (m ((c : Thread nD τ).loc main_arg3)) bitsLt_bf16_f32 := by
    unfold_abbrev_sides
    after_results <;> rfl
  show (V m c main_v1 : S16x1024x1024.Idx → Ideal .bf16) i = _
  rw [h]; rfl

@[inherit_doc entry_weight1]
theorem entry_weight2 (c : Dev nD) (i : S16x1024x1024.Idx) : (V m c main_v2 i : EReal) = weight2 m c i := by
  have h : V m c main_v2 = truncf (F := Ideal) .bf16 (m ((c : Thread nD τ).loc main_arg4)) bitsLt_bf16_f32 := by
    unfold_abbrev_sides
    after_results <;> rfl
  show (V m c main_v2 : S16x1024x1024.Idx → Ideal .bf16) i = _
  rw [h]; rfl

/-- Where each window's block lies: point `t` is batch `t / 16` and expert `t % 16`. -/
theorem block_at : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val / 16 ∧ win0_2.index t 1 = 0 ∧ win0_2.index t 2 = 0)
    ∧ (win0_3.index t 0 = t.val % 16 ∧ win0_3.index t 1 = 0 ∧ win0_3.index t 2 = 0)
    ∧ (win0_4.index t 0 = t.val % 16 ∧ win0_4.index t 1 = 0 ∧ win0_4.index t 2 = 0)
    ∧ (win0_5.index t 0 = t.val % 16 ∧ win0_5.index t 1 = 0 ∧ win0_5.index t 2 = 0)
    ∧ (win0_6.index t 0 = t.val ∧ win0_6.index t 1 = 0 ∧ win0_6.index t 2 = 0)
    ∧ (cfg0.win 6).flush t = true :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val / 16 ∧ win0_2.index t 1 = 0 ∧ win0_2.index t 2 = 0)
    ∧ (win0_3.index t 0 = t.val % 16 ∧ win0_3.index t 1 = 0 ∧ win0_3.index t 2 = 0)
    ∧ (win0_4.index t 0 = t.val % 16 ∧ win0_4.index t 1 = 0 ∧ win0_4.index t 2 = 0)
    ∧ (win0_5.index t 0 = t.val % 16 ∧ win0_5.index t 1 = 0 ∧ win0_5.index t 2 = 0)
    ∧ (win0_6.index t 0 = t.val ∧ win0_6.index t 1 = 0 ∧ win0_6.index t 2 = 0)
    ∧ (cfg0.win 6).flush t = true)

/-- The batch and the expert of a point. -/
abbrev batchOf (t : Fin cfg0.N) : Fin 32 := ⟨t.val / 16, by have hN : cfg0.N = 512 := N_0; have := t.isLt; omega⟩
@[inherit_doc batchOf] abbrev expertOf (t : Fin cfg0.N) : Fin 16 := ⟨t.val % 16, Nat.mod_lt _ (by decide)⟩

/-- A point's words: the positions its expert chose in its batch. -/
theorem words_at (c : Dev nD) (t : Fin cfg0.N) (r : Fin 256) :
    Gather.wordsOf m c t (ix3 (0 : Fin 1) (0 : Fin 1) r)
      = Cert.MoeRefIdeal.Read.val_main_indices (F := Ideal) (affinities m c) (ix3 (batchOf t) (expertOf t) r) := by
  have e := (block_at t).1
  have hN : cfg0.N = 512 := N_0
  have ht := t.isLt
  have hb : Gather.wordsOf m c t (ix3 (0 : Fin 1) (0 : Fin 1) r)
      = Words.words m c (ix3 (⟨t.val, by omega⟩ : Fin 512) (0 : Fin 1) r) := by
    unfold Gather.wordsOf iblk
    rw [View.read_apply, cast_eq]
    refine congrArg (V m c main_v3) (funext fun a => Fin.ext ?_)
    match a with
    | ⟨0, _⟩ => show win0_0.index t 0 * 1 + 1 * 0 = t.val
                rw [e.1]; omega
    | ⟨1, _⟩ => show win0_0.index t 1 * 1 + 1 * 0 = 0
                rw [e.2.1]
    | ⟨2, _⟩ => show win0_0.index t 2 * 256 + 1 * r.val = r.val
                rw [e.2.2]; omega
  rw [hb, Words.entry_words]
  refine shapeCast_apply _ _ _ (ix3 (batchOf t) (expertOf t) r) ?_
  rw [Shape.rowMajor_val_three, Shape.rowMajor_val_three]
  show (t.val / 16 * 16 + t.val % 16) * 256 + r.val = (t.val * 1 + 0) * 256 + r.val
  omega

/-- A point's gates: the affinities of the tokens its expert chose. -/
theorem gates_at (c : Dev nD) (t : Fin cfg0.N) (r : Fin 256) :
    (iblk m c 1 t (ix3 (0 : Fin 1) r (0 : Fin 1)) : EReal)
      = Cert.MoeRefIdeal.Read.val_main_values (F := Ideal) (affinities m c) (ix3 (batchOf t) (expertOf t) r) := by
  have e := (block_at t).2.1
  have hN : cfg0.N = 512 := N_0
  have ht := t.isLt
  have hb : (iblk m c 1 t (ix3 (0 : Fin 1) r (0 : Fin 1)) : EReal)
      = gates m c (ix3 (⟨t.val, by omega⟩ : Fin 512) r (0 : Fin 1)) := by
    unfold iblk
    rw [View.read_apply, cast_eq]
    refine congrArg (V m c main_v4) (funext fun a => Fin.ext ?_)
    match a with
    | ⟨0, _⟩ => show win0_1.index t 0 * 1 + 1 * 0 = t.val
                rw [e.1]; omega
    | ⟨1, _⟩ => show win0_1.index t 1 * 256 + 1 * r.val = r.val
                rw [e.2.1]; omega
    | ⟨2, _⟩ => show win0_1.index t 2 * 1 + 1 * 0 = 0
                rw [e.2.2]
  rw [hb, entry_gates]
  refine shapeCast_apply _ _ _ (ix3 (batchOf t) (expertOf t) r) ?_
  rw [Shape.rowMajor_val_three, Shape.rowMajor_val_three]
  show (t.val / 16 * 16 + t.val % 16) * 256 + r.val = (t.val * 256 + r.val) * 1 + 0
  omega

/-- A point's block of tokens: its batch's. -/
theorem tokens_at (c : Dev nD) (t : Fin cfg0.N) (n : Fin 2048) (k : Fin 1024) :
    (Gather.tokensOf m c t (ix3 (0 : Fin 1) n k) : EReal) = tokens m c (ix3 (batchOf t) n k) := by
  have e := (block_at t).2.2.1
  rw [← entry_tokens]
  unfold Gather.tokensOf iblk
  rw [View.read_apply, cast_eq]
  refine congrArg (V m c main_arg1) (funext fun a => Fin.ext ?_)
  match a with
  | ⟨0, _⟩ => show win0_2.index t 0 * 1 + 1 * 0 = t.val / 16
              rw [e.1]; omega
  | ⟨1, _⟩ => show win0_2.index t 1 * 2048 + 1 * n.val = n.val
              rw [e.2.1]; omega
  | ⟨2, _⟩ => show win0_2.index t 2 * 1024 + 1 * k.val = k.val
              rw [e.2.2]; omega

/-- The gathered block of a point: the tokens its expert chose. -/
theorem gathered_at (c : Dev nD) (t : Fin cfg0.N) (r : Fin 256) (k : Fin 1024) :
    (Gather.gathered m c t (ix2 r k) : EReal)
      = Cert.MoeRefIdeal.Entry.token (affinities m c) (tokens m c) (batchOf t) (expertOf t) r k := by
  have hw : (⟨(Gather.wordsOf m c t (ix3 (0 : Fin 1) (0 : Fin 1) r)).toNat, Gather.wordsOf_lt m c t _⟩ : Fin 2048)
      = ⟨(Cert.MoeRefIdeal.Read.val_main_indices (F := Ideal) (affinities m c) (ix3 (batchOf t) (expertOf t) r)).toNat,
          Cert.MoeRefIdeal.Rows.chosen_lt _ _⟩ := by
    apply Fin.ext
    dsimp only
    rw [words_at]
  unfold Gather.gathered Cert.MoeRefIdeal.Entry.token
  rw [← hw]
  exact tokens_at m c t _ k

/-- A point's three weight blocks: its expert's. -/
theorem weight1_at (c : Dev nD) (t : Fin cfg0.N) (k f : Fin 1024) :
    (iblk m c 3 t (ix3 (0 : Fin 1) k f) : EReal) = weight1 m c (ix3 (expertOf t) k f) := by
  have e := (block_at t).2.2.2.1
  rw [← entry_weight1]
  unfold iblk
  rw [View.read_apply, cast_eq]
  refine congrArg (V m c main_v0) (funext fun a => Fin.ext ?_)
  match a with
  | ⟨0, _⟩ => show win0_3.index t 0 * 1 + 1 * 0 = t.val % 16
              rw [e.1]; omega
  | ⟨1, _⟩ => show win0_3.index t 1 * 1024 + 1 * k.val = k.val
              rw [e.2.1]; omega
  | ⟨2, _⟩ => show win0_3.index t 2 * 1024 + 1 * f.val = f.val
              rw [e.2.2]; omega

@[inherit_doc weight1_at]
theorem weight3_at (c : Dev nD) (t : Fin cfg0.N) (k f : Fin 1024) :
    (iblk m c 4 t (ix3 (0 : Fin 1) k f) : EReal) = weight3 m c (ix3 (expertOf t) k f) := by
  have e := (block_at t).2.2.2.2.1
  rw [← entry_weight3]
  unfold iblk
  rw [View.read_apply, cast_eq]
  refine congrArg (V m c main_v1) (funext fun a => Fin.ext ?_)
  match a with
  | ⟨0, _⟩ => show win0_4.index t 0 * 1 + 1 * 0 = t.val % 16
              rw [e.1]; omega
  | ⟨1, _⟩ => show win0_4.index t 1 * 1024 + 1 * k.val = k.val
              rw [e.2.1]; omega
  | ⟨2, _⟩ => show win0_4.index t 2 * 1024 + 1 * f.val = f.val
              rw [e.2.2]; omega

@[inherit_doc weight1_at]
theorem weight2_at (c : Dev nD) (t : Fin cfg0.N) (f d : Fin 1024) :
    (iblk m c 5 t (ix3 (0 : Fin 1) f d) : EReal) = weight2 m c (ix3 (expertOf t) f d) := by
  have e := (block_at t).2.2.2.2.2.1
  rw [← entry_weight2]
  unfold iblk
  rw [View.read_apply, cast_eq]
  refine congrArg (V m c main_v2) (funext fun a => Fin.ext ?_)
  match a with
  | ⟨0, _⟩ => show win0_5.index t 0 * 1 + 1 * 0 = t.val % 16
              rw [e.1]; omega
  | ⟨1, _⟩ => show win0_5.index t 1 * 1024 + 1 * f.val = f.val
              rw [e.2.1]; omega
  | ⟨2, _⟩ => show win0_5.index t 2 * 1024 + 1 * d.val = d.val
              rw [e.2.2]; omega

/-- One entry of what a grid point computes from its gathered block, its expert's weights and its gates. -/
theorem payload_at (x : FVec Ideal S256x1024 .f32) (w1 w3 w2 : FVec Ideal S1x1024x1024 .bf16) (g : FVec Ideal S1x256x1 .f32)
    (a : Fin 1) (r : Fin 256) (d : Fin 1024) :
    k0_pay2 (F := Ideal) x w1 w3 w2 g (ix3 a r d)
      = answer (fun k => x (ix2 r k)) (fun k f => w1 (ix3 (0 : Fin 1) k f)) (fun k f => w3 (ix3 (0 : Fin 1) k f))
          (fun f d => w2 (ix3 (0 : Fin 1) f d)) (g (ix3 (0 : Fin 1) r (0 : Fin 1))) d := by
  pointwise [k0_pay2]

/-- The reference's result for the kernel's arguments. -/
abbrev result (c : Dev nD) : S512x256x1024.Idx → EReal :=
  Cert.MoeRefIdeal.Read.val_main_v28 (F := Ideal) (affinities m c) (tokens m c) (weight1 m c) (weight3 m c) (weight2 m c)

/-- What the body leaves in the result's buffer at a point: the payload at its gathered block and its input blocks. -/
theorem out_eq (c : Dev nD) (t : Fin cfg0.N) : outsAt0 m (Words.hyps m) c t
    = k0_pay2 (Gather.gathered m c t) (iblk m c 3 t) (iblk m c 4 t) (iblk m c 5 t) (iblk m c 1 t) := by
  have origin3 : (![0, 0, 0] : Fin 3 → Nat) = fun _ => 0 := funext fun a => by fin_cases a <;> rfl
  unfold outsAt0 out0_A_6
  rw [View.read_writes_eq_canon _ _ _ (fun y => cover0_A_6 _ _ _ _ _ _ _ _ _ _ _ _ _ _ _ _ _ _ _ _ _ _ _ _ _ y)]
  unfold kernelRun0_A
  dsimp only
  sl_unfold_words
  refine (View.canon_unit_zero origin3 _ _).trans ?_
  rw [View.readAt_eq_ld, View.readAt_eq_ld, View.readAt_eq_ld, View.readAt_eq_ld, Memref.IsWhole.read_unread,
    Memref.IsWhole.read_unread, Memref.IsWhole.read_unread, Memref.IsWhole.read_unread]
  exact congr (congr (congr (congr (congrArg k0_pay2 (Gather.scratch_eq m (Words.hyps m) c t _))
    (View.ld_unit_zero origin3 _ _)) (View.ld_unit_zero origin3 _ _)) (View.ld_unit_zero origin3 _ _))
    (View.ld_unit_zero origin3 _ _)

/-- Where entry `(a, r, d)` of point `t`'s block lies in the result. -/
theorem place_at (t : Fin cfg0.N) (a : Fin 1) (r : Fin 256) (d : Fin 1024) (h : t.val < 512) :
    (win0_6.blk t).view.emb (ix3 a r d) = ix3 (⟨t.val, h⟩ : Fin 512) r d := by
  have e := (block_at t).2.2.2.2.2.2.1
  refine funext fun x => Fin.ext ?_
  match x with
  | ⟨0, _⟩ => show win0_6.index t 0 * 1 + 1 * a.val = t.val
              rw [e.1]; omega
  | ⟨1, _⟩ => show win0_6.index t 1 * 256 + 1 * r.val = r.val
              rw [e.2.1]; omega
  | ⟨2, _⟩ => show win0_6.index t 2 * 1024 + 1 * d.val = d.val
              rw [e.2.2]; omega

/-- What point `t` writes back is its block of the reference's result. -/
theorem flushed_eq (c : Dev nD) (t : Fin cfg0.N) :
    (dats m (Words.hyps m) 0 c).flushed 6 t = (win0_6.blk t).view.read (Elt Ideal) (result m c) := by
  rw [Value.flushed6, out_eq]
  funext j
  show k0_pay2 (F := Ideal) (Gather.gathered m c t) (iblk m c 3 t) (iblk m c 4 t) (iblk m c 5 t) (iblk m c 1 t) j = _
  rw [View.read_apply, cast_eq]
  obtain ⟨a, r, d, rfl⟩ : ∃ (a : Fin 1) (r : Fin 256) (d : Fin 1024), j = ix3 a r d := ⟨j 0, j 1, j 2, eq_ix3 j⟩
  have hN : cfg0.N = 512 := N_0
  have h : t.val < 512 := by have := t.isLt; omega
  rw [place_at t a r d h]
  refine (payload_at _ _ _ _ _ a r d).trans (Eq.trans ?_ (Cert.MoeRefIdeal.Entry.result_at (affinities m c) (tokens m c)
    (weight1 m c) (weight3 m c) (weight2 m c) ⟨t.val, h⟩ (batchOf t) (expertOf t)
    (by show t.val = t.val / 16 * 16 + t.val % 16; omega) r d).symm)
  simp only [gathered_at, weight1_at, weight3_at, weight2_at, gates_at]

/-- Every entry of the result lies in the block of the point its first coordinate names. -/
theorem cover (i : S512x256x1024.Idx) :
    ∃ t : Fin cfg0.N, (cfg0.win 6).flush t = true ∧ i ∈ ((cfg0.win 6).blk t).view.set := by
  have h0 : (i 0).val < 512 := (i 0).isLt
  have h1 : (i 1).val < 256 := (i 1).isLt
  have h2 : (i 2).val < 1024 := (i 2).isLt
  have hN : cfg0.N = 512 := N_0
  have ht : (i 0).val < cfg0.N := by omega
  have e := (block_at ⟨(i 0).val, ht⟩).2.2.2.2.2.2
  refine ⟨⟨(i 0).val, ht⟩, e.2, ?_⟩
  show i ∈ ((View.whole main_v5).slice (win0_6.rect ⟨(i 0).val, ht⟩)).set
  rw [View.set_slice_whole, Rect.mem_set_unit]
  intro a
  match a with
  | ⟨0, _⟩ => show win0_6.index ⟨(i 0).val, ht⟩ 0 * 1 ≤ (i 0).val
                ∧ (i 0).val < win0_6.index ⟨(i 0).val, ht⟩ 0 * 1 + 1
              rw [e.1.1]; dsimp only; omega
  | ⟨1, _⟩ => show win0_6.index ⟨(i 0).val, ht⟩ 1 * 256 ≤ (i 1).val
                ∧ (i 1).val < win0_6.index ⟨(i 0).val, ht⟩ 1 * 256 + 256
              rw [e.1.2.1]; omega
  | ⟨2, _⟩ => show win0_6.index ⟨(i 0).val, ht⟩ 2 * 1024 ≤ (i 2).val
                ∧ (i 2).val < win0_6.index ⟨(i 0).val, ht⟩ 2 * 1024 + 1024
              rw [e.1.2.2]; omega

/-- The result array after the run is the reference's result. -/
theorem final (c : Dev nD) : (dats m (Words.hyps m) 0 c).arrAt 6 cfg0.N = result m c :=
  (dats m (Words.hyps m) 0 c).arrAt_eq_of_cover 6 (result m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ (Words.hyps m))

end Cert.MoeIdeal.Ffn

end
-- ==== Proof.MoeClaims.lean ====
/- The claims about the expert feed-forward. -/
module

public import proofs.«01_k».proof.Defs
public import proofs.«01_k».proof.Proof.MoeWords
public import proofs.«01_k».proof.Proof.MoeIdealWords
public import proofs.«01_k».proof.Proof.MoeValue

@[expose] public section

noncomputable section

namespace Cert.Proof.Moe

open Idealize.ShloMosaic Idealize.SL.Sem

/-- The call runs to its end from any state, in machine words, and leaves its arguments as they were: every row it reads by
    a prefetched word lies within the tokens. -/
theorem frame : Cert.quiescent_Moe := fun m ρ _ => Cert.Moe.Gen.frame m ρ (Cert.Moe.Words.hyps m)

/-- The same over the extended reals. -/
theorem frame_ideal : Cert.quiescent_MoeIdeal := fun m ρ _ => Cert.MoeIdeal.Gen.frame m ρ (Cert.MoeIdeal.Words.hyps m)

/-- The reference runs to its end from any state and leaves its arguments as they were. -/
theorem frame_reference : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- Over the extended reals the call and the reference leave the same result for the same arguments. -/
theorem algebraic : Cert.algebraic_MoeIdeal_MoeRefIdeal := fun m ρ m' ρ' _ hag =>
  ⟨fun c => Cert.MoeIdeal.Ffn.result m c, Cert.MoeIdeal.Ffn.run m ρ,
    (θ_run Cert.MoeRefIdeal.defs _ _).mono
      (fun _ h c => ⟨(h c).1.trans ((Cert.MoeRefIdeal.Read.val_main_v28_eq m' c).trans (by
        unfold Cert.MoeIdeal.Ffn.result
        rw [(hag c).1, (hag c).2.1, (hag c).2.2.1, (hag c).2.2.2.1, (hag c).2.2.2.2])), (h c).2⟩)
      (Cert.MoeRefIdeal.Value.run (F := Ideal) m' ρ')⟩

end Cert.Proof.Moe

end
-- ==== Proof.MmValue.lean ====
/- The square projection `h @ w` (65536 rows of 1024 times 1024 columns, 512 rows a grid point): what the kernel leaves in
   its result array is the reference's product, entry by entry over the extended reals. -/
module

public import proofs.«01_k».proof.Proof.Gen.MmIdeal.Value
public import proofs.«01_k».proof.Proof.Gen.MmRefIdeal.Run
public import proofs.«01_k».proof.Proof.Gen.MmRefIdeal.Read
public import Idealize.ShloMosaic.Lib.Pointwise

@[expose] public section

set_option maxRecDepth 16384

noncomputable section

namespace Cert.MmIdeal.Product

open Cert.MmIdeal Cert.MmIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The activations the program is given. -/
abbrev given (c : Dev nD) : S32x2048x1024.Idx → EReal := m ((c : Thread nD τ).loc main_arg0)

/-- The activations as the grid finds them. -/
abbrev rows (c : Dev nD) : S65536x1024.Idx → EReal := V m c main_v0

/-- The weight as the grid finds it. -/
abbrev weight (c : Dev nD) : S1024x1024.Idx → EReal := V m c main_v1

/-- The activations as the grid finds them: the argument with its two row axes merged. -/
theorem entry_rows (c : Dev nD) : rows m c
    = shapeCast S65536x1024 (given m c) shapeCasts_S32x2048x1024_S65536x1024 := by
  unfold_abbrev_sides
  after_results <;> rfl

/-- The weight as the grid finds it: the argument itself, the cast to the narrow format being the identity here. -/
theorem entry_weight (c : Dev nD) (i : S1024x1024.Idx) : weight m c i = m ((c : Thread nD τ).loc main_arg1) i := by
  have h : V m c main_v1 = truncf (F := Ideal) .bf16 (m ((c : Thread nD τ).loc main_arg1)) bitsLt_bf16_f32 := by
    unfold_abbrev_sides
    after_results <;> rfl
  show (V m c main_v1 : S1024x1024.Idx → Ideal .bf16) i = _
  rw [h]; rfl

/-- Entry `(r, k)` of point `t`'s block of activations. -/
theorem rows_at (c : Dev nD) (t : Fin cfg0.N) (j : S512x1024.Idx) (i : S65536x1024.Idx)
    (h0 : (i 0).val = t.val * 512 + (j 0).val) (h1 : (i 1).val = (j 1).val) :
    iblk m c 0 t j = rows m c i := by
  unfold iblk
  rw [View.read_apply, cast_eq]
  refine congrArg (V m c main_v0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 1024 + 1 * (j 1).val = (i 1).val
              rw [e.1.2, h1]; omega

/-- Entry `(k, n)` of point `t`'s block of the weight: that entry of the weight. -/
theorem weight_at (c : Dev nD) (t : Fin cfg0.N) (j : S1024x1024.Idx) : iblk m c 1 t j = weight m c j := by
  unfold iblk
  rw [View.read_apply, cast_eq]
  refine congrArg (V m c main_v1) (funext fun a => Fin.ext ?_)
  have e := block_at t
  match a with
  | ⟨0, _⟩ => show win0_1.index t 0 * 1024 + 1 * (j 0).val = (j 0).val
              rw [e.2.1.1]; omega
  | ⟨1, _⟩ => show win0_1.index t 1 * 1024 + 1 * (j 1).val = (j 1).val
              rw [e.2.1.2]; omega

/-- One entry of what a grid point computes: its row of activations times the weight's column. -/
theorem payload_at (x : FVec Ideal S512x1024 .f32) (w : FVec Ideal S1024x1024 .bf16) (a : Fin 512) (b : Fin 1024) :
    k0_pay1 (F := Ideal) x w (ix2 a b) = (∑ k : Fin 1024, x (ix2 a k) * w (ix2 k b) : EReal) := by
  pointwise [k0_pay1]

/-- The reference's result for the kernel's arguments. -/
abbrev product (c : Dev nD) : S65536x1024.Idx → EReal :=
  Cert.MmRefIdeal.Read.val_main_v1 (F := Ideal) (m ((c : Thread nD τ).loc main_arg0)) (m ((c : Thread nD τ).loc main_arg1))

/-- One entry of the reference's result: the row of activations, its two row axes merged, times the weight's column. -/
theorem product_at (c : Dev nD) (a : Fin 65536) (b : Fin 1024) :
    product m c (ix2 a b) = (∑ k : Fin 1024, rows m c (ix2 a k) * weight m c (ix2 k b) : EReal) := by
  unfold product
  rw [Cert.MmRefIdeal.Read.val_main_v1_apply, Cert.MmRefIdeal.Read.val_main_v0_apply]
  refine Finset.sum_congr rfl fun k _ => ?_
  rw [entry_weight, entry_rows]
  congr 1
  · symm
    refine shapeCast_apply _ _ _ _ ?_
    rw [Shape.rowMajor_val_three, Shape.rowMajor_val_two]
    show ((a.val * 1024 + b.val) / 2097152 * 2048 + (a.val * 1024 + b.val) / 1024 % 2048) * 1024 + k.val
      = a.val * 1024 + k.val
    omega
  · refine congrArg _ (funext fun d => Fin.ext ?_)
    match d with
    | ⟨0, _⟩ => rfl
    | ⟨1, _⟩ => show (a.val * 1024 + b.val) % 1024 = b.val
                omega

/-- Where entry `(a, b)` of point `t`'s block lies in the result. -/
theorem place_at (t : Fin cfg0.N) (a : Fin 512) (b : Fin 1024) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 1024 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 1024), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x1024.Idx) :
    ∃ t : Fin cfg0.N, (cfg0.win 2).flush t = true ∧ i ∈ ((cfg0.win 2).blk t).view.set := by
  have h0 : (i 0).val < 65536 := (i 0).isLt
  have h1 : (i 1).val < 1024 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v2).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 1024 ≤ (i 1).val
                ∧ (i 1).val < win0_2.index ⟨(i 0).val / 512, ht⟩ 1 * 1024 + 1024
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.MmIdeal.Product

end
-- ==== Proof.MmClaims.lean ====
/- The claims about the square projection. -/
module

public import proofs.«01_k».proof.Defs
public import proofs.«01_k».proof.Proof.Gen.Mm.Frame
public import proofs.«01_k».proof.Proof.Gen.MmIdeal.Frame
public import proofs.«01_k».proof.Proof.MmValue

@[expose] public section

noncomputable section

namespace Cert.Proof.Mm

open Idealize.ShloMosaic Idealize.SL.Sem

/-- The call runs to its end from any state, in machine words, and leaves its arguments as they were. -/
theorem frame : Cert.quiescent_Mm := fun m ρ _ => Cert.Mm.Gen.frame m ρ

/-- The same over the extended reals. -/
theorem frame_ideal : Cert.quiescent_MmIdeal := fun m ρ _ => Cert.MmIdeal.Gen.frame m ρ

/-- The reference runs to its end from any state and leaves its arguments as they were. -/
theorem frame_reference : Cert.quiescent_MmRefIdeal := fun m ρ _ =>
  (θ_run Cert.MmRefIdeal.defs _ _).mono (fun r h => ⟨fun c => (h c).2,
      Idealize.ShloMosaic.sem_eq_zero_of_no_sems (by decide) r.2⟩)
    (Cert.MmRefIdeal.Value.run (F := Ideal) m ρ)

/-- Over the extended reals the call and the reference leave the same result for the same arguments. -/
theorem algebraic : Cert.algebraic_MmIdeal_MmRefIdeal := fun m ρ m' ρ' _ hag =>
  ⟨fun c => Cert.MmIdeal.Product.product m c, Cert.MmIdeal.Product.run m ρ,
    (θ_run Cert.MmRefIdeal.defs _ _).mono
      (fun _ h c => ⟨(h c).1.trans (by unfold Cert.MmIdeal.Product.product; rw [(hag c).1, (hag c).2]; rfl), (h c).2⟩)
      (Cert.MmRefIdeal.Value.run (F := Ideal) m' ρ')⟩

end Cert.Proof.Mm

end
-- ==== Proof.MmInValue.lean ====
/- The joint projection `h @ w` into the streams of the time mixing (65536 rows of 1024 times 1792 columns, 512 rows
   a grid point): what the kernel leaves in
   its result array is the reference's product, entry by entry over the extended reals. -/
module

public import proofs.«01_k».proof.Proof.Gen.MmInIdeal.Value
public import proofs.«01_k».proof.Proof.Gen.MmInRefIdeal.Run
public import proofs.«01_k».proof.Proof.Gen.MmInRefIdeal.Read
public import Idealize.ShloMosaic.Lib.Pointwise

@[expose] public section

set_option maxRecDepth 16384

noncomputable section

namespace Cert.MmInIdeal.Product

open Cert.MmInIdeal Cert.MmInIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The activations the program is given. -/
abbrev given (c : Dev nD) : S32x2048x1024.Idx → EReal := m ((c : Thread nD τ).loc main_arg0)

/-- The activations as the grid finds them. -/
abbrev rows (c : Dev nD) : S65536x1024.Idx → EReal := V m c main_v0

/-- The weight as the grid finds it. -/
abbrev weight (c : Dev nD) : S1024x1792.Idx → EReal := V m c main_v1

/-- The activations as the grid finds them: the argument with its two row axes merged. -/
theorem entry_rows (c : Dev nD) : rows m c
    = shapeCast S65536x1024 (given m c) shapeCasts_S32x2048x1024_S65536x1024 := by
  unfold_abbrev_sides
  after_results <;> rfl

/-- The weight as the grid finds it: the argument itself, the cast to the narrow format being the identity here. -/
theorem entry_weight (c : Dev nD) (i : S1024x1792.Idx) : weight m c i = m ((c : Thread nD τ).loc main_arg1) i := by
  have h : V m c main_v1 = truncf (F := Ideal) .bf16 (m ((c : Thread nD τ).loc main_arg1)) bitsLt_bf16_f32 := by
    unfold_abbrev_sides
    after_results <;> rfl
  show (V m c main_v1 : S1024x1792.Idx → Ideal .bf16) i = _
  rw [h]; rfl

/-- Entry `(r, k)` of point `t`'s block of activations. -/
theorem rows_at (c : Dev nD) (t : Fin cfg0.N) (j : S512x1024.Idx) (i : S65536x1024.Idx)
    (h0 : (i 0).val = t.val * 512 + (j 0).val) (h1 : (i 1).val = (j 1).val) :
    iblk m c 0 t j = rows m c i := by
  unfold iblk
  rw [View.read_apply, cast_eq]
  refine congrArg (V m c main_v0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 1024 + 1 * (j 1).val = (i 1).val
              rw [e.1.2, h1]; omega

/-- Entry `(k, n)` of point `t`'s block of the weight: that entry of the weight. -/
theorem weight_at (c : Dev nD) (t : Fin cfg0.N) (j : S1024x1792.Idx) : iblk m c 1 t j = weight m c j := by
  unfold iblk
  rw [View.read_apply, cast_eq]
  refine congrArg (V m c main_v1) (funext fun a => Fin.ext ?_)
  have e := block_at t
  match a with
  | ⟨0, _⟩ => show win0_1.index t 0 * 1024 + 1 * (j 0).val = (j 0).val
              rw [e.2.1.1]; omega
  | ⟨1, _⟩ => show win0_1.index t 1 * 1792 + 1 * (j 1).val = (j 1).val
              rw [e.2.1.2]; omega

/-- One entry of what a grid point computes: its row of activations times the weight's column. -/
theorem payload_at (x : FVec Ideal S512x1024 .f32) (w : FVec Ideal S1024x1792 .bf16) (a : Fin 512) (b : Fin 1792) :
    k0_pay1 (F := Ideal) x w (ix2 a b) = (∑ k : Fin 1024, x (ix2 a k) * w (ix2 k b) : EReal) := by
  pointwise [k0_pay1]

/-- The reference's result for the kernel's arguments. -/
abbrev product (c : Dev nD) : S65536x1792.Idx → EReal :=
  Cert.MmInRefIdeal.Read.val_main_v1 (F := Ideal) (m ((c : Thread nD τ).loc main_arg0)) (m ((c : Thread nD τ).loc main_arg1))

/-- One entry of the reference's result: the row of activations, its two row axes merged, times the weight's column. -/
theorem product_at (c : Dev nD) (a : Fin 65536) (b : Fin 1792) :
    product m c (ix2 a b) = (∑ k : Fin 1024, rows m c (ix2 a k) * weight m c (ix2 k b) : EReal) := by
  unfold product
  rw [Cert.MmInRefIdeal.Read.val_main_v1_apply, Cert.MmInRefIdeal.Read.val_main_v0_apply]
  refine Finset.sum_congr rfl fun k _ => ?_
  rw [entry_weight, entry_rows]
  congr 1
  · symm
    refine shapeCast_apply _ _ _ _ ?_
    rw [Shape.rowMajor_val_three, Shape.rowMajor_val_two]
    show ((a.val * 1792 + b.val) / 3670016 * 2048 + (a.val * 1792 + b.val) / 1792 % 2048) * 1024 + k.val
      = a.val * 1024 + k.val
    omega
  · refine congrArg _ (funext fun d => Fin.ext ?_)
    match d with
    | ⟨0, _⟩ => rfl
    | ⟨1, _⟩ => show (a.val * 1792 + b.val) % 1792 = b.val
                omega

/-- Where entry `(a, b)` of point `t`'s block lies in the result. -/
theorem place_at (t : Fin cfg0.N) (a : Fin 512) (b : Fin 1792) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 1792 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 1792), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x1792.Idx) :
    ∃ t : Fin cfg0.N, (cfg0.win 2).flush t = true ∧ i ∈ ((cfg0.win 2).blk t).view.set := by
  have h0 : (i 0).val < 65536 := (i 0).isLt
  have h1 : (i 1).val < 1792 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v2).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 1792 ≤ (i 1).val
                ∧ (i 1).val < win0_2.index ⟨(i 0).val / 512, ht⟩ 1 * 1792 + 1792
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.MmInIdeal.Product

end
-- ==== Proof.MmInClaims.lean ====
/- The claims about the wide projection. -/
module

public import proofs.«01_k».proof.Defs
public import proofs.«01_k».proof.Proof.Gen.MmIn.Frame
public import proofs.«01_k».proof.Proof.Gen.MmInIdeal.Frame
public import proofs.«01_k».proof.Proof.MmInValue

@[expose] public section

noncomputable section

namespace Cert.Proof.MmIn

open Idealize.ShloMosaic Idealize.SL.Sem

/-- The call runs to its end from any state, in machine words, and leaves its arguments as they were. -/
theorem frame : Cert.quiescent_MmIn := fun m ρ _ => Cert.MmIn.Gen.frame m ρ

/-- The same over the extended reals. -/
theorem frame_ideal : Cert.quiescent_MmInIdeal := fun m ρ _ => Cert.MmInIdeal.Gen.frame m ρ

/-- The reference runs to its end from any state and leaves its arguments as they were. -/
theorem frame_reference : Cert.quiescent_MmInRefIdeal := fun m ρ _ =>
  (θ_run Cert.MmInRefIdeal.defs _ _).mono (fun r h => ⟨fun c => (h c).2,
      Idealize.ShloMosaic.sem_eq_zero_of_no_sems (by decide) r.2⟩)
    (Cert.MmInRefIdeal.Value.run (F := Ideal) m ρ)

/-- Over the extended reals the call and the reference leave the same result for the same arguments. -/
theorem algebraic : Cert.algebraic_MmInIdeal_MmInRefIdeal := fun m ρ m' ρ' _ hag =>
  ⟨fun c => Cert.MmInIdeal.Product.product m c, Cert.MmInIdeal.Product.run m ρ,
    (θ_run Cert.MmInRefIdeal.defs _ _).mono
      (fun _ h c => ⟨(h c).1.trans (by unfold Cert.MmInIdeal.Product.product; rw [(hag c).1, (hag c).2]; rfl), (h c).2⟩)
      (Cert.MmInRefIdeal.Value.run (F := Ideal) m' ρ')⟩

end Cert.Proof.MmIn

end
-- ==== Proof.LoraDownValue.lean ====
/- The first factors of the two low-rank maps, as one product with the two weights side by side (65536 rows of 1024 times
   128 columns, 512 rows a grid point): what the kernel leaves in its result array is the reference's two products side by
   side, entry by entry over the extended reals. -/
module

public import proofs.«01_k».proof.Proof.Gen.LoraDownIdeal.Value
public import proofs.«01_k».proof.Proof.Gen.LoraDownRefIdeal.Run
public import proofs.«01_k».proof.Proof.Gen.LoraDownRefIdeal.Read
public import Idealize.ShloMosaic.Lib.Pointwise

@[expose] public section

set_option maxRecDepth 16384

noncomputable section

namespace Cert.LoraDownIdeal.Product

open Cert.LoraDownIdeal Cert.LoraDownIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The activations and the two weights the program is given. -/
abbrev given (c : Dev nD) : S32x2048x1024.Idx → EReal := m ((c : Thread nD τ).loc main_arg0)
@[inherit_doc given] abbrev factors (c : Dev nD) : S2x1024x64.Idx → EReal := m ((c : Thread nD τ).loc main_arg1)

/-- The activations as the grid finds them. -/
abbrev rows (c : Dev nD) : S65536x1024.Idx → EReal := V m c main_v0

/-- The weight as the grid finds it. -/
abbrev weight (c : Dev nD) : S1024x128.Idx → EReal := V m c main_v6

/-- The activations as the grid finds them: the argument with its two row axes merged. -/
theorem entry_rows (c : Dev nD) : rows m c
    = shapeCast S65536x1024 (given m c) shapeCasts_S32x2048x1024_S65536x1024 := by
  unfold_abbrev_sides
  after_results <;> rfl

/-- The weight as the grid finds it: the two factors side by side. -/
theorem entry_weight (c : Dev nD) (k : Fin 1024) (b : Fin 128) : weight m c (ix2 k b)
    = if h : b.val < 64 then factors m c (ix3 (0 : Fin 2) k ⟨b.val, h⟩)
      else factors m c (ix3 (1 : Fin 2) k ⟨b.val - 64, by omega⟩) := by
  have h : V m c main_v6 = truncf (F := Ideal) .bf16 (concatenate S1024x128 1
      [⟨S1024x64, shapeCast S1024x64 (extractStridedSlice S1x1024x64 ![0, 0, 0] (factors m c)
          slices_S2x1024x64_S1x1024x64_0_0_0) shapeCasts_S1x1024x64_S1024x64⟩,
        ⟨S1024x64, shapeCast S1024x64 (extractStridedSlice S1x1024x64 ![1, 0, 0] (factors m c)
          slices_S2x1024x64_S1x1024x64_1_0_0) shapeCasts_S1x1024x64_S1024x64⟩]
      concatenates_S1024x64_S1024x64_S1024x128_d1) bitsLt_bf16_f32 := by
    unfold_abbrev_sides
    after_results <;> rfl
  show (V m c main_v6 : S1024x128.Idx → Ideal .bf16) _ = _
  rw [h]
  generalize factors m c = w
  pointwise []

/-- Entry `(r, k)` of point `t`'s block of activations. -/
theorem rows_at (c : Dev nD) (t : Fin cfg0.N) (j : S512x1024.Idx) (i : S65536x1024.Idx)
    (h0 : (i 0).val = t.val * 512 + (j 0).val) (h1 : (i 1).val = (j 1).val) :
    iblk m c 0 t j = rows m c i := by
  unfold iblk
  rw [View.read_apply, cast_eq]
  refine congrArg (V m c main_v0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 1024 + 1 * (j 1).val = (i 1).val
              rw [e.1.2, h1]; omega

/-- Entry `(k, n)` of point `t`'s block of the weight: that entry of the weight. -/
theorem weight_at (c : Dev nD) (t : Fin cfg0.N) (j : S1024x128.Idx) : iblk m c 1 t j = weight m c j := by
  unfold iblk
  rw [View.read_apply, cast_eq]
  refine congrArg (V m c main_v6) (funext fun a => Fin.ext ?_)
  have e := block_at t
  match a with
  | ⟨0, _⟩ => show win0_1.index t 0 * 1024 + 1 * (j 0).val = (j 0).val
              rw [e.2.1.1]; omega
  | ⟨1, _⟩ => show win0_1.index t 1 * 128 + 1 * (j 1).val = (j 1).val
              rw [e.2.1.2]; omega

/-- One entry of what a grid point computes: its row of activations times the weight's column. -/
theorem payload_at (x : FVec Ideal S512x1024 .f32) (w : FVec Ideal S1024x128 .bf16) (a : Fin 512) (b : Fin 128) :
    k0_pay1 (F := Ideal) x w (ix2 a b) = (∑ k : Fin 1024, x (ix2 a k) * w (ix2 k b) : EReal) := by
  pointwise [k0_pay1]

/-- The reference's result for the kernel's arguments. -/
abbrev product (c : Dev nD) : S65536x128.Idx → EReal :=
  Cert.LoraDownRefIdeal.Read.val_main_v7 (F := Ideal) (given m c) (factors m c)

open Cert.LoraDownRefIdeal.Read in
/-- One entry of the reference's result: the row of activations, its two row axes merged, times the column of the factor. -/
theorem product_at (c : Dev nD) (a : Fin 65536) (b : Fin 128) :
    product m c (ix2 a b) = (∑ k : Fin 1024, rows m c (ix2 a k) * weight m c (ix2 k b) : EReal) := by
  rw [Finset.sum_congr rfl fun k _ => congrArg₂ (fun x y : EReal => x * y) (congrFun (entry_rows m c) (ix2 a k)) (entry_weight m c k b)]
  unfold product
  generalize given m c = x
  generalize factors m c = w
  have hr : ∀ k : Fin 1024, shapeCast S65536x1024 x shapeCasts_S32x2048x1024_S65536x1024 (ix2 a k)
      = x (ix3 (⟨a.val / 2048, by omega⟩ : Fin 32) (⟨a.val % 2048, by omega⟩ : Fin 2048) k) := fun k => by
    refine shapeCast_apply _ _ _ _ ?_
    rw [Shape.rowMajor_val_three, Shape.rowMajor_val_two]
    show (a.val / 2048 * 2048 + a.val % 2048) * 1024 + k.val = a.val * 1024 + k.val
    omega
  simp only [hr]
  by_cases hb : b.val < 64
  · simp only [dif_pos hb]
    pointwise [val_main_v7, val_main_v6, val_main_v5, val_main_v4, val_main_v3, val_main_v2, val_main_v1, val_main_v0]
    exact dif_pos hb
  · simp only [dif_neg hb]
    pointwise [val_main_v7, val_main_v6, val_main_v5, val_main_v4, val_main_v3, val_main_v2, val_main_v1, val_main_v0]
    exact dif_neg hb

/-- Where entry `(a, b)` of point `t`'s block lies in the result. -/
theorem place_at (t : Fin cfg0.N) (a : Fin 512) (b : Fin 128) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 128 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 128), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x128.Idx) :
    ∃ t : Fin cfg0.N, (cfg0.win 2).flush t = true ∧ i ∈ ((cfg0.win 2).blk t).view.set := by
  have h0 : (i 0).val < 65536 := (i 0).isLt
  have h1 : (i 1).val < 128 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v7).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 128 ≤ (i 1).val
                ∧ (i 1).val < win0_2.index ⟨(i 0).val / 512, ht⟩ 1 * 128 + 128
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v7) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.LoraDownIdeal.Product

end
-- ==== Proof.LoraDownClaims.lean ====
/- The claims about the first factors of the low-rank maps. -/
module

public import proofs.«01_k».proof.Defs
public import proofs.«01_k».proof.Proof.Gen.LoraDown.Frame
public import proofs.«01_k».proof.Proof.Gen.LoraDownIdeal.Frame
public import proofs.«01_k».proof.Proof.LoraDownValue

@[expose] public section

noncomputable section

namespace Cert.Proof.LoraDown

open Idealize.ShloMosaic Idealize.SL.Sem

/-- The call runs to its end from any state, in machine words, and leaves its arguments as they were. -/
theorem frame : Cert.quiescent_LoraDown := fun m ρ _ => Cert.LoraDown.Gen.frame m ρ

/-- The same over the extended reals. -/
theorem frame_ideal : Cert.quiescent_LoraDownIdeal := fun m ρ _ => Cert.LoraDownIdeal.Gen.frame m ρ

/-- The reference runs to its end from any state and leaves its arguments as they were. -/
theorem frame_reference : Cert.quiescent_LoraDownRefIdeal := fun m ρ _ =>
  (θ_run Cert.LoraDownRefIdeal.defs _ _).mono (fun r h => ⟨fun c => (h c).2,
      Idealize.ShloMosaic.sem_eq_zero_of_no_sems (by decide) r.2⟩)
    (Cert.LoraDownRefIdeal.Value.run (F := Ideal) m ρ)

/-- Over the extended reals the call and the reference leave the same result for the same arguments. -/
theorem algebraic : Cert.algebraic_LoraDownIdeal_LoraDownRefIdeal := fun m ρ m' ρ' _ hag =>
  ⟨fun c => Cert.LoraDownIdeal.Product.product m c, Cert.LoraDownIdeal.Product.run m ρ,
    (θ_run Cert.LoraDownRefIdeal.defs _ _).mono
      (fun _ h c => ⟨(h c).1.trans (by unfold Cert.LoraDownIdeal.Product.product; rw [(hag c).1, (hag c).2]; rfl), (h c).2⟩)
      (Cert.LoraDownRefIdeal.Value.run (F := Ideal) m' ρ')⟩

end Cert.Proof.LoraDown

end
-- ==== Proof.LoraUpValue.lean ====
/- The second factors of the two low-rank maps, as one product with a block-diagonal weight (65536 rows of 128 times 2048
   columns, 512 rows a grid point): what the kernel leaves in its result array is the reference's two products side by side,
   entry by entry over the extended reals. -/
module

public import proofs.«01_k».proof.Proof.Gen.LoraUpIdeal.Value
public import proofs.«01_k».proof.Proof.Gen.LoraUpRefIdeal.Run
public import proofs.«01_k».proof.Proof.Gen.LoraUpRefIdeal.Read
public import Idealize.ShloMosaic.Lib.Pointwise

@[expose] public section

set_option maxRecDepth 16384

noncomputable section

namespace Cert.LoraUpIdeal.Product

open Cert.LoraUpIdeal Cert.LoraUpIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The rows and the two factors the program is given. -/
abbrev given (c : Dev nD) : S65536x128.Idx → EReal := m ((c : Thread nD τ).loc main_arg0)
@[inherit_doc given] abbrev factors (c : Dev nD) : S2x64x1024.Idx → EReal := m ((c : Thread nD τ).loc main_arg1)

/-- The rows as the grid finds them. -/
abbrev rows (c : Dev nD) : S65536x128.Idx → EReal := V m c main_arg0

/-- The weight as the grid finds it. -/
abbrev weight (c : Dev nD) : S128x2048.Idx → EReal := V m c main_v10

/-- The rows as the grid finds them: the argument. -/
theorem entry_rows (c : Dev nD) : rows m c = given m c := V_main_arg0 m c

/-- The word of zero, over the extended reals. -/
theorem zero_word : Ideal.ofBits .f32 0x00000000#32 = (0 : EReal) := by simp [Ideal.ofBits, Ideal.ieee]

/-- The weight as the grid finds it: the two factors on the diagonal, zeros beside them. -/
theorem entry_weight (c : Dev nD) (k : Fin 128) (b : Fin 2048) : weight m c (ix2 k b)
    = if h : k.val < 64 then
        if h' : b.val < 1024 then factors m c (ix3 (0 : Fin 2) ⟨k.val, h⟩ ⟨b.val, h'⟩) else 0
      else if h' : b.val < 1024 then 0 else factors m c (ix3 (1 : Fin 2) ⟨k.val - 64, by omega⟩ ⟨b.val - 1024, by omega⟩) := by
  have h : V m c main_v10 = truncf (F := Ideal) .bf16 (concatenate S128x2048 0
      [⟨S64x2048, concatenate S64x2048 1
          [⟨S64x1024, shapeCast S64x1024 (extractStridedSlice S1x64x1024 ![0, 0, 0] (factors m c)
              slices_S2x64x1024_S1x64x1024_0_0_0) shapeCasts_S1x64x1024_S64x1024⟩,
            ⟨S64x1024, broadcastInDim S64x1024 ![] bcast_S_S64x1024 (constant (F := Ideal) S_ .f32 0x00000000#32)⟩]
          concatenates_S64x1024_S64x1024_S64x2048_d1⟩,
        ⟨S64x2048, concatenate S64x2048 1
          [⟨S64x1024, broadcastInDim S64x1024 ![] bcast_S_S64x1024 (constant (F := Ideal) S_ .f32 0x00000000#32)⟩,
            ⟨S64x1024, shapeCast S64x1024 (extractStridedSlice S1x64x1024 ![1, 0, 0] (factors m c)
              slices_S2x64x1024_S1x64x1024_1_0_0) shapeCasts_S1x64x1024_S64x1024⟩]
          concatenates_S64x1024_S64x1024_S64x2048_d1⟩]
      concatenates_S64x2048_S64x2048_S128x2048_d0) bitsLt_bf16_f32 := by
    unfold_abbrev_sides
    after_results <;> rfl
  show (V m c main_v10 : S128x2048.Idx → Ideal .bf16) _ = _
  rw [h]
  generalize factors m c = w
  rw [← zero_word]
  pointwise []

/-- Entry `(r, k)` of point `t`'s block of activations. -/
theorem rows_at (c : Dev nD) (t : Fin cfg0.N) (j : S512x128.Idx) (i : S65536x128.Idx)
    (h0 : (i 0).val = t.val * 512 + (j 0).val) (h1 : (i 1).val = (j 1).val) :
    iblk m c 0 t j = rows m c i := by
  unfold iblk
  rw [View.read_apply, cast_eq]
  refine congrArg (V m c main_arg0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 128 + 1 * (j 1).val = (i 1).val
              rw [e.1.2, h1]; omega

/-- Entry `(k, n)` of point `t`'s block of the weight: that entry of the weight. -/
theorem weight_at (c : Dev nD) (t : Fin cfg0.N) (j : S128x2048.Idx) : iblk m c 1 t j = weight m c j := by
  unfold iblk
  rw [View.read_apply, cast_eq]
  refine congrArg (V m c main_v10) (funext fun a => Fin.ext ?_)
  have e := block_at t
  match a with
  | ⟨0, _⟩ => show win0_1.index t 0 * 128 + 1 * (j 0).val = (j 0).val
              rw [e.2.1.1]; omega
  | ⟨1, _⟩ => show win0_1.index t 1 * 2048 + 1 * (j 1).val = (j 1).val
              rw [e.2.1.2]; omega

/-- One entry of what a grid point computes: its row of activations times the weight's column. -/
theorem payload_at (x : FVec Ideal S512x128 .f32) (w : FVec Ideal S128x2048 .bf16) (a : Fin 512) (b : Fin 2048) :
    k0_pay1 (F := Ideal) x w (ix2 a b) = (∑ k : Fin 128, x (ix2 a k) * w (ix2 k b) : EReal) := by
  pointwise [k0_pay1]

/-- The reference's result for the kernel's arguments. -/
abbrev product (c : Dev nD) : S65536x2048.Idx → EReal :=
  Cert.LoraUpRefIdeal.Read.val_main_v8 (F := Ideal) (given m c) (factors m c)

/-- A sum over 128 terms, its two halves apart. -/
theorem halves (f : Fin 128 → EReal) :
    ∑ k, f k = ∑ k : Fin 64, f ⟨k.val, by omega⟩ + ∑ k : Fin 64, f ⟨64 + k.val, by omega⟩ :=
  Fin.sum_univ_add (a := 64) (b := 64) f

open Cert.LoraUpRefIdeal.Read in
/-- One entry of the reference's result: half of the row times the column of one factor. The other half meets zeros. -/
theorem product_at (c : Dev nD) (a : Fin 65536) (b : Fin 2048) :
    product m c (ix2 a b) = (∑ k : Fin 128, rows m c (ix2 a k) * weight m c (ix2 k b) : EReal) := by
  have hk : ∀ k : Fin 64, k.val < 64 := fun k => k.isLt
  have hn : ∀ k : Fin 64, ¬ 64 + k.val < 64 := fun k => by omega
  rw [Finset.sum_congr rfl fun k _ => congrArg₂ (fun x y : EReal => x * y) (congrFun (entry_rows m c) (ix2 a k)) (entry_weight m c k b)]
  rw [halves]
  simp only [hk, hn, dif_pos, dif_neg, not_false_eq_true]
  unfold product
  generalize given m c = x
  generalize factors m c = w
  by_cases hb : b.val < 1024
  · simp only [dif_pos hb, mul_zero, Finset.sum_const_zero, add_zero]
    pointwise [val_main_v8, val_main_v7, val_main_v6, val_main_v5, val_main_v4, val_main_v3, val_main_v2, val_main_v1, val_main_v0]
    exact dif_pos hb
  · simp only [dif_neg hb, mul_zero, Finset.sum_const_zero, zero_add, Nat.add_sub_cancel_left]
    pointwise [val_main_v8, val_main_v7, val_main_v6, val_main_v5, val_main_v4, val_main_v3, val_main_v2, val_main_v1, val_main_v0]
    exact dif_neg hb

/-- Where entry `(a, b)` of point `t`'s block lies in the result. -/
theorem place_at (t : Fin cfg0.N) (a : Fin 512) (b : Fin 2048) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 2048 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 2048), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x2048.Idx) :
    ∃ t : Fin cfg0.N, (cfg0.win 2).flush t = true ∧ i ∈ ((cfg0.win 2).blk t).view.set := by
  have h0 : (i 0).val < 65536 := (i 0).isLt
  have h1 : (i 1).val < 2048 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v11).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 2048 ≤ (i 1).val
                ∧ (i 1).val < win0_2.index ⟨(i 0).val / 512, ht⟩ 1 * 2048 + 2048
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v11) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.LoraUpIdeal.Product

end
-- ==== Proof.LoraUpClaims.lean ====
/- The claims about the second factors of the low-rank maps. -/
module

public import proofs.«01_k».proof.Defs
public import proofs.«01_k».proof.Proof.Gen.LoraUp.Frame
public import proofs.«01_k».proof.Proof.Gen.LoraUpIdeal.Frame
public import proofs.«01_k».proof.Proof.LoraUpValue

@[expose] public section

noncomputable section

namespace Cert.Proof.LoraUp

open Idealize.ShloMosaic Idealize.SL.Sem

/-- The call runs to its end from any state, in machine words, and leaves its arguments as they were. -/
theorem frame : Cert.quiescent_LoraUp := fun m ρ _ => Cert.LoraUp.Gen.frame m ρ

/-- The same over the extended reals. -/
theorem frame_ideal : Cert.quiescent_LoraUpIdeal := fun m ρ _ => Cert.LoraUpIdeal.Gen.frame m ρ

/-- The reference runs to its end from any state and leaves its arguments as they were. -/
theorem frame_reference : Cert.quiescent_LoraUpRefIdeal := fun m ρ _ =>
  (θ_run Cert.LoraUpRefIdeal.defs _ _).mono (fun r h => ⟨fun c => (h c).2,
      Idealize.ShloMosaic.sem_eq_zero_of_no_sems (by decide) r.2⟩)
    (Cert.LoraUpRefIdeal.Value.run (F := Ideal) m ρ)

/-- Over the extended reals the call and the reference leave the same result for the same arguments. -/
theorem algebraic : Cert.algebraic_LoraUpIdeal_LoraUpRefIdeal := fun m ρ m' ρ' _ hag =>
  ⟨fun c => Cert.LoraUpIdeal.Product.product m c, Cert.LoraUpIdeal.Product.run m ρ,
    (θ_run Cert.LoraUpRefIdeal.defs _ _).mono
      (fun _ h c => ⟨(h c).1.trans (by unfold Cert.LoraUpIdeal.Product.product; rw [(hag c).1, (hag c).2]; rfl), (h c).2⟩)
      (Cert.LoraUpRefIdeal.Value.run (F := Ideal) m' ρ')⟩

end Cert.Proof.LoraUp

end
-- ==== Proof.GateDownValue.lean ====
/- The first factor of the output gate, `h @ w` (65536 rows of 1024 times 160 columns, 512 rows a grid point): what the kernel leaves in
   its result array is the reference's product, entry by entry over the extended reals. -/
module

public import proofs.«01_k».proof.Proof.Gen.GateDownIdeal.Value
public import proofs.«01_k».proof.Proof.Gen.GateDownRefIdeal.Run
public import proofs.«01_k».proof.Proof.Gen.GateDownRefIdeal.Read
public import Idealize.ShloMosaic.Lib.Pointwise

@[expose] public section

set_option maxRecDepth 16384

noncomputable section

namespace Cert.GateDownIdeal.Product

open Cert.GateDownIdeal Cert.GateDownIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The activations the program is given. -/
abbrev given (c : Dev nD) : S32x2048x1024.Idx → EReal := m ((c : Thread nD τ).loc main_arg0)

/-- The activations as the grid finds them. -/
abbrev rows (c : Dev nD) : S65536x1024.Idx → EReal := V m c main_v0

/-- The weight as the grid finds it. -/
abbrev weight (c : Dev nD) : S1024x160.Idx → EReal := V m c main_v1

/-- The activations as the grid finds them: the argument with its two row axes merged. -/
theorem entry_rows (c : Dev nD) : rows m c
    = shapeCast S65536x1024 (given m c) shapeCasts_S32x2048x1024_S65536x1024 := by
  unfold_abbrev_sides
  after_results <;> rfl

/-- The weight as the grid finds it: the argument itself, the cast to the narrow format being the identity here. -/
theorem entry_weight (c : Dev nD) (i : S1024x160.Idx) : weight m c i = m ((c : Thread nD τ).loc main_arg1) i := by
  have h : V m c main_v1 = truncf (F := Ideal) .bf16 (m ((c : Thread nD τ).loc main_arg1)) bitsLt_bf16_f32 := by
    unfold_abbrev_sides
    after_results <;> rfl
  show (V m c main_v1 : S1024x160.Idx → Ideal .bf16) i = _
  rw [h]; rfl

/-- Entry `(r, k)` of point `t`'s block of activations. -/
theorem rows_at (c : Dev nD) (t : Fin cfg0.N) (j : S512x1024.Idx) (i : S65536x1024.Idx)
    (h0 : (i 0).val = t.val * 512 + (j 0).val) (h1 : (i 1).val = (j 1).val) :
    iblk m c 0 t j = rows m c i := by
  unfold iblk
  rw [View.read_apply, cast_eq]
  refine congrArg (V m c main_v0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 1024 + 1 * (j 1).val = (i 1).val
              rw [e.1.2, h1]; omega

/-- Entry `(k, n)` of point `t`'s block of the weight: that entry of the weight. -/
theorem weight_at (c : Dev nD) (t : Fin cfg0.N) (j : S1024x160.Idx) : iblk m c 1 t j = weight m c j := by
  unfold iblk
  rw [View.read_apply, cast_eq]
  refine congrArg (V m c main_v1) (funext fun a => Fin.ext ?_)
  have e := block_at t
  match a with
  | ⟨0, _⟩ => show win0_1.index t 0 * 1024 + 1 * (j 0).val = (j 0).val
              rw [e.2.1.1]; omega
  | ⟨1, _⟩ => show win0_1.index t 1 * 160 + 1 * (j 1).val = (j 1).val
              rw [e.2.1.2]; omega

/-- One entry of what a grid point computes: its row of activations times the weight's column. -/
theorem payload_at (x : FVec Ideal S512x1024 .f32) (w : FVec Ideal S1024x160 .bf16) (a : Fin 512) (b : Fin 160) :
    k0_pay1 (F := Ideal) x w (ix2 a b) = (∑ k : Fin 1024, x (ix2 a k) * w (ix2 k b) : EReal) := by
  pointwise [k0_pay1]

/-- The reference's result for the kernel's arguments. -/
abbrev product (c : Dev nD) : S65536x160.Idx → EReal :=
  Cert.GateDownRefIdeal.Read.val_main_v1 (F := Ideal) (m ((c : Thread nD τ).loc main_arg0)) (m ((c : Thread nD τ).loc main_arg1))

/-- One entry of the reference's result: the row of activations, its two row axes merged, times the weight's column. -/
theorem product_at (c : Dev nD) (a : Fin 65536) (b : Fin 160) :
    product m c (ix2 a b) = (∑ k : Fin 1024, rows m c (ix2 a k) * weight m c (ix2 k b) : EReal) := by
  unfold product
  rw [Cert.GateDownRefIdeal.Read.val_main_v1_apply, Cert.GateDownRefIdeal.Read.val_main_v0_apply]
  refine Finset.sum_congr rfl fun k _ => ?_
  rw [entry_weight, entry_rows]
  congr 1
  · symm
    refine shapeCast_apply _ _ _ _ ?_
    rw [Shape.rowMajor_val_three, Shape.rowMajor_val_two]
    show ((a.val * 160 + b.val) / 327680 * 2048 + (a.val * 160 + b.val) / 160 % 2048) * 1024 + k.val
      = a.val * 1024 + k.val
    omega
  · refine congrArg _ (funext fun d => Fin.ext ?_)
    match d with
    | ⟨0, _⟩ => rfl
    | ⟨1, _⟩ => show (a.val * 160 + b.val) % 160 = b.val
                omega

/-- Where entry `(a, b)` of point `t`'s block lies in the result. -/
theorem place_at (t : Fin cfg0.N) (a : Fin 512) (b : Fin 160) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 160 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 160), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x160.Idx) :
    ∃ t : Fin cfg0.N, (cfg0.win 2).flush t = true ∧ i ∈ ((cfg0.win 2).blk t).view.set := by
  have h0 : (i 0).val < 65536 := (i 0).isLt
  have h1 : (i 1).val < 160 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v2).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 160 ≤ (i 1).val
                ∧ (i 1).val < win0_2.index ⟨(i 0).val / 512, ht⟩ 1 * 160 + 160
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.GateDownIdeal.Product

end
-- ==== Proof.GateDownClaims.lean ====
/- The claims about the first factor of the output gate. -/
module

public import proofs.«01_k».proof.Defs
public import proofs.«01_k».proof.Proof.Gen.GateDown.Frame
public import proofs.«01_k».proof.Proof.Gen.GateDownIdeal.Frame
public import proofs.«01_k».proof.Proof.GateDownValue

@[expose] public section

noncomputable section

namespace Cert.Proof.GateDown

open Idealize.ShloMosaic Idealize.SL.Sem

/-- The call runs to its end from any state, in machine words, and leaves its arguments as they were. -/
theorem frame : Cert.quiescent_GateDown := fun m ρ _ => Cert.GateDown.Gen.frame m ρ

/-- The same over the extended reals. -/
theorem frame_ideal : Cert.quiescent_GateDownIdeal := fun m ρ _ => Cert.GateDownIdeal.Gen.frame m ρ

/-- The reference runs to its end from any state and leaves its arguments as they were. -/
theorem frame_reference : Cert.quiescent_GateDownRefIdeal := fun m ρ _ =>
  (θ_run Cert.GateDownRefIdeal.defs _ _).mono (fun r h => ⟨fun c => (h c).2,
      Idealize.ShloMosaic.sem_eq_zero_of_no_sems (by decide) r.2⟩)
    (Cert.GateDownRefIdeal.Value.run (F := Ideal) m ρ)

/-- Over the extended reals the call and the reference leave the same result for the same arguments. -/
theorem algebraic : Cert.algebraic_GateDownIdeal_GateDownRefIdeal := fun m ρ m' ρ' _ hag =>
  ⟨fun c => Cert.GateDownIdeal.Product.product m c, Cert.GateDownIdeal.Product.run m ρ,
    (θ_run Cert.GateDownRefIdeal.defs _ _).mono
      (fun _ h c => ⟨(h c).1.trans (by unfold Cert.GateDownIdeal.Product.product; rw [(hag c).1, (hag c).2]; rfl), (h c).2⟩)
      (Cert.GateDownRefIdeal.Value.run (F := Ideal) m' ρ')⟩

end Cert.Proof.GateDown

end
-- ==== Proof.GateUpValue.lean ====
/- The second factor of the output gate, `s @ w` (65536 rows of 160 times 1024 columns, 512 rows a grid point): what the kernel
   leaves in its result array is the reference's product, entry by entry over the extended reals. -/
module

public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pointwise

@[expose] public section

set_option maxRecDepth 16384

noncomputable section

namespace Cert.GateUpIdeal.Product

open Cert.GateUpIdeal Cert.GateUpIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The rows as the grid finds them. -/
abbrev rows (c : Dev nD) : S65536x160.Idx → EReal := V m c main_arg0

/-- The weight as the grid finds it. -/
abbrev weight (c : Dev nD) : S160x1024.Idx → EReal := V m c main_v0

/-- The rows as the grid finds them: the argument. -/
theorem entry_rows (c : Dev nD) : rows m c = m ((c : Thread nD τ).loc main_arg0) := V_main_arg0 m c

/-- The weight as the grid finds it: the argument itself, the cast to the narrow format being the identity here. -/
theorem entry_weight (c : Dev nD) (i : S160x1024.Idx) : weight m c i = m ((c : Thread nD τ).loc main_arg1) i := by
  have h : V m c main_v0 = truncf (F := Ideal) .bf16 (m ((c : Thread nD τ).loc main_arg1)) bitsLt_bf16_f32 := by
    unfold_abbrev_sides
    after_results <;> rfl
  show (V m c main_v0 : S160x1024.Idx → Ideal .bf16) i = _
  rw [h]; rfl

/-- Entry `(r, k)` of point `t`'s block of activations. -/
theorem rows_at (c : Dev nD) (t : Fin cfg0.N) (j : S512x160.Idx) (i : S65536x160.Idx)
    (h0 : (i 0).val = t.val * 512 + (j 0).val) (h1 : (i 1).val = (j 1).val) :
    iblk m c 0 t j = rows m c i := by
  unfold iblk
  rw [View.read_apply, cast_eq]
  refine congrArg (V m c main_arg0) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 160 + 1 * (j 1).val = (i 1).val
              rw [e.1.2, h1]; omega

/-- Entry `(k, n)` of point `t`'s block of the weight: that entry of the weight. -/
theorem weight_at (c : Dev nD) (t : Fin cfg0.N) (j : S160x1024.Idx) : iblk m c 1 t j = weight m c j := by
  unfold iblk
  rw [View.read_apply, cast_eq]
  refine congrArg (V m c main_v0) (funext fun a => Fin.ext ?_)
  have e := block_at t
  match a with
  | ⟨0, _⟩ => show win0_1.index t 0 * 160 + 1 * (j 0).val = (j 0).val
              rw [e.2.1.1]; omega
  | ⟨1, _⟩ => show win0_1.index t 1 * 1024 + 1 * (j 1).val = (j 1).val
              rw [e.2.1.2]; omega

/-- One entry of what a grid point computes: its row of activations times the weight's column. -/
theorem payload_at (x : FVec Ideal S512x160 .f32) (w : FVec Ideal S160x1024 .bf16) (a : Fin 512) (b : Fin 1024) :
    k0_pay1 (F := Ideal) x w (ix2 a b) = (∑ k : Fin 160, x (ix2 a k) * w (ix2 k b) : EReal) := by
  pointwise [k0_pay1]

/-- The reference's result for the kernel's arguments. -/
abbrev product (c : Dev nD) : S65536x1024.Idx → EReal :=
  Cert.GateUpRefIdeal.Read.val_main_v0 (F := Ideal) (m ((c : Thread nD τ).loc main_arg0)) (m ((c : Thread nD τ).loc main_arg1))

/-- One entry of the reference's result: the row times the weight's column. -/
theorem product_at (c : Dev nD) (a : Fin 65536) (b : Fin 1024) :
    product m c (ix2 a b) = (∑ k : Fin 160, rows m c (ix2 a k) * weight m c (ix2 k b) : EReal) := by
  rw [Finset.sum_congr rfl fun k _ => congrArg₂ (fun x y : EReal => x * y) (congrFun (entry_rows m c) (ix2 a k)) (entry_weight m c (ix2 k b))]
  unfold product
  pointwise [Cert.GateUpRefIdeal.Read.val_main_v0]

/-- Where entry `(a, b)` of point `t`'s block lies in the result. -/
theorem place_at (t : Fin cfg0.N) (a : Fin 512) (b : Fin 1024) (h : t.val * 512 + a.val < 65536) :
    (win0_2.blk t).view.emb (ix2 a b) = ix2 (⟨t.val * 512 + a.val, h⟩ : Fin 65536) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 1024 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 1024), j = ix2 a b := ⟨j 0, j 1, eq_ix2 j⟩
  have hN : cfg0.N = 128 := N_0
  have h : t.val * 512 + a.val < 65536 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S65536x1024.Idx) :
    ∃ t : Fin cfg0.N, (cfg0.win 2).flush t = true ∧ i ∈ ((cfg0.win 2).blk t).view.set := by
  have h0 : (i 0).val < 65536 := (i 0).isLt
  have h1 : (i 1).val < 1024 := (i 1).isLt
  have hN : cfg0.N = 128 := N_0
  have ht : (i 0).val / 512 < cfg0.N := by omega
  have e := block_at ⟨(i 0).val / 512, ht⟩
  refine ⟨⟨(i 0).val / 512, ht⟩, e.2.2.2, ?_⟩
  show i ∈ ((View.whole main_v1).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 1024 ≤ (i 1).val
                ∧ (i 1).val < win0_2.index ⟨(i 0).val / 512, ht⟩ 1 * 1024 + 1024
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.GateUpIdeal.Product

end
-- ==== Proof.GateUpClaims.lean ====
/- The claims about the second factor of the output gate. -/
module

public import proofs.«01_k».proof.Defs
public import proofs.«01_k».proof.Proof.Gen.GateUp.Frame
public import proofs.«01_k».proof.Proof.Gen.GateUpIdeal.Frame
public import proofs.«01_k».proof.Proof.GateUpValue

@[expose] public section

noncomputable section

namespace Cert.Proof.GateUp

open Idealize.ShloMosaic Idealize.SL.Sem

/-- The call runs to its end from any state, in machine words, and leaves its arguments as they were. -/
theorem frame : Cert.quiescent_GateUp := fun m ρ _ => Cert.GateUp.Gen.frame m ρ

/-- The same over the extended reals. -/
theorem frame_ideal : Cert.quiescent_GateUpIdeal := fun m ρ _ => Cert.GateUpIdeal.Gen.frame m ρ

/-- The reference runs to its end from any state and leaves its arguments as they were. -/
theorem frame_reference : Cert.quiescent_GateUpRefIdeal := fun m ρ _ =>
  (θ_run Cert.GateUpRefIdeal.defs _ _).mono (fun r h => ⟨fun c => (h c).2,
      Idealize.ShloMosaic.sem_eq_zero_of_no_sems (by decide) r.2⟩)
    (Cert.GateUpRefIdeal.Value.run (F := Ideal) m ρ)

/-- Over the extended reals the call and the reference leave the same result for the same arguments. -/
theorem algebraic : Cert.algebraic_GateUpIdeal_GateUpRefIdeal := fun m ρ m' ρ' _ hag =>
  ⟨fun c => Cert.GateUpIdeal.Product.product m c, Cert.GateUpIdeal.Product.run m ρ,
    (θ_run Cert.GateUpRefIdeal.defs _ _).mono
      (fun _ h c => ⟨(h c).1.trans (by unfold Cert.GateUpIdeal.Product.product; rw [(hag c).1, (hag c).2]; rfl), (h c).2⟩)
      (Cert.GateUpRefIdeal.Value.run (F := Ideal) m' ρ')⟩

end Cert.Proof.GateUp

end
-- ==== Proof.LruGatesValue.lean ====
/- The gates of the linear recurrence, four block-diagonal maps as one product (73728 rows of 512 times 2048 columns, 512 rows a
   grid point): what the kernel leaves in its result array is the reference's four block-diagonal maps side by side, entry by
   entry over the extended reals. -/
module

public import proofs.«01_k».proof.Proof.Gen.LruGatesIdeal.Value
public import proofs.«01_k».proof.Proof.Gen.LruGatesRefIdeal.Run
public import proofs.«01_k».proof.Proof.Gen.LruGatesRefIdeal.Read
public import Idealize.ShloMosaic.Lib.Pointwise

@[expose] public section

set_option maxRecDepth 16384

noncomputable section

namespace Cert.LruGatesIdeal.Product

open Cert.LruGatesIdeal Cert.LruGatesIdeal.Gen Idealize.ShloMosaic Idealize.ShloMosaic.TcCoe Idealize.SL.Sem

variable (m : (ℓ : Loc nD τ sig) → Buf (Elt Ideal) ℓ) (ρ : Dev nD → PrngReg)

/-- The offset of a load or store of a whole rank-two buffer. -/
theorem origin2 : (![0, 0] : Fin 2 → Nat) = fun _ => 0 := funext fun a => by fin_cases a <;> rfl

/-- Where each window's block lies: point `t` takes rows `512 t …` of the activations and of the result, and the whole
    weight. -/
theorem block_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (cfg0.win 2).flush t = true)

/-- The rows and the blocks of the two pairs of gates the program is given. -/
abbrev given (c : Dev nD) : S32x2304x512.Idx → EReal := m ((c : Thread nD τ).loc main_arg0)
@[inherit_doc given] abbrev blocksA (c : Dev nD) : S2x8x64x64.Idx → EReal := m ((c : Thread nD τ).loc main_arg1)
@[inherit_doc given] abbrev blocksI (c : Dev nD) : S2x8x64x64.Idx → EReal := m ((c : Thread nD τ).loc main_arg2)

/-- The rows as the grid finds them. -/
abbrev rows (c : Dev nD) : S73728x512.Idx → EReal := V m c main_v58

/-- The weight as the grid finds it. -/
abbrev weight (c : Dev nD) : S512x2048.Idx → EReal := V m c main_v57

/-- The rows as the grid finds them: the argument with its two row axes merged. -/
theorem entry_rows (c : Dev nD) : rows m c
    = shapeCast S73728x512 (given m c) shapeCasts_S32x2304x512_S73728x512 := by
  unfold_abbrev_sides
  after_results <;> rfl

/-- The identity's entries, as the host makes them. -/
abbrev unit : FVec Ideal S8x8 .f32 :=
  uitofp .f32 (cmpi .eq (addi (iotaInDim S8x8 32 0) (broadcastInDim S8x8 ![] bcast_S_S8x8 (constantI S_ 32 0#32)))
    (iotaInDim S8x8 32 1))

/-- An entry of the identity. -/
theorem unit_at (g h : Fin 8) : unit (ix2 g h) = (if g = h then 1 else 0 : EReal) := by
  have hw : ∀ g h : Fin 8, (cmpi .eq (addi (iotaInDim S8x8 32 0) (broadcastInDim S8x8 ![] bcast_S_S8x8
      (constantI S_ 32 0#32))) (iotaInDim S8x8 32 1)) (ix2 g h) = if g = h then 1#1 else 0#1 := by
    decide +kernel
  show ((((cmpi .eq (addi (iotaInDim S8x8 32 0) (broadcastInDim S8x8 ![] bcast_S_S8x8
      (constantI S_ 32 0#32))) (iotaInDim S8x8 32 1)) (ix2 g h)).toNat : ℝ) : EReal) = _
  rw [hw]
  split <;> simp

/-- The rank-four array of a square's blocks: every block times the identity's entry for the pair of places. -/
abbrev blocks4 (u : FVec Ideal S8x8 .f32) (w : FVec Ideal S8x64x64 .f32) : FVec Ideal S8x64x8x64 .f32 :=
  mulf (broadcastInDim S8x64x8x64 ![0, 1, 2, 3] bcast_S8x64x1x64_S8x64x8x64_0_1_2_3
      (broadcastInDim S8x64x1x64 ![0, 1, 3] bcast_S8x64x64_S8x64x1x64_0_1_3 w))
    (broadcastInDim S8x64x8x64 ![0, 1, 2, 3] bcast_S8x1x8x1_S8x64x8x64_0_1_2_3
      (broadcastInDim S8x1x8x1 ![0, 2] bcast_S8x8_S8x1x8x1_0_2 u))

/-- Eight blocks on the diagonal of a square, as the host lays them out. -/
abbrev spread (w : FVec Ideal S8x64x64 .f32) : FVec Ideal S512x512 .f32 :=
  shapeCast S512x512 (blocks4 unit w) shapeCasts_S8x64x8x64_S512x512

/-- An entry of the rank-four array. -/
theorem blocks4_at (u : FVec Ideal S8x8 .f32) (w : FVec Ideal S8x64x64 .f32) (g : Fin 8) (i : Fin 64) (h : Fin 8) (j : Fin 64) :
    blocks4 u w (ix4 g i h j) = (w (ix3 g i j) * u (ix2 g h) : EReal) := by
  pointwise [blocks4]

/-- An entry of the square: the block's on the diagonal, zero elsewhere. -/
theorem spread_at (w : FVec Ideal S8x64x64 .f32) (k n : Fin 512) : spread w (ix2 k n)
    = (if k.val / 64 = n.val / 64 then
        w (ix3 (⟨k.val / 64, by omega⟩ : Fin 8) (⟨k.val % 64, by omega⟩ : Fin 64) (⟨n.val % 64, by omega⟩ : Fin 64)) else 0 : EReal) := by
  refine (shapeCast_apply _ _ _ (ix4 (⟨k.val / 64, by omega⟩ : Fin 8) (⟨k.val % 64, by omega⟩ : Fin 64)
    (⟨n.val / 64, by omega⟩ : Fin 8) (⟨n.val % 64, by omega⟩ : Fin 64)) ?_).trans ?_
  · rw [Shape.rowMajor_val_two, Shape.rowMajor_val_four]
    show ((k.val / 64 * 64 + k.val % 64) * 8 + n.val / 64) * 64 + n.val % 64 = k.val * 512 + n.val
    omega
  · rw [blocks4_at, unit_at]
    by_cases h : k.val / 64 = n.val / 64
    · rw [if_pos h, if_pos (Fin.ext h), mul_one]
    · rw [if_neg h, if_neg (fun e => h (congrArg Fin.val e)), mul_zero]

/-- The blocks of one gate: the first or the second of a pair. -/
abbrev first (w : FVec Ideal S2x8x64x64 .f32) : FVec Ideal S8x64x64 .f32 :=
  shapeCast S8x64x64 (extractStridedSlice S1x8x64x64 ![0, 0, 0, 0] w slices_S2x8x64x64_S1x8x64x64_0_0_0_0)
    shapeCasts_S1x8x64x64_S8x64x64
@[inherit_doc first] abbrev second (w : FVec Ideal S2x8x64x64 .f32) : FVec Ideal S8x64x64 .f32 :=
  shapeCast S8x64x64 (extractStridedSlice S1x8x64x64 ![1, 0, 0, 0] w slices_S2x8x64x64_S1x8x64x64_1_0_0_0)
    shapeCasts_S1x8x64x64_S8x64x64

/-- The blocks column `b` belongs to: the four gates stand side by side, 512 columns each. -/
def gate (wa wi : FVec Ideal S2x8x64x64 .f32) (b : Fin 2048) : FVec Ideal S8x64x64 .f32 :=
  if b.val < 512 then first wa else if b.val < 1024 then first wi else if b.val < 1536 then second wa else second wi

/-- An entry of one gate's blocks. -/
theorem first_at (w : FVec Ideal S2x8x64x64 .f32) (g : Fin 8) (i j : Fin 64) :
    first w (ix3 g i j) = w (ix4 (0 : Fin 2) g i j) := by
  pointwise [first]

@[inherit_doc first_at]
theorem second_at (w : FVec Ideal S2x8x64x64 .f32) (g : Fin 8) (i j : Fin 64) :
    second w (ix3 g i j) = w (ix4 (1 : Fin 2) g i j) := by
  pointwise [second]

/-- The blocks of a column of the first, second, third and fourth quarter. -/
theorem gate_0 (wa wi : FVec Ideal S2x8x64x64 .f32) (b : Fin 2048) (h0 : b.val < 512) : gate wa wi b = first wa := by
  unfold gate
  rw [if_pos h0]

@[inherit_doc gate_0]
theorem gate_1 (wa wi : FVec Ideal S2x8x64x64 .f32) (b : Fin 2048) (h0 : ¬ b.val < 512) (h1 : b.val < 1024) :
    gate wa wi b = first wi := by
  unfold gate
  rw [if_neg h0, if_pos h1]

@[inherit_doc gate_0]
theorem gate_2 (wa wi : FVec Ideal S2x8x64x64 .f32) (b : Fin 2048) (h0 : ¬ b.val < 512) (h1 : ¬ b.val < 1024)
    (h2 : b.val < 1536) : gate wa wi b = second wa := by
  unfold gate
  rw [if_neg h0, if_neg h1, if_pos h2]

@[inherit_doc gate_0]
theorem gate_3 (wa wi : FVec Ideal S2x8x64x64 .f32) (b : Fin 2048) (h0 : ¬ b.val < 512) (h1 : ¬ b.val < 1024)
    (h2 : ¬ b.val < 1536) : gate wa wi b = second wi := by
  unfold gate
  rw [if_neg h0, if_neg h1, if_neg h2]

/-- Four squares side by side, read at a column: the square the column belongs to, at its place there. -/
theorem side_by_side (s0 s1 s2 s3 : FVec Ideal S512x512 .f32) (k : Fin 512) (b : Fin 2048) :
    concatenate S512x2048 1 [⟨S512x512, s0⟩, ⟨S512x512, s1⟩, ⟨S512x512, s2⟩, ⟨S512x512, s3⟩]
        concatenates_S512x512_S512x512_S512x512_S512x512_S512x2048_d1 (ix2 k b)
      = (if b.val < 512 then s0 else if b.val < 1024 then s1 else if b.val < 1536 then s2 else s3)
          (ix2 k (⟨b.val % 512, by omega⟩ : Fin 512)) := by
  have e : ∀ (n : Nat) (hn : n < 512), n = b.val % 512 → ∀ s : FVec Ideal S512x512 .f32,
      s (ix2 k (⟨n, hn⟩ : Fin 512)) = s (ix2 k (⟨b.val % 512, by omega⟩ : Fin 512)) := by
    rintro n hn rfl s
    rfl
  pointwise []
  by_cases h0 : b.val < 512
  · rw [dif_pos h0, if_pos h0]
    exact e b.val _ (by omega) _
  · rw [dif_neg h0, if_neg h0]
    by_cases h1 : b.val < 1024
    · rw [dif_pos (show b.val - 512 < 512 by omega), if_pos h1]
      exact e (b.val - 512) _ (by omega) _
    · rw [dif_neg (show ¬ b.val - 512 < 512 by omega), if_neg h1]
      by_cases h2 : b.val < 1536
      · rw [dif_pos (show b.val - 512 - 512 < 512 by omega), if_pos h2]
        exact e (b.val - 512 - 512) _ (by omega) _
      · rw [dif_neg (show ¬ b.val - 512 - 512 < 512 by omega), if_neg h2]
        exact e (b.val - 512 - 512 - 512) _ (by omega) _

/-- The weight as the grid finds it: the four gates' squares side by side. -/
theorem entry_weight (c : Dev nD) (k : Fin 512) (b : Fin 2048) : weight m c (ix2 k b)
    = spread (gate (blocksA m c) (blocksI m c) b) (ix2 k (⟨b.val % 512, by omega⟩ : Fin 512)) := by
  have h : V m c main_v57 = truncf (F := Ideal) .bf16 (concatenate S512x2048 1
      [⟨S512x512, spread (first (blocksA m c))⟩, ⟨S512x512, spread (first (blocksI m c))⟩,
        ⟨S512x512, spread (second (blocksA m c))⟩, ⟨S512x512, spread (second (blocksI m c))⟩]
      concatenates_S512x512_S512x512_S512x512_S512x512_S512x2048_d1) bitsLt_bf16_f32 := by
    unfold_abbrev_sides
    after_results <;> rfl
  show (V m c main_v57 : S512x2048.Idx → Ideal .bf16) _ = _
  rw [h]
  refine (side_by_side _ _ _ _ k b).trans ?_
  unfold gate
  split
  · rfl
  · split
    · rfl
    · split <;> rfl

/-- A sum over the rows of a square with one non-zero block in the column: the sum over that block. -/
theorem collapse (f : Fin 512 → EReal) (w : Fin 8 → Fin 64 → EReal) (g : Fin 8) :
    ∑ k : Fin 512, f k * (if k.val / 64 = g.val then w ⟨k.val / 64, by omega⟩ ⟨k.val % 64, by omega⟩ else 0)
      = ∑ i : Fin 64, f ⟨64 * g.val + i.val, by omega⟩ * w g i := by
  rw [← (finProdFinEquiv : Fin 8 × Fin 64 ≃ Fin 512).sum_comp, Fintype.sum_prod_type, Finset.sum_eq_single g]
  · refine Finset.sum_congr rfl fun i _ => ?_
    have e : (finProdFinEquiv (g, i) : Fin 512) = ⟨64 * g.val + i.val, by omega⟩ :=
      Fin.ext (show i.val + 64 * g.val = 64 * g.val + i.val by omega)
    have h1 : (64 * g.val + i.val) / 64 = g.val := by omega
    have h2 : (64 * g.val + i.val) % 64 = i.val := by omega
    rw [e]
    simp only [h1, h2, if_true]
  · intro g' _ hg
    refine Finset.sum_eq_zero fun i _ => ?_
    rw [if_neg, mul_zero]
    show ¬ (i.val + 64 * g'.val) / 64 = g.val
    intro h
    exact hg (Fin.ext (by omega))
  · exact fun h => absurd (Finset.mem_univ _) h

/-- Entry `(r, k)` of point `t`'s block of activations. -/
theorem rows_at (c : Dev nD) (t : Fin cfg0.N) (j : S512x512.Idx) (i : S73728x512.Idx)
    (h0 : (i 0).val = t.val * 512 + (j 0).val) (h1 : (i 1).val = (j 1).val) :
    iblk m c 0 t j = rows m c i := by
  unfold iblk
  rw [View.read_apply, cast_eq]
  refine congrArg (V m c main_v58) (funext fun a => Fin.ext ?_)
  have e := block_at t
  match a with
  | ⟨0, _⟩ => show win0_0.index t 0 * 512 + 1 * (j 0).val = (i 0).val
              rw [e.1.1, h0]; omega
  | ⟨1, _⟩ => show win0_0.index t 1 * 512 + 1 * (j 1).val = (i 1).val
              rw [e.1.2, h1]; omega

/-- Entry `(k, n)` of point `t`'s block of the weight: that entry of the weight. -/
theorem weight_at (c : Dev nD) (t : Fin cfg0.N) (j : S512x2048.Idx) : iblk m c 1 t j = weight m c j := by
  unfold iblk
  rw [View.read_apply, cast_eq]
  refine congrArg (V m c main_v57) (funext fun a => Fin.ext ?_)
  have e := block_at t
  match a with
  | ⟨0, _⟩ => show win0_1.index t 0 * 512 + 1 * (j 0).val = (j 0).val
              rw [e.2.1.1]; omega
  | ⟨1, _⟩ => show win0_1.index t 1 * 2048 + 1 * (j 1).val = (j 1).val
              rw [e.2.1.2]; omega

/-- One entry of what a grid point computes: its row of activations times the weight's column. -/
theorem payload_at (x : FVec Ideal S512x512 .f32) (w : FVec Ideal S512x2048 .bf16) (a : Fin 512) (b : Fin 2048) :
    k0_pay1 (F := Ideal) x w (ix2 a b) = (∑ k : Fin 512, x (ix2 a k) * w (ix2 k b) : EReal) := by
  pointwise [k0_pay1]

/-- The reference's result for the kernel's arguments. -/
abbrev product (c : Dev nD) : S73728x2048.Idx → EReal :=
  Cert.LruGatesRefIdeal.Read.val_main_v25 (F := Ideal) (given m c) (blocksA m c) (blocksI m c)

/-- The same block's sum, its blocks and its column spelled in two ways. -/
theorem block_sum (w G : FVec Ideal S8x64x64 .f32) (e' : G = w) (w' : Fin 8 → Fin 64 → Fin 64 → EReal)
    (hw : ∀ g i j, w (ix3 g i j) = w' g i j) (y : Fin 512 → EReal) (n p : Nat) (hn : n < 512) (hp : p < 512) (e : n = p) :
    (∑ i : Fin 64, w' (⟨n / 64, by omega⟩ : Fin 8) i (⟨n % 64, by omega⟩ : Fin 64)
        * y (⟨n / 64 * 64 + i.val, by omega⟩ : Fin 512) : EReal)
      = ∑ i : Fin 64, G (ix3 (⟨p / 64, by omega⟩ : Fin 8) i (⟨p % 64, by omega⟩ : Fin 64))
        * y (⟨64 * (p / 64) + i.val, by omega⟩ : Fin 512) := by
  subst e e'
  refine Finset.sum_congr rfl fun i _ => ?_
  rw [hw]
  exact congrArg _ (congrArg y (Fin.ext (show n / 64 * 64 + i.val = 64 * (n / 64) + i.val by omega)))

open Cert.LruGatesRefIdeal.Read in
/-- One entry of the reference's result: in its gate, the sum over the block the column falls into. -/
theorem reference_at (x : FVec Ideal S32x2304x512 .f32) (wa wi : FVec Ideal S2x8x64x64 .f32) (a : Fin 73728) (b : Fin 2048) :
    val_main_v25 (F := Ideal) x wa wi (ix2 a b)
      = (∑ i : Fin 64, gate wa wi b (ix3 (⟨b.val % 512 / 64, by omega⟩ : Fin 8) i (⟨b.val % 512 % 64, by omega⟩ : Fin 64))
          * x (ix3 (⟨a.val / 2304, by omega⟩ : Fin 32) (⟨a.val % 2304, by omega⟩ : Fin 2304)
              (⟨64 * (b.val % 512 / 64) + i.val, by omega⟩ : Fin 512)) : EReal) := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0]
  let y : Fin 512 → EReal := fun n => x (ix3 (⟨a.val / 2304, by omega⟩ : Fin 32) (⟨a.val % 2304, by omega⟩ : Fin 2304) n)
  by_cases h0 : b.val < 512
  · rw [dif_pos h0]
    exact block_sum (first wa) (gate wa wi b) (gate_0 wa wi b h0) (fun g i j => wa (ix4 (0 : Fin 2) g i j)) (first_at wa) y
      (b.val) (b.val % 512) (by omega) (by omega) (by omega)
  · rw [dif_neg h0]
    by_cases h1 : b.val < 1024
    · rw [dif_pos (show b.val - 512 < 512 by omega)]
      exact block_sum (first wi) (gate wa wi b) (gate_1 wa wi b h0 h1) (fun g i j => wi (ix4 (0 : Fin 2) g i j)) (first_at wi) y
        (b.val - 512) (b.val % 512) (by omega) (by omega) (by omega)
    · rw [dif_neg (show ¬ b.val - 512 < 512 by omega)]
      by_cases h2 : b.val < 1536
      · rw [dif_pos (show b.val - 512 - 512 < 512 by omega)]
        exact block_sum (second wa) (gate wa wi b) (gate_2 wa wi b h0 h1 h2) (fun g i j => wa (ix4 (1 : Fin 2) g i j)) (second_at wa) y
          (b.val - 512 - 512) (b.val % 512) (by omega) (by omega) (by omega)
      · rw [dif_neg (show ¬ b.val - 512 - 512 < 512 by omega)]
        exact block_sum (second wi) (gate wa wi b) (gate_3 wa wi b h0 h1 h2) (fun g i j => wi (ix4 (1 : Fin 2) g i j)) (second_at wi) y
          (b.val - 512 - 512 - 512) (b.val % 512) (by omega) (by omega) (by omega)

/-- One entry of the reference's result: the row, its two row axes merged, times the weight's column. -/
theorem product_at (c : Dev nD) (a : Fin 73728) (b : Fin 2048) :
    product m c (ix2 a b) = (∑ k : Fin 512, rows m c (ix2 a k) * weight m c (ix2 k b) : EReal) := by
  rw [Finset.sum_congr rfl fun k _ => congrArg₂ (fun x y : EReal => x * y) (congrFun (entry_rows m c) (ix2 a k))
    ((entry_weight m c k b).trans (spread_at _ k _))]
  unfold product
  rw [reference_at]
  generalize given m c = x
  generalize gate (blocksA m c) (blocksI m c) b = w
  have hr : ∀ k : Fin 512, shapeCast S73728x512 x shapeCasts_S32x2304x512_S73728x512 (ix2 a k)
      = x (ix3 (⟨a.val / 2304, by omega⟩ : Fin 32) (⟨a.val % 2304, by omega⟩ : Fin 2304) k) := fun k => by
    refine shapeCast_apply _ _ _ _ ?_
    rw [Shape.rowMajor_val_three, Shape.rowMajor_val_two]
    show (a.val / 2304 * 2304 + a.val % 2304) * 512 + k.val = a.val * 512 + k.val
    omega
  simp only [hr]
  refine Eq.trans ?_ (collapse (fun k => x (ix3 (⟨a.val / 2304, by omega⟩ : Fin 32) (⟨a.val % 2304, by omega⟩ : Fin 2304) k))
    (fun g i => w (ix3 g i (⟨b.val % 512 % 64, by omega⟩ : Fin 64))) (⟨b.val % 512 / 64, by omega⟩ : Fin 8)).symm
  exact Finset.sum_congr rfl fun i _ => mul_comm _ _

/-- Where entry `(a, b)` of point `t`'s block lies in the result. -/
theorem place_at (t : Fin cfg0.N) (a : Fin 512) (b : Fin 2048) (h : t.val * 512 + a.val < 73728) :
    (win0_2.blk t).view.emb (ix2 a b) = ix2 (⟨t.val * 512 + a.val, h⟩ : Fin 73728) b := by
  have e := block_at t
  refine funext fun d => Fin.ext ?_
  match d with
  | ⟨0, _⟩ => show win0_2.index t 0 * 512 + 1 * a.val = t.val * 512 + a.val
              rw [e.2.2.1.1]; omega
  | ⟨1, _⟩ => show win0_2.index t 1 * 2048 + 1 * b.val = b.val
              rw [e.2.2.1.2]; omega

/-- What point `t` writes back is its block of the reference's result. -/
theorem flushed_eq (c : Dev nD) (t : Fin cfg0.N) :
    (dats m 0 c).flushed 2 t = (win0_2.blk t).view.read (Elt Ideal) (product m c) := by
  rw [Value.flushed2]
  unfold out0_2
  rw [View.canon_unit_zero origin2, View.ld_unit_zero origin2, View.ld_unit_zero origin2]
  funext j
  show k0_pay1 (iblk m c 0 t) (iblk m c 1 t) j = _
  rw [View.read_apply, cast_eq]
  obtain ⟨a, b, rfl⟩ : ∃ (a : Fin 512) (b : Fin 2048), j = ix2 a b := ⟨j 0, j 1, eq_ix2 j⟩
  have hN : cfg0.N = 144 := N_0
  have h : t.val * 512 + a.val < 73728 := by have := t.isLt; omega
  rw [place_at t a b h]
  refine (payload_at _ _ a b).trans (Eq.trans ?_ (product_at m c _ _).symm)
  exact Finset.sum_congr rfl fun k _ => congrArg₂ _ (rows_at m c t _ _ rfl rfl) (weight_at m c t _)

/-- Every entry of the result lies in the block of the point its row names. -/
theorem cover (i : S73728x2048.Idx) :
    ∃ t : Fin cfg0.N, (cfg0.win 2).flush t = true ∧ i ∈ ((cfg0.win 2).blk t).view.set := by
  have h0 : (i 0).val < 73728 := (i 0).isLt
  have h1 : (i 1).val < 2048 := (i 1).isLt
  have hN : cfg0.N = 144 := N_0
  have ht : (i 0).val / 512 < cfg0.N := by omega
  have e := block_at ⟨(i 0).val / 512, ht⟩
  refine ⟨⟨(i 0).val / 512, ht⟩, e.2.2.2, ?_⟩
  show i ∈ ((View.whole main_v59).slice (win0_2.rect ⟨(i 0).val / 512, ht⟩)).set
  rw [View.set_slice_whole, Rect.mem_set_unit]
  intro a
  match a with
  | ⟨0, _⟩ => show win0_2.index ⟨(i 0).val / 512, ht⟩ 0 * 512 ≤ (i 0).val
                ∧ (i 0).val < win0_2.index ⟨(i 0).val / 512, ht⟩ 0 * 512 + 512
              rw [e.2.2.1.1]; dsimp only; omega
  | ⟨1, _⟩ => show win0_2.index ⟨(i 0).val / 512, ht⟩ 1 * 2048 ≤ (i 1).val
                ∧ (i 1).val < win0_2.index ⟨(i 0).val / 512, ht⟩ 1 * 2048 + 2048
              rw [e.2.2.1.2]; omega

/-- The result array after the run is the reference's result. -/
theorem final (c : Dev nD) : (dats m 0 c).arrAt 2 cfg0.N = product m c :=
  (dats m 0 c).arrAt_eq_of_cover 2 (product m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v59) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.LruGatesIdeal.Product

end
-- ==== Proof.LruGatesClaims.lean ====
/- The claims about the gates of the linear recurrence. -/
module

public import proofs.«01_k».proof.Defs
public import proofs.«01_k».proof.Proof.Gen.LruGates.Frame
public import proofs.«01_k».proof.Proof.Gen.LruGatesIdeal.Frame
public import proofs.«01_k».proof.Proof.LruGatesValue

@[expose] public section

noncomputable section

namespace Cert.Proof.LruGates

open Idealize.ShloMosaic Idealize.SL.Sem

/-- The call runs to its end from any state, in machine words, and leaves its arguments as they were. -/
theorem frame : Cert.quiescent_LruGates := fun m ρ _ => Cert.LruGates.Gen.frame m ρ

/-- The same over the extended reals. -/
theorem frame_ideal : Cert.quiescent_LruGatesIdeal := fun m ρ _ => Cert.LruGatesIdeal.Gen.frame m ρ

/-- The reference runs to its end from any state and leaves its arguments as they were. -/
theorem frame_reference : Cert.quiescent_LruGatesRefIdeal := fun m ρ _ =>
  (θ_run Cert.LruGatesRefIdeal.defs _ _).mono (fun r h => ⟨fun c => (h c).2,
      Idealize.ShloMosaic.sem_eq_zero_of_no_sems (by decide) r.2⟩)
    (Cert.LruGatesRefIdeal.Value.run (F := Ideal) m ρ)

/-- Over the extended reals the call and the reference leave the same result for the same arguments. -/
theorem algebraic : Cert.algebraic_LruGatesIdeal_LruGatesRefIdeal := fun m ρ m' ρ' _ hag =>
  ⟨fun c => Cert.LruGatesIdeal.Product.product m c, Cert.LruGatesIdeal.Product.run m ρ,
    (θ_run Cert.LruGatesRefIdeal.defs _ _).mono
      (fun _ h c => ⟨(h c).1.trans (by unfold Cert.LruGatesIdeal.Product.product; rw [(hag c).1, (hag c).2.1, (hag c).2.2]; rfl), (h c).2⟩)
      (Cert.LruGatesRefIdeal.Value.run (F := Ideal) m' ρ')⟩

end Cert.Proof.LruGates

end
-- ==== Proof.NormValue.lean ====
/- The normalisation before each half of a layer: a row is divided by the root of its mean square, weighed, and then scaled
   and shifted by its batch row's modulation. What the kernel leaves in its result array is the reference's array, entry by
   entry over the extended reals. -/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pointwise

@[expose] public section

set_option maxRecDepth 16384

noncomputable section

namespace Cert.NormIdeal.Row

open Cert.NormIdeal Cert.NormIdeal.Gen Idealize.ShloMosaic Idealize.ShloMosaic.TcCoe Idealize.SL.Sem

variable (m : (ℓ : Loc nD τ sig) → Buf (Elt Ideal) ℓ) (ρ : Dev nD → PrngReg)

/-- One entry of the modulated norm, from its row, its weight and the modulation of its column. -/
def modulated (x : Fin 1024 → EReal) (g shift scale : EReal) (k : Fin 1024) : EReal :=
  x k * Ideal.rsqrt (Ideal.div (∑ i : Fin 1024, x i * x i) (Ideal.ofBits .f32 0x44800000#32) + Ideal.ofBits .f32 0x358637BD#32) * g
    * (Ideal.ofBits .f32 0x3F800000#32 + scale) + shift

/-- The offset of a load or store of a whole rank-two buffer. -/
theorem origin2 : (![0, 0] : Fin 2 → Nat) = fun _ => 0 := funext fun a => by fin_cases a <;> rfl

/-- The offset of a load or store of a whole rank-three buffer. -/
theorem origin3 : (![0, 0, 0] : Fin 3 → Nat) = fun _ => 0 := funext fun a => by fin_cases a <;> rfl

/-- Where each window's block lies: point `t` takes 512 rows of batch row `t / 4`, the weight whole, and the modulation of
    its batch row. -/
theorem block_at : ∀ t : Fin cfg0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0)
    ∧ (cfg0.win 4).flush t = true :=
  (by decide +kernel : ∀ t : Fin grid0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0)
    ∧ (cfg0.win 4).flush t = true)

/-- The stream, the weight of the norm, the shift and the scale the program is given. -/
abbrev stream (c : Dev nD) : S32x2048x1024.Idx → EReal := m ((c : Thread nD τ).loc main_arg0)
@[inherit_doc stream] abbrev gain (c : Dev nD) : S1024.Idx → EReal := m ((c : Thread nD τ).loc main_arg1)
@[inherit_doc stream] abbrev shift (c : Dev nD) : S32x1x1024.Idx → EReal := m ((c : Thread nD τ).loc main_arg2)
@[inherit_doc stream] abbrev scale (c : Dev nD) : S32x1x1024.Idx → EReal := m ((c : Thread nD τ).loc main_arg3)

/-- The weight the grid finds is the argument, as one row. -/
theorem gain_at (c : Dev nD) (k : Fin 1024) : (V m c main_v0 : S1x1024.Idx → EReal) (ix2 (0 : Fin 1) k) = gain m c (ix1 k) := by
  have h : (V m c main_v0 : S1x1024.Idx → EReal) = shapeCast S1x1024 (gain m c) shapeCasts_S1024_S1x1024 := by
    unfold_abbrev_sides
    after_results <;> rfl
  rw [h]
  pointwise []

/-- A point's batch row. -/
abbrev batchOf (t : Fin cfg0.N) : Fin 32 := ⟨t.val / 4, by have hN : cfg0.N = 128 := N_0; have := t.isLt; omega⟩

/-- The token of a point's row. -/
abbrev tokenOf (t : Fin cfg0.N) (r : Fin 512) : Fin 2048 := ⟨t.val % 4 * 512 + r.val, by omega⟩

/-- A point's block of the stream. -/
theorem streamBlock_at (c : Dev nD) (t : Fin cfg0.N) (r : Fin 512) (k : Fin 1024) :
    (iblk m c 0 t (ix3 (0 : Fin 1) r k) : EReal) = stream m c (ix3 (batchOf t) (tokenOf t r) k) := by
  have e := (block_at t).1
  have hV : stream m c = V m c main_arg0 := (V_main_arg0 m c).symm
  rw [hV]
  unfold iblk
  rw [View.read_apply, cast_eq]
  refine congrArg (V m c main_arg0) (funext fun a => Fin.ext ?_)
  match a with
  | ⟨0, _⟩ => show win0_0.index t 0 * 1 + 1 * 0 = t.val / 4
              rw [e.1]; omega
  | ⟨1, _⟩ => show win0_0.index t 1 * 512 + 1 * r.val = t.val % 4 * 512 + r.val
              rw [e.2.1]; omega
  | ⟨2, _⟩ => show win0_0.index t 2 * 1024 + 1 * k.val = k.val
              rw [e.2.2]; omega

/-- A point's block of the weight: the whole of it. -/
theorem gainBlock_at (c : Dev nD) (t : Fin cfg0.N) (k : Fin 1024) :
    (iblk m c 1 t (ix2 (0 : Fin 1) k) : EReal) = gain m c (ix1 k) := by
  have e := (block_at t).2.1
  rw [← gain_at m c k]
  unfold iblk
  rw [View.read_apply, cast_eq]
  refine congrArg (V m c main_v0) (funext fun a => Fin.ext ?_)
  match a with
  | ⟨0, _⟩ => show win0_1.index t 0 * 1 + 1 * 0 = 0
              rw [e.1]
  | ⟨1, _⟩ => show win0_1.index t 1 * 1024 + 1 * k.val = k.val
              rw [e.2]; omega

/-- A point's shift. -/
theorem shiftBlock_at (c : Dev nD) (t : Fin cfg0.N) (k : Fin 1024) :
    (iblk m c 2 t (ix3 (0 : Fin 1) (0 : Fin 1) k) : EReal) = shift m c (ix3 (batchOf t) (0 : Fin 1) k) := by
  have e := (block_at t).2.2.1
  have hV : shift m c = V m c main_arg2 := (V_main_arg2 m c).symm
  rw [hV]
  unfold iblk
  rw [View.read_apply, cast_eq]
  refine congrArg (V m c main_arg2) (funext fun a => Fin.ext ?_)
  match a with
  | ⟨0, _⟩ => show win0_2.index t 0 * 1 + 1 * 0 = t.val / 4
              rw [e.1]; omega
  | ⟨1, _⟩ => show win0_2.index t 1 * 1 + 1 * 0 = 0
              rw [e.2.1]
  | ⟨2, _⟩ => show win0_2.index t 2 * 1024 + 1 * k.val = k.val
              rw [e.2.2]; omega

/-- A point's scale. -/
theorem scaleBlock_at (c : Dev nD) (t : Fin cfg0.N) (k : Fin 1024) :
    (iblk m c 3 t (ix3 (0 : Fin 1) (0 : Fin 1) k) : EReal) = scale m c (ix3 (batchOf t) (0 : Fin 1) k) := by
  have e := (block_at t).2.2.2.1
  have hV : scale m c = V m c main_arg3 := (V_main_arg3 m c).symm
  rw [hV]
  unfold iblk
  rw [View.read_apply, cast_eq]
  refine congrArg (V m c main_arg3) (funext fun a => Fin.ext ?_)
  match a with
  | ⟨0, _⟩ => show win0_3.index t 0 * 1 + 1 * 0 = t.val / 4
              rw [e.1]; omega
  | ⟨1, _⟩ => show win0_3.index t 1 * 1 + 1 * 0 = 0
              rw [e.2.1]
  | ⟨2, _⟩ => show win0_3.index t 2 * 1024 + 1 * k.val = k.val
              rw [e.2.2]; omega

/-- One entry of what a grid point computes. -/
theorem payload_at (x : FVec Ideal S1x512x1024 .f32) (g : FVec Ideal S1x1024 .f32) (sc sh : FVec Ideal S1x1x1024 .f32)
    (r : Fin 512) (k : Fin 1024) :
    k0_pay1 (F := Ideal) x g sc sh (ix3 (0 : Fin 1) r k)
      = modulated (fun i => x (ix3 (0 : Fin 1) r i)) (g (ix2 (0 : Fin 1) k)) (sh (ix3 (0 : Fin 1) (0 : Fin 1) k))
          (sc (ix3 (0 : Fin 1) (0 : Fin 1) k)) k := by
  unfold modulated
  pointwise [k0_pay1]

/-- The reference's result for the kernel's arguments. -/
abbrev result (c : Dev nD) : S32x2048x1024.Idx → EReal :=
  Cert.NormRefIdeal.Read.val_main_v18 (F := Ideal) (stream m c) (gain m c) (shift m c) (scale m c)

open Cert.NormRefIdeal.Read in
/-- One entry of the reference's result. -/
theorem result_at (c : Dev nD) (b : Fin 32) (n : Fin 2048) (k : Fin 1024) :
    result m c (ix3 b n k) = modulated (fun i => stream m c (ix3 b n i)) (gain m c (ix1 k))
      (shift m c (ix3 b (0 : Fin 1) k)) (scale m c (ix3 b (0 : Fin 1) k)) k := by
  unfold result modulated
  generalize stream m c = x
  generalize gain m c = g
  generalize shift m c = sh
  generalize scale m c = sc
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]

/-- Where an entry of point `t`'s block lies in the result. -/
theorem place_at (t : Fin cfg0.N) (r : Fin 512) (k : Fin 1024) :
    (win0_4.blk t).view.emb (ix3 (0 : Fin 1) r k) = ix3 (batchOf t) (tokenOf t r) k := by
  have e := (block_at t).2.2.2.2.1
  refine funext fun d => Fin.ext ?_
  match d with
  | ⟨0, _⟩ => show win0_4.index t 0 * 1 + 1 * 0 = t.val / 4
              rw [e.1]; omega
  | ⟨1, _⟩ => show win0_4.index t 1 * 512 + 1 * r.val = t.val % 4 * 512 + r.val
              rw [e.2.1]; omega
  | ⟨2, _⟩ => show win0_4.index t 2 * 1024 + 1 * k.val = k.val
              rw [e.2.2]; omega

/-- What point `t` writes back is its block of the reference's result. -/
theorem flushed_eq (c : Dev nD) (t : Fin cfg0.N) :
    (dats m 0 c).flushed 4 t = (win0_4.blk t).view.read (Elt Ideal) (result m c) := by
  rw [Value.flushed4]
  unfold out0_4
  rw [View.canon_unit_zero origin3, View.ld_unit_zero origin3, View.ld_unit_zero origin2, View.ld_unit_zero origin3,
    View.ld_unit_zero origin3]
  funext j
  show k0_pay1 (iblk m c 0 t) (iblk m c 1 t) (iblk m c 3 t) (iblk m c 2 t) j = _
  rw [View.read_apply, cast_eq]
  obtain ⟨z, r, k, rfl⟩ : ∃ (z : Fin 1) (r : Fin 512) (k : Fin 1024), j = ix3 z r k := ⟨j 0, j 1, j 2, eq_ix3 j⟩
  obtain rfl : z = 0 := Subsingleton.elim _ _
  rw [place_at]
  refine (payload_at _ _ _ _ r k).trans (Eq.trans ?_ (result_at m c _ _ _).symm)
  rw [gainBlock_at, shiftBlock_at, scaleBlock_at]
  exact congrArg (modulated · _ _ _ k) (funext fun i => streamBlock_at m c t r i)

/-- Every entry of the result lies in the block of the point its batch row and token name. -/
theorem cover (i : S32x2048x1024.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 1024 := (i 2).isLt
  have hN : cfg0.N = 128 := N_0
  obtain ⟨t, ht⟩ : ∃ t : Fin cfg0.N, t.val = (i 0).val * 4 + (i 1).val / 512 := ⟨⟨(i 0).val * 4 + (i 1).val / 512, by omega⟩, rfl⟩
  have e := (block_at t).2.2.2.2
  refine ⟨t, e.2, ?_⟩
  show i ∈ ((View.whole main_v1).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [e.1.1]; omega
  | ⟨1, _⟩ => show win0_4.index t 1 * 512 ≤ (i 1).val ∧ (i 1).val < win0_4.index t 1 * 512 + 512
              rw [e.1.2.1]; omega
  | ⟨2, _⟩ => show win0_4.index t 2 * 1024 ≤ (i 2).val ∧ (i 2).val < win0_4.index t 2 * 1024 + 1024
              rw [e.1.2.2]; omega

/-- The result array after the run is the reference's result. -/
theorem final (c : Dev nD) : (dats m 0 c).arrAt 4 cfg0.N = result m c :=
  (dats m 0 c).arrAt_eq_of_cover 4 (result m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.NormIdeal.Row

end
-- ==== Proof.NormClaims.lean ====
/- The claims about the normalisation before each half of a layer. -/
module

public import proofs.«01_k».proof.Defs
public import proofs.«01_k».proof.Proof.Gen.Norm.Frame
public import proofs.«01_k».proof.Proof.Gen.NormIdeal.Frame
public import proofs.«01_k».proof.Proof.NormValue

@[expose] public section

noncomputable section

namespace Cert.Proof.Norm

open Idealize.ShloMosaic Idealize.SL.Sem

/-- The call runs to its end from any state, in machine words, and leaves its arguments as they were. -/
theorem frame : Cert.quiescent_Norm := fun m ρ _ => Cert.Norm.Gen.frame m ρ

/-- The same over the extended reals. -/
theorem frame_ideal : Cert.quiescent_NormIdeal := fun m ρ _ => Cert.NormIdeal.Gen.frame m ρ

/-- The reference runs to its end from any state and leaves its arguments as they were. -/
theorem frame_reference : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

/-- Over the extended reals the call and the reference leave the same result for the same arguments. -/
theorem algebraic : Cert.algebraic_NormIdeal_NormRefIdeal := fun m ρ m' ρ' _ hag =>
  ⟨fun c => Cert.NormIdeal.Row.result m c, Cert.NormIdeal.Row.run m ρ,
    (θ_run Cert.NormRefIdeal.defs _ _).mono
      (fun _ h c => ⟨(h c).1.trans (by unfold Cert.NormIdeal.Row.result; rw [(hag c).1, (hag c).2.1, (hag c).2.2.1, (hag c).2.2.2]; rfl), (h c).2⟩)
      (Cert.NormRefIdeal.Value.run (F := Ideal) m' ρ')⟩

end Cert.Proof.Norm

end
-- ==== Proof.FinalValue.lean ====
/- The last normalisation: a row is divided by the root of its mean square and weighed. The kernel scales by one plus a zero
   and shifts by a zero. What it leaves in its result array is the reference's array, entry by entry over the extended
   reals. -/
module

public import proofs.«01_k».proof.Proof.Gen.FinalIdeal.Value
public import proofs.«01_k».proof.Proof.Gen.FinalRefIdeal.Run
public import proofs.«01_k».proof.Proof.Gen.FinalRefIdeal.Read
public import Idealize.ShloMosaic.Lib.Pointwise

@[expose] public section

set_option maxRecDepth 16384

noncomputable section

namespace Cert.FinalIdeal.Row

open Cert.FinalIdeal Cert.FinalIdeal.Gen Idealize.ShloMosaic Idealize.ShloMosaic.TcCoe Idealize.SL.Sem

variable (m : (ℓ : Loc nD τ sig) → Buf (Elt Ideal) ℓ) (ρ : Dev nD → PrngReg)

/-- One entry of the norm, from its row and its weight. -/
def normed (x : Fin 1024 → EReal) (g : EReal) (k : Fin 1024) : EReal :=
  x k * Ideal.rsqrt (Ideal.div (∑ i : Fin 1024, x i * x i) (Ideal.ofBits .f32 0x44800000#32) + Ideal.ofBits .f32 0x358637BD#32) * g

/-- The words of zero and of one, over the extended reals. -/
theorem zero_word : Ideal.ofBits .f32 0x00000000#32 = (0 : EReal) := by simp [Ideal.ofBits, Ideal.ieee]
@[inherit_doc zero_word] theorem one_word : Ideal.ofBits .f32 0x3F800000#32 = (1 : EReal) := by
  simp [Ideal.ofBits, Ideal.ieee, -EReal.coe_mul]; norm_num

/-- The offset of a load or store of a whole rank-two buffer. -/
theorem origin2 : (![0, 0] : Fin 2 → Nat) = fun _ => 0 := funext fun a => by fin_cases a <;> rfl

/-- The offset of a load or store of a whole rank-three buffer. -/
theorem origin3 : (![0, 0, 0] : Fin 3 → Nat) = fun _ => 0 := funext fun a => by fin_cases a <;> rfl

/-- Where each window's block lies: point `t` takes 512 rows of batch row `t / 4`, the weight whole, and the modulation of
    its batch row. -/
theorem block_at : ∀ t : Fin cfg0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0)
    ∧ (cfg0.win 4).flush t = true :=
  (by decide +kernel : ∀ t : Fin grid0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0)
    ∧ (cfg0.win 4).flush t = true)

/-- The stream and the weight of the norm the program is given. -/
abbrev stream (c : Dev nD) : S32x2048x1024.Idx → EReal := m ((c : Thread nD τ).loc main_arg0)
@[inherit_doc stream] abbrev gain (c : Dev nD) : S1024.Idx → EReal := m ((c : Thread nD τ).loc main_arg1)

/-- The weight the grid finds is the argument, as one row. -/
theorem gain_at (c : Dev nD) (k : Fin 1024) : (V m c main_v1 : S1x1024.Idx → EReal) (ix2 (0 : Fin 1) k) = gain m c (ix1 k) := by
  have h : (V m c main_v1 : S1x1024.Idx → EReal) = shapeCast S1x1024 (gain m c) shapeCasts_S1024_S1x1024 := by
    unfold_abbrev_sides
    after_results <;> rfl
  rw [h]
  pointwise []

/-- A point's batch row. -/
abbrev batchOf (t : Fin cfg0.N) : Fin 32 := ⟨t.val / 4, by have hN : cfg0.N = 128 := N_0; have := t.isLt; omega⟩

/-- The token of a point's row. -/
abbrev tokenOf (t : Fin cfg0.N) (r : Fin 512) : Fin 2048 := ⟨t.val % 4 * 512 + r.val, by omega⟩

/-- A point's block of the stream. -/
theorem streamBlock_at (c : Dev nD) (t : Fin cfg0.N) (r : Fin 512) (k : Fin 1024) :
    (iblk m c 0 t (ix3 (0 : Fin 1) r k) : EReal) = stream m c (ix3 (batchOf t) (tokenOf t r) k) := by
  have e := (block_at t).1
  have hV : stream m c = V m c main_arg0 := (V_main_arg0 m c).symm
  rw [hV]
  unfold iblk
  rw [View.read_apply, cast_eq]
  refine congrArg (V m c main_arg0) (funext fun a => Fin.ext ?_)
  match a with
  | ⟨0, _⟩ => show win0_0.index t 0 * 1 + 1 * 0 = t.val / 4
              rw [e.1]; omega
  | ⟨1, _⟩ => show win0_0.index t 1 * 512 + 1 * r.val = t.val % 4 * 512 + r.val
              rw [e.2.1]; omega
  | ⟨2, _⟩ => show win0_0.index t 2 * 1024 + 1 * k.val = k.val
              rw [e.2.2]; omega

/-- A point's block of the weight: the whole of it. -/
theorem gainBlock_at (c : Dev nD) (t : Fin cfg0.N) (k : Fin 1024) :
    (iblk m c 1 t (ix2 (0 : Fin 1) k) : EReal) = gain m c (ix1 k) := by
  have e := (block_at t).2.1
  rw [← gain_at m c k]
  unfold iblk
  rw [View.read_apply, cast_eq]
  refine congrArg (V m c main_v1) (funext fun a => Fin.ext ?_)
  match a with
  | ⟨0, _⟩ => show win0_1.index t 0 * 1 + 1 * 0 = 0
              rw [e.1]
  | ⟨1, _⟩ => show win0_1.index t 1 * 1024 + 1 * k.val = k.val
              rw [e.2]; omega

/-- The array of the modulation the grid finds is zero. -/
theorem modulation_at (c : Dev nD) (i : S32x1x1024.Idx) : (V m c main_v0 : S32x1x1024.Idx → EReal) i = (0 : EReal) := by
  have h : (V m c main_v0 : S32x1x1024.Idx → EReal)
      = broadcastInDim S32x1x1024 ![] bcast_S_S32x1x1024 (constant (F := Ideal) S_ .f32 0x00000000#32) := by
    unfold_abbrev_sides
    after_results <;> rfl
  rw [h]
  exact zero_word

/-- A point's shift and its scale are zero. -/
theorem shiftBlock_at (c : Dev nD) (t : Fin cfg0.N) (j : S1x1x1024.Idx) : (iblk m c 2 t j : EReal) = (0 : EReal) := by
  unfold iblk
  rw [View.read_apply, cast_eq]
  exact modulation_at m c _

@[inherit_doc shiftBlock_at]
theorem scaleBlock_at (c : Dev nD) (t : Fin cfg0.N) (j : S1x1x1024.Idx) : (iblk m c 3 t j : EReal) = (0 : EReal) := by
  unfold iblk
  rw [View.read_apply, cast_eq]
  exact modulation_at m c _

/-- One entry of what a grid point computes. -/
theorem payload_at (x : FVec Ideal S1x512x1024 .f32) (g : FVec Ideal S1x1024 .f32) (sc sh : FVec Ideal S1x1x1024 .f32)
    (r : Fin 512) (k : Fin 1024) :
    k0_pay1 (F := Ideal) x g sc sh (ix3 (0 : Fin 1) r k)
      = normed (fun i => x (ix3 (0 : Fin 1) r i)) (g (ix2 (0 : Fin 1) k)) k
          * (Ideal.ofBits .f32 0x3F800000#32 + sc (ix3 (0 : Fin 1) (0 : Fin 1) k)) + sh (ix3 (0 : Fin 1) (0 : Fin 1) k) := by
  unfold normed
  pointwise [k0_pay1]

/-- The reference's result for the kernel's arguments. -/
abbrev result (c : Dev nD) : S32x2048x1024.Idx → EReal :=
  Cert.FinalRefIdeal.Read.val_main_v12 (F := Ideal) (stream m c) (gain m c)

open Cert.FinalRefIdeal.Read in
/-- One entry of the reference's result. -/
theorem result_at (c : Dev nD) (b : Fin 32) (n : Fin 2048) (k : Fin 1024) :
    result m c (ix3 b n k) = normed (fun i => stream m c (ix3 b n i)) (gain m c (ix1 k)) k := by
  unfold result normed
  generalize stream m c = x
  generalize gain m c = g
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- Where an entry of point `t`'s block lies in the result. -/
theorem place_at (t : Fin cfg0.N) (r : Fin 512) (k : Fin 1024) :
    (win0_4.blk t).view.emb (ix3 (0 : Fin 1) r k) = ix3 (batchOf t) (tokenOf t r) k := by
  have e := (block_at t).2.2.2.2.1
  refine funext fun d => Fin.ext ?_
  match d with
  | ⟨0, _⟩ => show win0_4.index t 0 * 1 + 1 * 0 = t.val / 4
              rw [e.1]; omega
  | ⟨1, _⟩ => show win0_4.index t 1 * 512 + 1 * r.val = t.val % 4 * 512 + r.val
              rw [e.2.1]; omega
  | ⟨2, _⟩ => show win0_4.index t 2 * 1024 + 1 * k.val = k.val
              rw [e.2.2]; omega

/-- What point `t` writes back is its block of the reference's result. -/
theorem flushed_eq (c : Dev nD) (t : Fin cfg0.N) :
    (dats m 0 c).flushed 4 t = (win0_4.blk t).view.read (Elt Ideal) (result m c) := by
  rw [Value.flushed4]
  unfold out0_4
  rw [View.canon_unit_zero origin3, View.ld_unit_zero origin3, View.ld_unit_zero origin2, View.ld_unit_zero origin3,
    View.ld_unit_zero origin3]
  funext j
  show k0_pay1 (iblk m c 0 t) (iblk m c 1 t) (iblk m c 3 t) (iblk m c 2 t) j = _
  rw [View.read_apply, cast_eq]
  obtain ⟨z, r, k, rfl⟩ : ∃ (z : Fin 1) (r : Fin 512) (k : Fin 1024), j = ix3 z r k := ⟨j 0, j 1, j 2, eq_ix3 j⟩
  obtain rfl : z = 0 := Subsingleton.elim _ _
  rw [place_at]
  refine (payload_at _ _ _ _ r k).trans (Eq.trans ?_ (result_at m c _ _ _).symm)
  rw [gainBlock_at, shiftBlock_at, scaleBlock_at, one_word, (add_zero 1 : (1 : EReal) + 0 = 1), mul_one, add_zero]
  exact congrArg (normed · _ k) (funext fun i => streamBlock_at m c t r i)

/-- Every entry of the result lies in the block of the point its batch row and token name. -/
theorem cover (i : S32x2048x1024.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 1024 := (i 2).isLt
  have hN : cfg0.N = 128 := N_0
  obtain ⟨t, ht⟩ : ∃ t : Fin cfg0.N, t.val = (i 0).val * 4 + (i 1).val / 512 := ⟨⟨(i 0).val * 4 + (i 1).val / 512, by omega⟩, rfl⟩
  have e := (block_at t).2.2.2.2
  refine ⟨t, e.2, ?_⟩
  show i ∈ ((View.whole main_v2).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [e.1.1]; omega
  | ⟨1, _⟩ => show win0_4.index t 1 * 512 ≤ (i 1).val ∧ (i 1).val < win0_4.index t 1 * 512 + 512
              rw [e.1.2.1]; omega
  | ⟨2, _⟩ => show win0_4.index t 2 * 1024 ≤ (i 2).val ∧ (i 2).val < win0_4.index t 2 * 1024 + 1024
              rw [e.1.2.2]; omega

/-- The result array after the run is the reference's result. -/
theorem final (c : Dev nD) : (dats m 0 c).arrAt 4 cfg0.N = result m c :=
  (dats m 0 c).arrAt_eq_of_cover 4 (result m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FinalIdeal.Row

end
-- ==== Proof.FinalClaims.lean ====
/- The claims about the last normalisation. -/
module

public import proofs.«01_k».proof.Defs
public import proofs.«01_k».proof.Proof.Gen.Final.Frame
public import proofs.«01_k».proof.Proof.Gen.FinalIdeal.Frame
public import proofs.«01_k».proof.Proof.FinalValue

@[expose] public section

noncomputable section

namespace Cert.Proof.Final

open Idealize.ShloMosaic Idealize.SL.Sem

/-- The call runs to its end from any state, in machine words, and leaves its arguments as they were. -/
theorem frame : Cert.quiescent_Final := fun m ρ _ => Cert.Final.Gen.frame m ρ

/-- The same over the extended reals. -/
theorem frame_ideal : Cert.quiescent_FinalIdeal := fun m ρ _ => Cert.FinalIdeal.Gen.frame m ρ

/-- The reference runs to its end from any state and leaves its arguments as they were. -/
theorem frame_reference : Cert.quiescent_FinalRefIdeal := fun m ρ _ =>
  (θ_run Cert.FinalRefIdeal.defs _ _).mono (fun r h => ⟨fun c => (h c).2,
      Idealize.ShloMosaic.sem_eq_zero_of_no_sems (by decide) r.2⟩)
    (Cert.FinalRefIdeal.Value.run (F := Ideal) m ρ)

/-- Over the extended reals the call and the reference leave the same result for the same arguments. -/
theorem algebraic : Cert.algebraic_FinalIdeal_FinalRefIdeal := fun m ρ m' ρ' _ hag =>
  ⟨fun c => Cert.FinalIdeal.Row.result m c, Cert.FinalIdeal.Row.run m ρ,
    (θ_run Cert.FinalRefIdeal.defs _ _).mono
      (fun _ h c => ⟨(h c).1.trans (by unfold Cert.FinalIdeal.Row.result; rw [(hag c).1, (hag c).2]; rfl), (h c).2⟩)
      (Cert.FinalRefIdeal.Value.run (F := Ideal) m' ρ')⟩

end Cert.Proof.Final

end
-- ==== Proof.RopeValue.lean ====
/- The rotary embedding of queries and keys: every head's two halves are turned pairwise by the angles of the token's row and
   column in the grid.  The kernel multiplies by a table of cosines and adds the neighbour 16 lanes away times a table of
   signed sines; the reference writes the turn out.  Over the extended reals the two agree entry by entry. -/
module

public import proofs.«01_k».proof.Proof.Gen.RopeIdeal.Value
public import proofs.«01_k».proof.Proof.Gen.RopeRefIdeal.Run
public import proofs.«01_k».proof.Proof.Gen.RopeRefIdeal.Read
public import Idealize.ShloMosaic.Lib.Pointwise

@[expose] public section

set_option maxRecDepth 16384

noncomputable section

namespace Cert.RopeIdeal.Turn

open Cert.RopeIdeal Cert.RopeIdeal.Gen Idealize.ShloMosaic Idealize.ShloMosaic.TcCoe Idealize.SL.Sem

variable (m : (ℓ : Loc nD τ sig) → Buf (Elt Ideal) ℓ) (ρ : Dev nD → PrngReg)

/-! ## A grid point's block -/

/-- The word telling the first from the second half of an axis, lane by lane. -/
theorem half_word : ∀ l : Fin 128, IntOp.cmpi CmpIPredicate.slt
    (Scalar.select
      (IntOp.andi
        (IntOp.xori (IntOp.cmpi CmpIPredicate.slt (IntOp.remsi ArithUnit.vector (BitVec.ofNat 32 l.val) 32#32) 0#32)
          (Scalar.cmpi CmpIPredicate.slt 32#32 0#32))
        (IntOp.cmpi CmpIPredicate.ne (IntOp.remsi ArithUnit.vector (BitVec.ofNat 32 l.val) 32#32) 0#32))
      (IntOp.addi (IntOp.remsi ArithUnit.vector (BitVec.ofNat 32 l.val) 32#32) 32#32)
      (IntOp.remsi ArithUnit.vector (BitVec.ofNat 32 l.val) 32#32)) 16#32 = if l.val % 32 < 16 then 1#1 else 0#1 := by
  decide +kernel

/-- The lane a lane is paired with: 16 further in the first half of an axis, 16 back in the second. -/
def mate (n : Fin 640) : Fin 640 := ⟨if n.val % 32 < 16 then n.val + 16 else n.val - 16, by split <;> omega⟩

/-- One entry of 128 lanes' payload: the entry times the cosine plus its mate's entry times the signed sine. -/
theorem payload_at (x : Vec Ideal S1x512x128 .f32) (c s : Vec Ideal S512x128 .f32) (a : Fin 512) (l : Fin 128) :
    k0_pay2 (F := Ideal) x c s (ix3 (0 : Fin 1) a l)
      = (x (ix3 (0 : Fin 1) a l) * c (ix2 a l)
        + x (ix3 (0 : Fin 1) a (⟨if l.val % 32 < 16 then l.val + 16 else l.val - 16, by split <;> omega⟩ : Fin 128)) * s (ix2 a l) : EReal) := by
  have e : k0_pay2 (F := Ideal) x c s = k0_pay5 (k0_pay4 x) (iota .tc S512x128 32 [1] iota_S512x128_d1_w32) 32#32 0#1 1#32 c s := rfl
  rw [e]
  pointwise [k0_pay5, k0_pay4]
  rw [half_word]
  by_cases h : l.val % 32 < 16
  · rw [if_pos h]
    refine congrArg₂ _ rfl (congrArg₂ _ (congrArg x (congrArg (ix3 (0 : Fin 1) a) (Fin.ext ?_))) rfl)
    show (l.val + 128 - 112) % 128 = if l.val % 32 < 16 then l.val + 16 else l.val - 16
    rw [if_pos h]; omega
  · rw [if_neg h]
    refine congrArg₂ _ rfl (congrArg₂ _ (congrArg x (congrArg (ix3 (0 : Fin 1) a) (Fin.ext ?_))) rfl)
    show (l.val + 128 - 16) % 128 = if l.val % 32 < 16 then l.val + 16 else l.val - 16
    rw [if_neg h]; omega

/-- A turned block: every entry times the cosine plus its mate's entry times the signed sine. -/
def turned (x : Vec Ideal S1x512x640 .f32) (c s : Vec Ideal S512x640 .f32) : Vec Ideal S1x512x640 .f32 := fun y =>
  (x y * c (ix2 (y 1 : Fin 512) (y 2 : Fin 640)) + x (ix3 (0 : Fin 1) (y 1 : Fin 512) (mate (y 2))) * s (ix2 (y 1 : Fin 512) (y 2 : Fin 640)) : EReal)

/-- Mates are found within each group of 128 lanes. -/
theorem mate_shift (o : Nat) (ho : o % 32 = 0) (hl : o ≤ 512) (l : Fin 128) :
    (mate ⟨o + l.val, by omega⟩).val = o + (if l.val % 32 < 16 then l.val + 16 else l.val - 16) := by
  show (if (o + l.val) % 32 < 16 then o + l.val + 16 else o + l.val - 16) = _
  split <;> split <;> omega

/-- What the kernel stores for 128 lanes is those lanes of the turned block. -/
theorem piece_at (o : Nat) (ho : o % 32 = 0) (hl : o ≤ 512) (x : Vec Ideal S1x512x640 .f32) (c s : Vec Ideal S512x640 .f32)
    (h1 : ∀ a, (![0, 0, o] : Fin 3 → Nat) a + S1x512x128.size a ≤ S1x512x640.size a)
    (h2 : ∀ a, (![0, o] : Fin 2 → Nat) a + S512x128.size a ≤ S512x640.size a) (y : S1x512x128.Idx) :
    k0_pay2 (F := Ideal) (View.ld x (Rect.unit (s := S1x512x640) ![0, 0, o] S1x512x128.size h1)) (View.ld c (Rect.unit (s := S512x640) ![0, o] S512x128.size h2))
        (View.ld s (Rect.unit (s := S512x640) ![0, o] S512x128.size h2)) y
      = turned x c s ((Rect.unit (s := S1x512x640) ![0, 0, o] S1x512x128.size h1).emb y) := by
  obtain ⟨z, a, l, rfl⟩ : ∃ (z : Fin 1) (a : Fin 512) (l : Fin 128), y = ix3 z a l := ⟨y 0, y 1, y 2, eq_ix3 y⟩
  obtain rfl : z = 0 := Subsingleton.elim _ _
  have e1 : ∀ (w : Vec Ideal S512x640 .f32), View.ld w (Rect.unit (s := S512x640) ![0, o] S512x128.size h2) (ix2 a l)
      = w (ix2 a (⟨o + l.val, by omega⟩ : Fin 640)) := fun w =>
    congrArg w (funext fun d => Fin.ext (match d with
      | ⟨0, _⟩ => show 0 + 1 * a.val = a.val by omega
      | ⟨1, _⟩ => show o + 1 * l.val = o + l.val by omega))
  have e2 : ∀ (k : Fin 128) (n : Fin 640), n.val = o + k.val →
      View.ld x (Rect.unit (s := S1x512x640) ![0, 0, o] S1x512x128.size h1) (ix3 (0 : Fin 1) a k) = x (ix3 (0 : Fin 1) a n) :=
    fun k n hn => congrArg x (funext fun d => Fin.ext (match d with
      | ⟨0, _⟩ => rfl
      | ⟨1, _⟩ => show 0 + 1 * a.val = a.val by omega
      | ⟨2, _⟩ => show o + 1 * k.val = n.val by omega))
  have e3 : (Rect.unit (s := S1x512x640) ![0, 0, o] S1x512x128.size h1).emb (ix3 (0 : Fin 1) a l)
      = ix3 (0 : Fin 1) a (⟨o + l.val, by omega⟩ : Fin 640) := funext fun d => Fin.ext (match d with
      | ⟨0, _⟩ => rfl
      | ⟨1, _⟩ => show 0 + 1 * a.val = a.val by omega
      | ⟨2, _⟩ => show o + 1 * l.val = o + l.val by omega)
  refine (payload_at _ _ _ a l).trans ?_
  rw [e1, e1, e2 l ⟨o + l.val, by omega⟩ rfl, e2 _ (mate ⟨o + l.val, by omega⟩) (mate_shift o ho hl l), e3]
  rfl

/-- The result's buffer at a point, from the point's blocks. -/
theorem out_eq (c : Dev nD) (t : Fin cfg0.N) : outsAt0 m c t = turned (X0_0 m c t) (iblk m c 1 t) (iblk m c 2 t) := by
  unfold outsAt0 out0_A_3
  rw [View.read_writes_eq_canon _ _ _ (fun y => cover0_A_3 _ _ _ _ _ _ _ _ _ _ _ _ _ y)]
  funext y
  refine View.canon_apply_of_pieces (Val := Elt Ideal) (turned (X0_0 m c t) (iblk m c 1 t) (iblk m c 2 t)) _ ?_ y
    (cover0_A_3 _ _ _ _ _ _ _ _ _ _ _ _ _ y)
  unfold kernelRun0_A
  dsimp only
  sl_unfold_words
  intro p hp
  simp only [View.readAt_eq_ld, Memref.IsWhole.read_unread, List.mem_cons, List.not_mem_nil, or_false] at hp
  rcases hp with rfl | rfl | rfl | rfl | rfl
  · exact fun y => piece_at 512 (by decide) (by decide) _ _ _ _ _ y
  · exact fun y => piece_at 384 (by decide) (by decide) _ _ _ _ _ y
  · exact fun y => piece_at 256 (by decide) (by decide) _ _ _ _ _ y
  · exact fun y => piece_at 128 (by decide) (by decide) _ _ _ _ _ y
  · exact fun y => piece_at 0 (by decide) (by decide) _ _ _ _ _ y

/-! ## The tables -/

open Cert.RopeRefIdeal.Read in
/-- A head's cosines: row angles twice, then column angles twice. -/
abbrev cosHead (r k : FVec Ideal S2048x16 .f32) : FVec Ideal S2048x64 .f32 :=
  concatenate S2048x64 1
    [⟨S2048x32, concatenate S2048x32 1 [⟨S2048x16, Host.cos r⟩, ⟨S2048x16, Host.cos r⟩] concatenates_S2048x16_S2048x16_S2048x32_d1⟩,
      ⟨S2048x32, concatenate S2048x32 1 [⟨S2048x16, Host.cos k⟩, ⟨S2048x16, Host.cos k⟩] concatenates_S2048x16_S2048x16_S2048x32_d1⟩]
    concatenates_S2048x32_S2048x32_S2048x64_d1

/-- A head's signed sines: the first half of either axis negated. -/
abbrev sinHead (r k : FVec Ideal S2048x16 .f32) : FVec Ideal S2048x64 .f32 :=
  concatenate S2048x64 1
    [⟨S2048x32, concatenate S2048x32 1 [⟨S2048x16, Host.negf (Host.sin r)⟩, ⟨S2048x16, Host.sin r⟩] concatenates_S2048x16_S2048x16_S2048x32_d1⟩,
      ⟨S2048x32, concatenate S2048x32 1 [⟨S2048x16, Host.negf (Host.sin k)⟩, ⟨S2048x16, Host.sin k⟩] concatenates_S2048x16_S2048x16_S2048x32_d1⟩]
    concatenates_S2048x32_S2048x32_S2048x64_d1

/-- A table for eight scaled query heads and two key heads, from one head's. -/
abbrev table (h : FVec Ideal S2048x64 .f32) : FVec Ideal S2048x640 .f32 :=
  concatenate S2048x640 1
    [⟨S2048x512, mulf (shapeCast S2048x512 (broadcastInDim S1x2048x8x64 ![0, 1, 2, 3] bcast_S1x2048x1x64_S1x2048x8x64_0_1_2_3
        (shapeCast S1x2048x1x64 h shapeCasts_S2048x64_S1x2048x1x64)) shapeCasts_S1x2048x8x64_S2048x512)
        (broadcastInDim S2048x512 ![] bcast_S_S2048x512 (constant S_ .f32 0x3E000000#32))⟩,
      ⟨S2048x128, shapeCast S2048x128 (broadcastInDim S1x2048x2x64 ![0, 1, 2, 3] bcast_S1x2048x1x64_S1x2048x2x64_0_1_2_3
        (shapeCast S1x2048x1x64 h shapeCasts_S2048x64_S1x2048x1x64)) shapeCasts_S1x2048x2x64_S2048x128⟩]
    concatenates_S2048x512_S2048x128_S2048x640_d1

/-- The angles of a token's row and of its column, as the reference computes them. -/
abbrev rowAngle : FVec Ideal S2048x16 .f32 := Cert.RopeRefIdeal.Read.val_main_v23 (F := Ideal)
@[inherit_doc rowAngle] abbrev colAngle : FVec Ideal S2048x16 .f32 := Cert.RopeRefIdeal.Read.val_main_v28 (F := Ideal)

/-- The cosine table as the grid finds it. -/
theorem entry_cos (c : Dev nD) : V m c main_v49 = table (cosHead rowAngle colAngle) := by
  unfold_abbrev_sides
  after_results <;> rfl

/-- The sine table as the grid finds it. -/
theorem entry_sin (c : Dev nD) : V m c main_v58 = table (sinHead rowAngle colAngle) := by
  unfold_abbrev_sides
  after_results <;> rfl

/-- The queries' scale is an eighth. -/
theorem eighth : Ideal.ofBits .f32 0x3E000000#32 = ((1 / 8 : ℝ) : EReal) := by
  simp [Ideal.ofBits, Ideal.ieee, -EReal.coe_mul]; norm_num

/-- An entry of a table: its head's entry, scaled for the queries. -/
theorem table_at (h : FVec Ideal S2048x64 .f32) (s : Fin 2048) (n : Fin 640) :
    table h (ix2 s n) = (if n.val < 512 then h (ix2 s (⟨n.val % 64, by omega⟩ : Fin 64)) * Ideal.ofBits .f32 0x3E000000#32
      else h (ix2 s (⟨n.val % 64, by omega⟩ : Fin 64)) : EReal) := by
  pointwise [table]
  by_cases hn : n.val < 512
  · rw [dif_pos hn, if_pos hn]
  · rw [dif_neg hn, if_neg hn]
    exact congrArg h (congrArg (ix2 s) (Fin.ext (show (n.val - 512) % 64 = n.val % 64 by omega)))

/-- The angles a lane of a head is turned by: the row's in its first half, the column's in its second. -/
def angles (s : Fin 2048) (h : Fin 64) : Fin 16 → EReal := fun i => (if h.val < 32 then rowAngle else colAngle) (ix2 s i)

/-- An entry of a head's cosines. -/
theorem cos_at (s : Fin 2048) (h : Fin 64) :
    cosHead rowAngle colAngle (ix2 s h) = (Ideal.cos (angles s h (⟨h.val % 16, by omega⟩ : Fin 16)) : EReal) := by
  unfold angles
  generalize rowAngle = r
  generalize colAngle = k
  have e : ∀ (w : FVec Ideal S2048x16 .f32) (p q : Fin 16), p.val = q.val → Ideal.cos (w (ix2 s p)) = Ideal.cos (w (ix2 s q)) :=
    fun w p q hpq => by rw [Fin.ext hpq]
  pointwise [cosHead]
  by_cases h0 : h.val < 32
  · rw [dif_pos h0, if_pos h0]
    split
    · exact e r _ _ (by dsimp only; omega)
    · exact e r _ _ (by dsimp only; omega)
  · rw [dif_neg h0, if_neg h0]
    split
    · exact e k _ _ (by dsimp only; omega)
    · exact e k _ _ (by dsimp only; omega)

/-- An entry of a head's signed sines. -/
theorem sin_at (s : Fin 2048) (h : Fin 64) :
    sinHead rowAngle colAngle (ix2 s h) = (if h.val % 32 < 16 then -Ideal.sin (angles s h (⟨h.val % 16, by omega⟩ : Fin 16))
      else Ideal.sin (angles s h (⟨h.val % 16, by omega⟩ : Fin 16)) : EReal) := by
  unfold angles
  generalize rowAngle = r
  generalize colAngle = k
  have e : ∀ (w : FVec Ideal S2048x16 .f32) (p q : Fin 16), p.val = q.val → Ideal.sin (w (ix2 s p)) = Ideal.sin (w (ix2 s q)) :=
    fun w p q hpq => by rw [Fin.ext hpq]
  pointwise [sinHead]
  by_cases h0 : h.val < 32
  · rw [dif_pos h0, if_pos h0]
    by_cases h1 : h.val < 16
    · rw [dif_pos h1, if_pos (show h.val % 32 < 16 by omega)]
      exact congrArg _ (e r _ _ (by dsimp only; omega))
    · rw [dif_neg h1, if_neg (show ¬ h.val % 32 < 16 by omega)]
      exact e r _ _ (by dsimp only; omega)
  · rw [dif_neg h0, if_neg h0]
    by_cases h1 : h.val - 32 < 16
    · rw [dif_pos h1, if_pos (show h.val % 32 < 16 by omega)]
      exact congrArg _ (e k _ _ (by dsimp only; omega))
    · rw [dif_neg h1, if_neg (show ¬ h.val % 32 < 16 by omega)]
      exact e k _ _ (by dsimp only; omega)

/-! ## The reference -/

/-- One axis of one head turned: lane `j` of the 32 lanes that begin at `o` of a token's row. -/
def axisTurn (x : Fin 1792 → EReal) (ang : Fin 16 → EReal) (o : Nat) (ho : o + 32 ≤ 1792) (j : Fin 32) : EReal :=
  if h : j.val < 16 then
    x ⟨o + j.val, by omega⟩ * Ideal.cos (ang ⟨j.val, h⟩) - x ⟨o + (j.val + 16), by omega⟩ * Ideal.sin (ang ⟨j.val, h⟩)
  else
    x ⟨o + j.val, by omega⟩ * Ideal.cos (ang ⟨j.val - 16, by omega⟩)
      + x ⟨o + (j.val - 16), by omega⟩ * Ideal.sin (ang ⟨j.val - 16, by omega⟩)

/-- An entry with its column spelled in two ways. -/
theorem spelled (x : FVec Ideal S32x2048x1792 .f32) (b : Fin 32) (s : Fin 2048) (p q : Fin 1792) (h : p.val = q.val) :
    x (ix3 b s p) = x (ix3 b s q) := by rw [Fin.ext h]

open Cert.RopeRefIdeal.Read in
/-- The queries' row axis. -/
theorem query_row_at (x : FVec Ideal S32x2048x1792 .f32) (b : Fin 32) (s : Fin 2048) (g : Fin 8) (j : Fin 32) :
    val_main_v52 (F := Ideal) x (ix4 b s g j)
      = axisTurn (fun n => x (ix3 b s n)) (fun i => rowAngle (ix2 s i)) (0 + 64 * g.val) (by omega) j := by
  unfold axisTurn
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29]
  by_cases h : j.val < 16
  · rw [dif_pos h, dif_pos h]
    exact congrArg₂ _ (congrArg₂ _ (spelled x b s _ _ (by dsimp only; omega)) rfl)
      (congrArg₂ _ (spelled x b s _ _ (by dsimp only; omega)) rfl)
  · rw [dif_neg h, dif_neg h]
    exact congrArg₂ _ (congrArg₂ _ (spelled x b s _ _ (by dsimp only; omega)) rfl)
      (congrArg₂ _ (spelled x b s _ _ (by dsimp only; omega)) rfl)

open Cert.RopeRefIdeal.Read in
/-- The queries' column axis. -/
theorem query_col_at (x : FVec Ideal S32x2048x1792 .f32) (b : Fin 32) (s : Fin 2048) (g : Fin 8) (j : Fin 32) :
    val_main_v74 (F := Ideal) x (ix4 b s g j)
      = axisTurn (fun n => x (ix3 b s n)) (fun i => colAngle (ix2 s i)) (32 + 64 * g.val) (by omega) j := by
  unfold axisTurn
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v30, val_main_v29]
  by_cases h : j.val < 16
  · rw [dif_pos h, dif_pos h]
    exact congrArg₂ _ (congrArg₂ _ (spelled x b s _ _ (by dsimp only; omega)) rfl)
      (congrArg₂ _ (spelled x b s _ _ (by dsimp only; omega)) rfl)
  · rw [dif_neg h, dif_neg h]
    exact congrArg₂ _ (congrArg₂ _ (spelled x b s _ _ (by dsimp only; omega)) rfl)
      (congrArg₂ _ (spelled x b s _ _ (by dsimp only; omega)) rfl)

open Cert.RopeRefIdeal.Read in
/-- The keys' row axis. -/
theorem key_row_at (x : FVec Ideal S32x2048x1792 .f32) (b : Fin 32) (s : Fin 2048) (g : Fin 2) (j : Fin 32) :
    val_main_v99 (F := Ideal) x (ix4 b s g j)
      = axisTurn (fun n => x (ix3 b s n)) (fun i => rowAngle (ix2 s i)) (512 + 64 * g.val) (by omega) j := by
  unfold axisTurn
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76]
  by_cases h : j.val < 16
  · rw [dif_pos h, dif_pos h]
    exact congrArg₂ _ (congrArg₂ _ (spelled x b s _ _ (by dsimp only; omega)) rfl)
      (congrArg₂ _ (spelled x b s _ _ (by dsimp only; omega)) rfl)
  · rw [dif_neg h, dif_neg h]
    exact congrArg₂ _ (congrArg₂ _ (spelled x b s _ _ (by dsimp only; omega)) rfl)
      (congrArg₂ _ (spelled x b s _ _ (by dsimp only; omega)) rfl)

open Cert.RopeRefIdeal.Read in
/-- The keys' column axis. -/
theorem key_col_at (x : FVec Ideal S32x2048x1792 .f32) (b : Fin 32) (s : Fin 2048) (g : Fin 2) (j : Fin 32) :
    val_main_v121 (F := Ideal) x (ix4 b s g j)
      = axisTurn (fun n => x (ix3 b s n)) (fun i => colAngle (ix2 s i)) (544 + 64 * g.val) (by omega) j := by
  unfold axisTurn
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v77, val_main_v76]
  by_cases h : j.val < 16
  · rw [dif_pos h, dif_pos h]
    exact congrArg₂ _ (congrArg₂ _ (spelled x b s _ _ (by dsimp only; omega)) rfl)
      (congrArg₂ _ (spelled x b s _ _ (by dsimp only; omega)) rfl)
  · rw [dif_neg h, dif_neg h]
    exact congrArg₂ _ (congrArg₂ _ (spelled x b s _ _ (by dsimp only; omega)) rfl)
      (congrArg₂ _ (spelled x b s _ _ (by dsimp only; omega)) rfl)

/-- A sum of two products with scaled factors. -/
theorem scaled (a b c d : EReal) :
    a * (b * Ideal.ofBits .f32 0x3E000000#32) + c * (d * Ideal.ofBits .f32 0x3E000000#32)
      = (a * b + c * d) * Ideal.ofBits .f32 0x3E000000#32 := by
  rw [eighth, EReal.right_distrib_of_nonneg_of_ne_top (by exact_mod_cast (by norm_num : (0 : ℝ) ≤ 1 / 8)) (EReal.coe_ne_top _),
    mul_assoc, mul_assoc]

/-- An entry times its head's cosine plus its mate's times its head's signed sine is the entry of the turned axis. -/
theorem turn_of (x : Fin 1792 → EReal) (s : Fin 2048) (n : Fin 640) (h : Fin 64) (o : Nat) (ho : o + 32 ≤ 1792) (j : Fin 32)
    (ang : Fin 16 → EReal) (ha : ang = angles s h) (hh : h.val % 32 = j.val) (ho32 : o % 32 = 0) (hn : n.val = o + j.val) :
    x ⟨n.val, by omega⟩ * cosHead rowAngle colAngle (ix2 s h) + x ⟨(mate n).val, by omega⟩ * sinHead rowAngle colAngle (ix2 s h)
      = axisTurn x ang o ho j := by
  subst ha
  rw [cos_at, sin_at]
  unfold axisTurn
  have e : ∀ (p q : Fin 1792), p.val = q.val → x p = x q := fun p q hpq => by rw [Fin.ext hpq]
  by_cases hj : j.val < 16
  · have hm : (mate n).val = n.val + 16 := if_pos (show n.val % 32 < 16 by omega)
    rw [dif_pos hj, if_pos (show h.val % 32 < 16 by omega), mul_neg, ← sub_eq_add_neg]
    have e3 : (⟨h.val % 16, by omega⟩ : Fin 16) = ⟨j.val, hj⟩ := Fin.ext (show h.val % 16 = j.val by omega)
    rw [e3, e ⟨n.val, by omega⟩ ⟨o + j.val, by omega⟩ hn,
      e ⟨(mate n).val, by omega⟩ ⟨o + (j.val + 16), by omega⟩ (by dsimp only; omega)]
  · have hm : (mate n).val = n.val - 16 := if_neg (show ¬ n.val % 32 < 16 by omega)
    rw [dif_neg hj, if_neg (show ¬ h.val % 32 < 16 by omega)]
    have e3 : (⟨h.val % 16, by omega⟩ : Fin 16) = ⟨j.val - 16, by omega⟩ := Fin.ext (show h.val % 16 = j.val - 16 by omega)
    rw [e3, e ⟨n.val, by omega⟩ ⟨o + j.val, by omega⟩ hn,
      e ⟨(mate n).val, by omega⟩ ⟨o + (j.val - 16), by omega⟩ (by dsimp only; omega)]

open Cert.RopeRefIdeal.Read in
/-- Where an entry of the reference's result comes from: a head and one of its axes. -/
theorem joined_at (x : FVec Ideal S32x2048x1792 .f32) (b : Fin 32) (s : Fin 2048) (n : Fin 640) :
    val_main_v127 (F := Ideal) x (ix3 b s n)
      = (if _hn : n.val < 512 then
          (if h : n.val % 64 < 32 then val_main_v52 (F := Ideal) x (ix4 b s (⟨n.val / 64, by omega⟩ : Fin 8) (⟨n.val % 64, h⟩ : Fin 32))
            else val_main_v74 (F := Ideal) x (ix4 b s (⟨n.val / 64, by omega⟩ : Fin 8) (⟨n.val % 64 - 32, by omega⟩ : Fin 32)))
            * Ideal.ofBits .f32 0x3E000000#32
        else if h : (n.val - 512) % 64 < 32 then
          val_main_v99 (F := Ideal) x (ix4 b s (⟨(n.val - 512) / 64, by omega⟩ : Fin 2) (⟨(n.val - 512) % 64, h⟩ : Fin 32))
        else val_main_v121 (F := Ideal) x
          (ix4 b s (⟨(n.val - 512) / 64, by omega⟩ : Fin 2) (⟨(n.val - 512) % 64 - 32, by omega⟩ : Fin 32)) : EReal) := by
  pointwise [val_main_v127, val_main_v126, val_main_v125, val_main_v124, val_main_v123, val_main_v122, val_main_v75, val_main_cst_3]

open Cert.RopeRefIdeal.Read in
/-- One entry of the reference's result: the entry times the cosine table's plus its mate's times the sine table's. -/
theorem reference_at (x : FVec Ideal S32x2048x1792 .f32) (b : Fin 32) (s : Fin 2048) (n : Fin 640) :
    val_main_v127 (F := Ideal) x (ix3 b s n)
      = (x (ix3 b s (⟨n.val, by omega⟩ : Fin 1792)) * table (cosHead rowAngle colAngle) (ix2 s n)
        + x (ix3 b s (⟨(mate n).val, by omega⟩ : Fin 1792)) * table (sinHead rowAngle colAngle) (ix2 s n) : EReal) := by
  have lo : ∀ h : Fin 64, h.val < 32 → (fun i => rowAngle (ix2 s i)) = angles s h := fun h hl => by
    unfold angles; rw [if_pos hl]
  have hi : ∀ h : Fin 64, ¬ h.val < 32 → (fun i => colAngle (ix2 s i)) = angles s h := fun h hl => by
    unfold angles; rw [if_neg hl]
  rw [table_at, table_at, joined_at]
  symm
  by_cases hn : n.val < 512
  · rw [if_pos hn, if_pos hn, dif_pos hn, scaled]
    refine congrArg (· * _) ?_
    by_cases h : n.val % 64 < 32
    · rw [dif_pos h, query_row_at]
      exact turn_of (fun n => x (ix3 b s n)) s n ⟨n.val % 64, by omega⟩ _ _ _ _ (lo _ (show n.val % 64 < 32 by omega))
        (show n.val % 64 % 32 = n.val % 64 by omega) (show (0 + 64 * (n.val / 64)) % 32 = 0 by omega)
        (show n.val = 0 + 64 * (n.val / 64) + n.val % 64 by omega)
    · rw [dif_neg h, query_col_at]
      exact turn_of (fun n => x (ix3 b s n)) s n ⟨n.val % 64, by omega⟩ _ _ _ _ (hi _ (show ¬ n.val % 64 < 32 by omega))
        (show n.val % 64 % 32 = (n.val % 64 - 32) by omega) (show (32 + 64 * (n.val / 64)) % 32 = 0 by omega)
        (show n.val = 32 + 64 * (n.val / 64) + (n.val % 64 - 32) by omega)
  · rw [if_neg hn, if_neg hn, dif_neg hn]
    by_cases h : (n.val - 512) % 64 < 32
    · rw [dif_pos h, key_row_at]
      exact turn_of (fun n => x (ix3 b s n)) s n ⟨n.val % 64, by omega⟩ _ _ _ _ (lo _ (show n.val % 64 < 32 by omega))
        (show n.val % 64 % 32 = (n.val - 512) % 64 by omega) (show (512 + 64 * ((n.val - 512) / 64)) % 32 = 0 by omega)
        (show n.val = 512 + 64 * ((n.val - 512) / 64) + (n.val - 512) % 64 by omega)
    · rw [dif_neg h, key_col_at]
      exact turn_of (fun n => x (ix3 b s n)) s n ⟨n.val % 64, by omega⟩ _ _ _ _ (hi _ (show ¬ n.val % 64 < 32 by omega))
        (show n.val % 64 % 32 = ((n.val - 512) % 64 - 32) by omega) (show (544 + 64 * ((n.val - 512) / 64)) % 32 = 0 by omega)
        (show n.val = 544 + 64 * ((n.val - 512) / 64) + ((n.val - 512) % 64 - 32) by omega)

/-! ## From the points to the whole array -/

/-- Where each window's block lies: point `t` is a batch row and a quarter of its tokens. -/
theorem block_at : ∀ t : Fin cfg0.N, (win0_0.index t 0 = t.val / 4 ∧ win0_0.index t 1 = t.val % 4 ∧ win0_0.index t 2 = 0)
    ∧ (win0_1.index t 0 = t.val % 4 ∧ win0_1.index t 1 = 0) ∧ (win0_2.index t 0 = t.val % 4 ∧ win0_2.index t 1 = 0)
    ∧ (win0_3.index t 0 = t.val / 4 ∧ win0_3.index t 1 = t.val % 4 ∧ win0_3.index t 2 = 0) ∧ (cfg0.win 3).flush t = true :=
  (by decide +kernel : ∀ t : Fin grid0.N, (win0_0.index t 0 = t.val / 4 ∧ win0_0.index t 1 = t.val % 4 ∧ win0_0.index t 2 = 0)
    ∧ (win0_1.index t 0 = t.val % 4 ∧ win0_1.index t 1 = 0) ∧ (win0_2.index t 0 = t.val % 4 ∧ win0_2.index t 1 = 0)
    ∧ (win0_3.index t 0 = t.val / 4 ∧ win0_3.index t 1 = t.val % 4 ∧ win0_3.index t 2 = 0) ∧ (cfg0.win 3).flush t = true)

/-- A point's batch row, and the token a row of its block is. -/
abbrev batchOf (t : Fin cfg0.N) : Fin 32 := ⟨t.val / 4, by have hN : cfg0.N = 128 := N_0; have := t.isLt; omega⟩
@[inherit_doc batchOf] abbrev tokenOf (t : Fin cfg0.N) (r : Fin 512) : Fin 2048 := ⟨t.val % 4 * 512 + r.val, by omega⟩

/-- The projection the program is given. -/
abbrev given (c : Dev nD) : S32x2048x1792.Idx → EReal := m ((c : Thread nD τ).loc main_arg0)

/-- A point's block of the projection: its first 640 columns. -/
theorem entry_at (c : Dev nD) (t : Fin cfg0.N) (r : Fin 512) (n : Fin 640) :
    (X0_0 m c t (ix3 (0 : Fin 1) r n) : EReal) = given m c (ix3 (batchOf t) (tokenOf t r) (⟨n.val, by omega⟩ : Fin 1792)) := by
  have e := (block_at t).1
  unfold X0_0 Pipeline.Window.fill
  rw [dif_pos (moved0_0 t _)]
  unfold iblk
  rw [View.read_apply, cast_eq]
  refine congrArg (V m c main_arg0) (funext fun a => Fin.ext ?_)
  match a with
  | ⟨0, _⟩ => show win0_0.index t 0 * 1 + 1 * 0 = t.val / 4
              rw [e.1]; omega
  | ⟨1, _⟩ => show win0_0.index t 1 * 512 + 1 * r.val = t.val % 4 * 512 + r.val
              rw [e.2.1]; omega
  | ⟨2, _⟩ => show win0_0.index t 2 * 640 + 1 * n.val = n.val
              rw [e.2.2]; omega

/-- A point's block of the cosine table. -/
theorem cos_block_at (c : Dev nD) (t : Fin cfg0.N) (r : Fin 512) (n : Fin 640) :
    (iblk m c 1 t (ix2 r n) : EReal) = table (cosHead rowAngle colAngle) (ix2 (tokenOf t r) n) := by
  have e := (block_at t).2.1
  rw [← entry_cos m c]
  unfold iblk
  rw [View.read_apply, cast_eq]
  refine congrArg (V m c main_v49) (funext fun a => Fin.ext ?_)
  match a with
  | ⟨0, _⟩ => show win0_1.index t 0 * 512 + 1 * r.val = t.val % 4 * 512 + r.val
              rw [e.1]; omega
  | ⟨1, _⟩ => show win0_1.index t 1 * 640 + 1 * n.val = n.val
              rw [e.2]; omega

/-- A point's block of the sine table. -/
theorem sin_block_at (c : Dev nD) (t : Fin cfg0.N) (r : Fin 512) (n : Fin 640) :
    (iblk m c 2 t (ix2 r n) : EReal) = table (sinHead rowAngle colAngle) (ix2 (tokenOf t r) n) := by
  have e := (block_at t).2.2.1
  rw [← entry_sin m c]
  unfold iblk
  rw [View.read_apply, cast_eq]
  refine congrArg (V m c main_v58) (funext fun a => Fin.ext ?_)
  match a with
  | ⟨0, _⟩ => show win0_2.index t 0 * 512 + 1 * r.val = t.val % 4 * 512 + r.val
              rw [e.1]; omega
  | ⟨1, _⟩ => show win0_2.index t 1 * 640 + 1 * n.val = n.val
              rw [e.2]; omega

/-- The reference's result for the kernel's argument. -/
abbrev result (c : Dev nD) : S32x2048x640.Idx → EReal := Cert.RopeRefIdeal.Read.val_main_v127 (F := Ideal) (given m c)

/-- Where an entry of point `t`'s block lies in the result. -/
theorem place_at (t : Fin cfg0.N) (r : Fin 512) (n : Fin 640) :
    (win0_3.blk t).view.emb (ix3 (0 : Fin 1) r n) = ix3 (batchOf t) (tokenOf t r) n := by
  have e := (block_at t).2.2.2.1
  refine funext fun d => Fin.ext ?_
  match d with
  | ⟨0, _⟩ => show win0_3.index t 0 * 1 + 1 * 0 = t.val / 4
              rw [e.1]; omega
  | ⟨1, _⟩ => show win0_3.index t 1 * 512 + 1 * r.val = t.val % 4 * 512 + r.val
              rw [e.2.1]; omega
  | ⟨2, _⟩ => show win0_3.index t 2 * 640 + 1 * n.val = n.val
              rw [e.2.2]; omega

/-- What point `t` writes back is its block of the reference's result. -/
theorem flushed_eq (c : Dev nD) (t : Fin cfg0.N) :
    (dats m 0 c).flushed 3 t = (win0_3.blk t).view.read (Elt Ideal) (result m c) := by
  rw [Value.flushed3, out_eq]
  funext j
  show turned (X0_0 m c t) (iblk m c 1 t) (iblk m c 2 t) j = _
  rw [View.read_apply, cast_eq]
  obtain ⟨z, r, n, rfl⟩ : ∃ (z : Fin 1) (r : Fin 512) (n : Fin 640), j = ix3 z r n := ⟨j 0, j 1, j 2, eq_ix3 j⟩
  obtain rfl : z = 0 := Subsingleton.elim _ _
  rw [place_at t r n]
  refine Eq.trans ?_ (reference_at (given m c) _ _ _).symm
  exact congrArg₂ _ (congrArg₂ _ (entry_at m c t r n) (cos_block_at m c t r n))
    (congrArg₂ _ (entry_at m c t r (mate n)) (sin_block_at m c t r n))

/-- Every entry of the result lies in the block of the point its batch row and token name. -/
theorem cover (i : S32x2048x640.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 640 := (i 2).isLt
  have hN : cfg0.N = 128 := N_0
  have ht : 4 * (i 0).val + (i 1).val / 512 < cfg0.N := by omega
  have e := (block_at ⟨4 * (i 0).val + (i 1).val / 512, ht⟩).2.2.2
  refine ⟨⟨4 * (i 0).val + (i 1).val / 512, ht⟩, e.2, ?_⟩
  generalize hT : (⟨4 * (i 0).val + (i 1).val / 512, ht⟩ : Fin cfg0.N) = T at e
  have hv : T.val = 4 * (i 0).val + (i 1).val / 512 := by rw [← hT]
  show i ∈ ((View.whole main_v59).slice (win0_3.rect T)).set
  rw [View.set_slice_whole, Rect.mem_set_unit]
  intro a
  match a with
  | ⟨0, _⟩ => show win0_3.index T 0 * 1 ≤ (i 0).val ∧ (i 0).val < win0_3.index T 0 * 1 + 1
              rw [e.1.1]; omega
  | ⟨1, _⟩ => show win0_3.index T 1 * 512 ≤ (i 1).val ∧ (i 1).val < win0_3.index T 1 * 512 + 512
              rw [e.1.2.1]; omega
  | ⟨2, _⟩ => show win0_3.index T 2 * 640 ≤ (i 2).val ∧ (i 2).val < win0_3.index T 2 * 640 + 640
              rw [e.1.2.2]; omega

/-- The result array after the run is the reference's result. -/
theorem final (c : Dev nD) : (dats m 0 c).arrAt 3 cfg0.N = result m c :=
  (dats m 0 c).arrAt_eq_of_cover 3 (result m c) (fun t _ => flushed_eq m c t) cover

/-- The run: the result array at the reference's result, the argument unchanged. -/
theorem run : θ_run defs (onTc (τ := τ) (main (F := Ideal))) ⟨m, fun _ => 0, ρ⟩ fun r => ∀ c : Dev nD,
      r.2.mem ((c : Thread nD τ).loc main_v59) = result m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.RopeIdeal.Turn

end
-- ==== Proof.RopeClaims.lean ====
/- The claims about the rotary embedding. -/
module

public import proofs.«01_k».proof.Defs
public import proofs.«01_k».proof.Proof.Gen.Rope.Frame
public import proofs.«01_k».proof.Proof.Gen.RopeIdeal.Frame
public import proofs.«01_k».proof.Proof.RopeValue

@[expose] public section

noncomputable section

namespace Cert.Proof.Rope

open Idealize.ShloMosaic Idealize.SL.Sem

/-- The call runs to its end from any state, in machine words, and leaves its argument as it was. -/
theorem frame : Cert.quiescent_Rope := fun m ρ _ => Cert.Rope.Gen.frame m ρ

/-- The same over the extended reals. -/
theorem frame_ideal : Cert.quiescent_RopeIdeal := fun m ρ _ => Cert.RopeIdeal.Gen.frame m ρ

/-- The reference runs to its end from any state and leaves its argument as it was. -/
theorem frame_reference : Cert.quiescent_RopeRefIdeal := fun m ρ _ =>
  (θ_run Cert.RopeRefIdeal.defs _ _).mono (fun r h => ⟨fun c => (h c).2,
      Idealize.ShloMosaic.sem_eq_zero_of_no_sems (by decide) r.2⟩)
    (Cert.RopeRefIdeal.Value.run (F := Ideal) m ρ)

/-- Over the extended reals the call and the reference leave the same result for the same argument. -/
theorem algebraic : Cert.algebraic_RopeIdeal_RopeRefIdeal := fun m ρ m' ρ' _ hag =>
  ⟨fun c => Cert.RopeIdeal.Turn.result m c, Cert.RopeIdeal.Turn.run m ρ,
    (θ_run Cert.RopeRefIdeal.defs _ _).mono
      (fun _ h c => ⟨(h c).1.trans ((Cert.RopeRefIdeal.Read.val_main_v127_eq _ _).trans
        (congrArg (Cert.RopeRefIdeal.Read.val_main_v127 (F := Ideal)) (hag c))), (h c).2⟩)
      (Cert.RopeRefIdeal.Value.run (F := Ideal) m' ρ')⟩

end Cert.Proof.Rope

end
-- ==== Proof.RouterValue.lean ====
/- The router: scores of every token for the sixteen experts, made affinities by a softmax over the experts. What the
   kernel leaves in its result array is the reference's array, entry by entry over the extended reals. -/
module

public import proofs.«01_k».proof.Proof.Gen.RouterIdeal.Value
public import proofs.«01_k».proof.Proof.Gen.RouterRefIdeal.Run
public import proofs.«01_k».proof.Proof.Gen.RouterRefIdeal.Read
public import Idealize.ShloMosaic.Lib.Pointwise

@[expose] public section

set_option maxRecDepth 16384

noncomputable section

namespace Cert.RouterIdeal.Affinity

open Cert.RouterIdeal Cert.RouterIdeal.Gen Idealize.ShloMosaic Idealize.ShloMosaic.TcCoe Idealize.SL.Sem

variable (m : (ℓ : Loc nD τ sig) → Buf (Elt Ideal) ℓ) (ρ : Dev nD → PrngReg)

/-- A softmax over the sixteen experts, from their scores. -/
def softmax (s : Fin 16 → EReal) (e : Fin 16) : EReal :=
  Ideal.div (Ideal.exp (s e - Finset.univ.fold max ⊥ s))
    (∑ k : Fin 16, Ideal.exp (s k - Finset.univ.fold max ⊥ s))

/-- The word of negative infinity, over the extended reals. -/
theorem bottom : Ideal.ofBits .f32 0xFF800000#32 = (⊥ : EReal) := by simp [Ideal.ofBits, Ideal.ieee]

/-- The offset of a load or store of a whole rank-two buffer. -/
theorem origin2 : (![0, 0] : Fin 2 → Nat) = fun _ => 0 := funext fun a => by fin_cases a <;> rfl

/-- The offset of a load or store of a whole rank-three buffer. -/
theorem origin3 : (![0, 0, 0] : Fin 3 → Nat) = fun _ => 0 := funext fun a => by fin_cases a <;> rfl

/-- Where each window's block lies: point `t` takes 512 tokens of batch row `t / 4`, and the whole router weight. -/
theorem block_at : ∀ t : Fin cfg0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = t.val % 4)
    ∧ (cfg0.win 2).flush t = true :=
  (by decide +kernel : ∀ t : Fin grid0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = 0 ∧ win0_2.index t 2 = t.val % 4)
    ∧ (cfg0.win 2).flush t = true)

/-- The tokens the program is given. -/
abbrev tokens (c : Dev nD) : S32x2048x1024.Idx → EReal := m ((c : Thread nD τ).loc main_arg0)

/-- The router weight the program is given. -/
abbrev weight (c : Dev nD) : S1024x16.Idx → EReal := m ((c : Thread nD τ).loc main_arg1)

/-- The transposed router weight the grid finds. -/
abbrev turned (c : Dev nD) : S16x1024.Idx → EReal := V m c main_v0

/-- The weight the grid finds is the argument, transposed. -/
theorem turned_at (c : Dev nD) (e : Fin 16) (k : Fin 1024) : turned m c (ix2 e k) = weight m c (ix2 k e) := by
  have h : turned m c = transpose S16x1024 [1, 0] (weight m c) transposes_S1024x16_S16x1024_1_0 := by
    unfold_abbrev_sides
    after_results <;> rfl
  rw [h]
  exact transpose_apply [1, 0] _ transposes_S1024x16_S16x1024_1_0 (ix2 e k) (ix2 k e) (fun b => match b with
    | ⟨0, _⟩ => rfl
    | ⟨1, _⟩ => rfl)

/-- Entry `(r, k)` of point `t`'s block of tokens. -/
theorem tokens_at (c : Dev nD) (t : Fin cfg0.N) (j : S1x512x1024.Idx) (i : S32x2048x1024.Idx)
    (h0 : (i 0).val = t.val / 4) (h1 : (i 1).val = t.val % 4 * 512 + (j 1).val) (h2 : (i 2).val = (j 2).val) :
    iblk m c 0 t j = tokens m c i := by
  have hV : tokens m c = V m c main_arg0 := (V_main_arg0 m c).symm
  rw [hV]
  unfold iblk
  rw [View.read_apply, cast_eq]
  refine congrArg (V m c main_arg0) (funext fun a => Fin.ext ?_)
  have e := block_at t
  have hj : (j 0).val < 1 := (j 0).isLt
  match a with
  | ⟨0, _⟩ => show win0_0.index t 0 * 1 + 1 * (j 0).val = (i 0).val
              rw [e.1.1, h0]; omega
  | ⟨1, _⟩ => show win0_0.index t 1 * 512 + 1 * (j 1).val = (i 1).val
              rw [e.1.2.1, h1]; omega
  | ⟨2, _⟩ => show win0_0.index t 2 * 1024 + 1 * (j 2).val = (i 2).val
              rw [e.1.2.2, h2]; omega

/-- The block of the weight every point takes: the whole of it. -/
theorem weight_at (c : Dev nD) (t : Fin cfg0.N) (j : S16x1024.Idx) : iblk m c 1 t j = turned m c j := by
  unfold iblk
  rw [View.read_apply, cast_eq]
  refine congrArg (V m c main_v0) (funext fun a => Fin.ext ?_)
  have e := block_at t
  match a with
  | ⟨0, _⟩ => show win0_1.index t 0 * 16 + 1 * (j 0).val = (j 0).val
              rw [e.2.1.1]; omega
  | ⟨1, _⟩ => show win0_1.index t 1 * 1024 + 1 * (j 1).val = (j 1).val
              rw [e.2.1.2]; omega

/-- One entry of what a grid point computes: the softmax of its token's sixteen scores. -/
theorem payload_at (w : FVec Ideal S16x1024 .f32) (x : FVec Ideal S1x512x1024 .f32) (a : Fin 16) (b : Fin 512) :
    k0_pay1 (F := Ideal) w x (ix3 (0 : Fin 1) a b)
      = softmax (fun e => ∑ k : Fin 1024, w (ix2 e k) * x (ix3 (0 : Fin 1) b k)) a := by
  unfold softmax
  rw [← bottom]
  pointwise [k0_pay1]

/-- The reference's result for the kernel's arguments. -/
abbrev affinity (c : Dev nD) : S32x16x2048.Idx → EReal :=
  Cert.RouterRefIdeal.Read.val_main_v12 (F := Ideal) (m ((c : Thread nD τ).loc main_arg0)) (m ((c : Thread nD τ).loc main_arg1))

/-- The scores of token `t` of batch row `b`, by expert. -/
def scores (c : Dev nD) (b : Fin 32) (t : Fin 2048) (e : Fin 16) : EReal :=
  ∑ k : Fin 1024, weight m c (ix2 k e) * tokens m c (ix3 b t k)

/-- The reference's score array. -/
theorem score_at (c : Dev nD) (b : Fin 32) (e : Fin 16) (t : Fin 2048) :
    Cert.RouterRefIdeal.Read.val_main_v1 (F := Ideal) (tokens m c) (weight m c) (ix3 b e t) = scores m c b t e := by
  rw [Cert.RouterRefIdeal.Read.val_main_v1_apply, Cert.RouterRefIdeal.Read.val_main_v0_apply]
  refine Finset.sum_congr rfl fun k _ => ?_
  congr 1
  · exact congrArg _ (eq_ix2 _)
  · exact congrArg _ (eq_ix3 _)

/-- The reference's maximum over the experts, of any array of scores. -/
theorem host_largest (y : FVec Ideal S32x16x2048 .f32) (b : Fin 32) (t : Fin 2048) :
    Host.reduce FloatOps.maximumf y (Cert.RouterRefIdeal.Read.val_main_cst (F := Ideal))
        Cert.RouterRefIdeal.Gen.reducesTo_S32x16x2048_S32x2048_d1 Cert.RouterRefIdeal.Gen.h_S_ (ix2 b t)
      = Finset.univ.fold max ⊥ (fun e : Fin 16 => y (ix3 b e t)) := by
  rw [Host.reduce_eq_fold_single FloatOps.maximumf y _ _ (by decide) _ (ix2 b t),
    Cert.RouterRefIdeal.Read.val_main_cst_apply]
  show Finset.univ.fold max (Ideal.ofBits .f32 0xFF800000#32) _ = _
  rw [bottom]
  refine Finset.fold_congr fun e _ => ?_
  exact congrArg y (funext fun a => Fin.ext (by match a with | ⟨0, _⟩ => rfl | ⟨1, _⟩ => rfl | ⟨2, _⟩ => rfl))

/-- The largest of a token's scores, as the reference takes it. -/
theorem largest_at (c : Dev nD) (b : Fin 32) (t : Fin 2048) :
    Cert.RouterRefIdeal.Read.val_main_v4 (F := Ideal) (tokens m c) (weight m c) (ix2 b t)
      = Finset.univ.fold max ⊥ (scores m c b t) := by
  rw [Cert.RouterRefIdeal.Read.val_main_v4_apply, Cert.RouterRefIdeal.Read.val_main_v3_apply,
    Cert.RouterRefIdeal.Read.val_main_cst_0_apply]
  unfold Cert.RouterRefIdeal.Read.val_main_v2
  rw [host_largest]
  simp only [score_at]
  show max (Ideal.ofBits .f32 0xFF800000#32) _ = _
  rw [bottom]
  exact max_eq_right bot_le

/-- The exponential of a score less the largest of its token's. -/
theorem weight_of (c : Dev nD) (b : Fin 32) (e : Fin 16) (t : Fin 2048) :
    Cert.RouterRefIdeal.Read.val_main_v8 (F := Ideal) (tokens m c) (weight m c) (ix3 b e t)
      = Ideal.exp (scores m c b t e - Finset.univ.fold max ⊥ (scores m c b t)) := by
  rw [Cert.RouterRefIdeal.Read.val_main_v8_apply, Cert.RouterRefIdeal.Read.val_main_v7_apply,
    Cert.RouterRefIdeal.Read.val_main_v6_apply, Cert.RouterRefIdeal.Read.val_main_v5_apply, score_at]
  have h : Cert.RouterRefIdeal.Read.idx_main_v5 (Cert.RouterRefIdeal.Read.idx_main_v6 (ix3 b e t)) = ix2 b t := eq_ix2 _
  rw [h, largest_at]
  rfl

/-- One entry of the reference's result: the softmax of its token's sixteen scores. -/
theorem affinity_at (c : Dev nD) (b : Fin 32) (e : Fin 16) (t : Fin 2048) :
    affinity m c (ix3 b e t) = softmax (scores m c b t) e := by
  unfold affinity softmax
  rw [Cert.RouterRefIdeal.Read.val_main_v12_apply, weight_of, Cert.RouterRefIdeal.Read.val_main_v11_apply,
    Cert.RouterRefIdeal.Read.val_main_v10_apply, Cert.RouterRefIdeal.Read.val_main_v9_apply]
  show Ideal.div _ (Ideal.ofBits .f32 0x00000000#32 + _) = _
  rw [show Ideal.ofBits .f32 0x00000000#32 = (0 : EReal) by simp [Ideal.ofBits, Ideal.ieee], zero_add]
  refine congrArg _ (Finset.sum_congr rfl fun k _ => ?_)
  exact Eq.trans (congrArg _ (eq_ix3 _)) (weight_of m c b k t)

/-- Where entry `(e, r)` of point `t`'s block lies in the result. -/
theorem place_at (t : Fin cfg0.N) (a : Fin 16) (b : Fin 512) (h : t.val / 4 < 32) (h' : t.val % 4 * 512 + b.val < 2048) :
    (win0_2.blk t).view.emb (ix3 (0 : Fin 1) a b)
      = ix3 (⟨t.val / 4, h⟩ : Fin 32) a (⟨t.val % 4 * 512 + b.val, h'⟩ : Fin 2048) := by
  have e := block_at t
  refine funext fun d => Fin.ext ?_
  match d with
  | ⟨0, _⟩ => show win0_2.index t 0 * 1 + 1 * 0 = t.val / 4
              rw [e.2.2.1.1]; omega
  | ⟨1, _⟩ => show win0_2.index t 1 * 16 + 1 * a.val = a.val
              rw [e.2.2.1.2.1]; omega
  | ⟨2, _⟩ => show win0_2.index t 2 * 512 + 1 * b.val = t.val % 4 * 512 + b.val
              rw [e.2.2.1.2.2]; omega

/-- What point `t` writes back is its block of the reference's result. -/
theorem flushed_eq (c : Dev nD) (t : Fin cfg0.N) :
    (dats m 0 c).flushed 2 t = (win0_2.blk t).view.read (Elt Ideal) (affinity m c) := by
  rw [Value.flushed2]
  unfold out0_2
  rw [View.canon_unit_zero origin3, View.ld_unit_zero origin2, View.ld_unit_zero origin3]
  funext j
  show k0_pay1 (iblk m c 1 t) (iblk m c 0 t) j = _
  rw [View.read_apply, cast_eq]
  obtain ⟨z, a, b, rfl⟩ : ∃ (z : Fin 1) (a : Fin 16) (b : Fin 512), j = ix3 z a b := ⟨j 0, j 1, j 2, eq_ix3 j⟩
  obtain rfl : z = 0 := Subsingleton.elim _ _
  have hN : cfg0.N = 128 := N_0
  have h : t.val / 4 < 32 := by have := t.isLt; omega
  have h' : t.val % 4 * 512 + b.val < 2048 := by have := b.isLt; omega
  rw [place_at t a b h h']
  refine (payload_at _ _ a b).trans (Eq.trans (congrArg (softmax · a) ?_) (affinity_at m c _ _ _).symm)
  funext e
  unfold scores
  exact Finset.sum_congr rfl fun k _ => congrArg₂ _ ((weight_at m c t _).trans (turned_at m c e k))
    (tokens_at m c t _ _ rfl rfl rfl)

/-- Every entry of the result lies in the block of the point its batch row and token name. -/
theorem cover (i : S32x16x2048.Idx) :
    ∃ t : Fin cfg0.N, (cfg0.win 2).flush t = true ∧ i ∈ ((cfg0.win 2).blk t).view.set := by
  have h0 : (i 0).val < 32 := (i 0).isLt
  have h1 : (i 1).val < 16 := (i 1).isLt
  have h2 : (i 2).val < 2048 := (i 2).isLt
  have hN : cfg0.N = 128 := N_0
  have ht : (i 0).val * 4 + (i 2).val / 512 < cfg0.N := by omega
  have e := block_at ⟨(i 0).val * 4 + (i 2).val / 512, ht⟩
  refine ⟨⟨(i 0).val * 4 + (i 2).val / 512, ht⟩, e.2.2.2, ?_⟩
  show i ∈ ((View.whole main_v1).slice (win0_2.rect ⟨(i 0).val * 4 + (i 2).val / 512, ht⟩)).set
  rw [View.set_slice_whole, Rect.mem_set_unit]
  intro a
  match a with
  | ⟨0, _⟩ => show win0_2.index ⟨(i 0).val * 4 + (i 2).val / 512, ht⟩ 0 * 1 ≤ (i 0).val
                ∧ (i 0).val < win0_2.index ⟨(i 0).val * 4 + (i 2).val / 512, ht⟩ 0 * 1 + 1
              rw [e.2.2.1.1]; dsimp only; omega
  | ⟨1, _⟩ => show win0_2.index ⟨(i 0).val * 4 + (i 2).val / 512, ht⟩ 1 * 16 ≤ (i 1).val
                ∧ (i 1).val < win0_2.index ⟨(i 0).val * 4 + (i 2).val / 512, ht⟩ 1 * 16 + 16
              rw [e.2.2.1.2.1]; omega
  | ⟨2, _⟩ => show win0_2.index ⟨(i 0).val * 4 + (i 2).val / 512, ht⟩ 2 * 512 ≤ (i 2).val
                ∧ (i 2).val < win0_2.index ⟨(i 0).val * 4 + (i 2).val / 512, ht⟩ 2 * 512 + 512
              rw [e.2.2.1.2.2]; dsimp only; omega

/-- The result array after the run is the reference's result. -/
theorem final (c : Dev nD) : (dats m 0 c).arrAt 2 cfg0.N = affinity m c :=
  (dats m 0 c).arrAt_eq_of_cover 2 (affinity m c) (fun t _ => flushed_eq m c t) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v1) = affinity m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.RouterIdeal.Affinity

end
-- ==== Proof.RouterClaims.lean ====
/- The claims about the router. -/
module

public import proofs.«01_k».proof.Defs
public import proofs.«01_k».proof.Proof.Gen.Router.Frame
public import proofs.«01_k».proof.Proof.Gen.RouterIdeal.Frame
public import proofs.«01_k».proof.Proof.RouterValue

@[expose] public section

noncomputable section

namespace Cert.Proof.Router

open Idealize.ShloMosaic Idealize.SL.Sem

/-- The call runs to its end from any state, in machine words, and leaves its arguments as they were. -/
theorem frame : Cert.quiescent_Router := fun m ρ _ => Cert.Router.Gen.frame m ρ

/-- The same over the extended reals. -/
theorem frame_ideal : Cert.quiescent_RouterIdeal := fun m ρ _ => Cert.RouterIdeal.Gen.frame m ρ

/-- The reference runs to its end from any state and leaves its arguments as they were. -/
theorem frame_reference : Cert.quiescent_RouterRefIdeal := fun m ρ _ =>
  (θ_run Cert.RouterRefIdeal.defs _ _).mono (fun r h => ⟨fun c => (h c).2,
      Idealize.ShloMosaic.sem_eq_zero_of_no_sems (by decide) r.2⟩)
    (Cert.RouterRefIdeal.Value.run (F := Ideal) m ρ)

/-- Over the extended reals the call and the reference leave the same result for the same arguments. -/
theorem algebraic : Cert.algebraic_RouterIdeal_RouterRefIdeal := fun m ρ m' ρ' _ hag =>
  ⟨fun c => Cert.RouterIdeal.Affinity.affinity m c, Cert.RouterIdeal.Affinity.run m ρ,
    (θ_run Cert.RouterRefIdeal.defs _ _).mono
      (fun _ h c => ⟨(h c).1.trans (by unfold Cert.RouterIdeal.Affinity.affinity; rw [(hag c).1, (hag c).2]; rfl), (h c).2⟩)
      (Cert.RouterRefIdeal.Value.run (F := Ideal) m' ρ')⟩

end Cert.Proof.Router

end
-- ==== Proof.ScatterIdealWords.lean ====
/- The side condition of the scatter: every token position the grid reads is below the number of tokens, because the
   positions are the ones a top-k returned. -/
module

public import proofs.«01_k».proof.Proof.Gen.ScatterIdeal.Frame
public import proofs.«01_k».proof.Proof.TopkRange

@[expose] public section

set_option maxRecDepth 16384

noncomputable section

namespace Cert.ScatterIdeal.Words

open Cert.ScatterIdeal Cert.ScatterIdeal.Gen Idealize.ShloMosaic Idealize.ShloMosaic.TcCoe Idealize.SL.Sem

variable {F : FTy → Type} [FloatOps F] (m : (ℓ : Loc nD τ sig) → Buf (Elt F) ℓ)

/-- The positions the top-k of the affinities returns, one row of 256 for each batch and expert. -/
abbrev chosen (c : Dev nD) : S32x16x256.Idx → BitVec 32 :=
  (Host.topK S32x16x256 2 (FloatOps.cmpfTotal (F := F) .gt) (m ((c : Thread nD τ).loc main_arg0) : FVec F S32x16x2048 .f32)
    sliceFits_S32x16x2048_S32x16x256).2

/-- The positions as the grid finds them. -/
abbrev words (c : Dev nD) : S512x1x256.Idx → BitVec 32 := V m c main_v0

/-- They are the top-k's positions, batch and expert merged into one row axis. -/
theorem entry_words (c : Dev nD) : words m c = shapeCast S512x1x256 (chosen m c) shapeCasts_S32x16x256_S512x1x256 := by
  unfold_abbrev_sides
  after_results <;> rfl

/-- Every position is below the number of tokens. -/
theorem words_lt (c : Dev nD) (i : S512x1x256.Idx) : (words m c i).toNat < 2048 := by
  rw [entry_words]
  exact Cert.TopkRange.position_lt (s := S32x16x2048) S32x16x256 2 _ _ _ (by decide) _

/-- A position below the number of tokens names a row of the block of answers. -/
theorem names_row (w : BitVec 32) (h : w.toNat < 2048) : k0_chk1 w := by
  intro a
  match a with
  | ⟨0, _⟩ => show 0 + 1 ≤ 1; omega
  | ⟨1, _⟩ => show w.toNat + 1 ≤ 2048; omega
  | ⟨2, _⟩ => show 0 + 1024 ≤ 1024; omega

/-- The side condition of the scatter holds at every grid point and trip. -/
theorem hyps : Hyps m := Hyps.of fun c t kq hkq => by
  simp only [View.readAt_apply, Memref.IsWhole.read_unread]
  refine names_row _ ?_
  unfold iblk
  rw [View.read_apply, cast_eq]
  exact words_lt m c _

end Cert.ScatterIdeal.Words

end
-- ==== Proof.ScatterSum.lean ====
/- The scatter of the experts' answers, one grid point: its 256 trips add to the block of tokens they find, at each token,
   the answers whose position names that token. -/
module

public import proofs.«01_k».proof.Proof.Gen.ScatterIdeal.Value
public import proofs.«01_k».proof.Proof.ScatterIdealWords
public import Idealize.ShloMosaic.Lib.Pointwise

@[expose] public section

set_option maxRecDepth 16384

noncomputable section

namespace Cert.ScatterIdeal.Sum

open Cert.ScatterIdeal Cert.ScatterIdeal.Gen Idealize.ShloMosaic Idealize.ShloMosaic.TcCoe Idealize.SL.Sem

variable (m : (ℓ : Loc nD τ sig) → Buf (Elt Ideal) ℓ) (hH : Hyps m)

/-- The loop makes 256 trips. -/
theorem trips_eq : k0_t1_loop.trips = 256 := by decide +kernel

/-- The positions of point `t`: which token each of its answers goes to. -/
abbrev wordsOf (c : Dev nD) (t : Fin cfg0.N) : S1x1x256.Idx → BitVec 32 := iblk m c 0 t

/-- The answers of point `t`, one row for each position. -/
abbrev answersOf (c : Dev nD) (t : Fin cfg0.N) : S1x256x1024.Idx → EReal := iblk m c 1 t

/-- What trip `r` of point `t` adds at entry `b` of token `a`. -/
def share (c : Dev nD) (t : Fin cfg0.N) (a : Fin 2048) (b : Fin 1024) (r : Nat) : EReal :=
  if h : r < 256 then
    if (wordsOf m c t (ix3 (0 : Fin 1) (0 : Fin 1) (⟨r, h⟩ : Fin 256))).toNat = a.val then
      answersOf m c t (ix3 (0 : Fin 1) (⟨r, h⟩ : Fin 256) b)
    else 0
  else 0

/-- What the block of tokens is held as. -/
abbrev Held (t : Fin cfg0.N) : Type := BufTy.Contents (Elt Ideal) (ms0_2 t).view.ty

/-- The stores of the trips before `n` at point `t`, the block of tokens found as `G`. -/
abbrev stores (c : Dev nD) (t : Fin cfg0.N) (G : Held t) (n : Nat) : List (View.Piece (Elt Ideal) S1x2048x1024 .f32) :=
  pb_k0_t1 Variants.none c none (grid0.coords t) (ms0_0 t) (hs0_0 t) (ms0_1 t) (hs0_1 t) (ms0_2 t) (hs0_2 t)
    ((hs0_0 t).unread (iblk m c 0 t)) ((hs0_1 t).unread (iblk m c 1 t)) G (Hyps.c0 hH c t) n

/-- The word trip `k` reads. -/
abbrev word (c : Dev nD) (t : Fin cfg0.N) (k : Fin k0_t1_loop.trips) : BitVec 32 :=
  (ms0_0 t).view.readAt (Elt Ideal) (Rect.unit (s := S1x1x256) (k0_off1 k) S1x1x1.size (k0_off1_inb k)).toLoadRect
    ((hs0_0 t).unread (iblk m c 0 t)) (Shape.Idx.first (numel1_S1x1x1.symm ▸ Nat.one_pos))

/-- It is the `k`-th position of the point. -/
theorem word_eq (c : Dev nD) (t : Fin cfg0.N) (k : Fin k0_t1_loop.trips) (hk : k.val < 256) :
    word m c t k = wordsOf m c t (ix3 (0 : Fin 1) (0 : Fin 1) (⟨k.val, hk⟩ : Fin 256)) := by
  unfold word
  rw [View.readAt_apply, Memref.IsWhole.read_unread]
  refine congrArg (wordsOf m c t) (funext fun a => Fin.ext ?_)
  have e := k0_off1_eq k
  match a with
  | ⟨0, _⟩ => show k0_off1 k 0 + 1 * 0 = 0; rw [e]; rfl
  | ⟨1, _⟩ => show k0_off1 k 1 + 1 * 0 = 0; rw [e]; rfl
  | ⟨2, _⟩ => show k0_off1 k 2 + 1 * 0 = k.val; rw [e]; rfl

/-- The token trip `k` loads of a block held as `f`. -/
abbrev loaded (c : Dev nD) (t : Fin cfg0.N) (k : Fin k0_t1_loop.trips) (f : Held t) : Vec Ideal S1x1x1024 .f32 :=
  (ms0_2 t).view.readAt (Elt Ideal)
    (Rect.unit (s := S1x2048x1024) (k0_off2 (word m c t k)) S1x1x1024.size
      (k0_off2_inb (word m c t k) (Hyps.c0 hH c t k.val k.isLt))).toLoadRect f

/-- Entry `b` of it: that entry of the token its word names. -/
theorem loaded_at (c : Dev nD) (t : Fin cfg0.N) (k : Fin k0_t1_loop.trips) (f : Held t) (a : Fin 2048)
    (ha : (word m c t k).toNat = a.val) (b : Fin 1024) :
    loaded m hH c t k f (ix3 (0 : Fin 1) (0 : Fin 1) b) = (ms0_2 t).view.read (Elt Ideal) f (ix3 (0 : Fin 1) a b) := by
  unfold loaded
  rw [View.readAt_apply]
  refine congrArg ((ms0_2 t).view.read (Elt Ideal) f) (funext fun d => Fin.ext ?_)
  match d with
  | ⟨0, _⟩ => rfl
  | ⟨1, _⟩ => show (word m c t k).toNat + 1 * 0 = a.val
              omega
  | ⟨2, _⟩ => show 0 + 1 * b.val = b.val; omega

/-- The answer trip `k` loads. -/
abbrev answer (c : Dev nD) (t : Fin cfg0.N) (k : Fin k0_t1_loop.trips) : Vec Ideal S1x1x1024 .f32 :=
  (ms0_1 t).view.readAt (Elt Ideal)
    (Rect.unit (s := S1x256x1024) (k0_off3 k) S1x1x1024.size (k0_off3_inb k)).toLoadRect
    ((hs0_1 t).unread (iblk m c 1 t))

/-- Entry `b` of it: that entry of the point's `k`-th answer. -/
theorem answer_at (c : Dev nD) (t : Fin cfg0.N) (k : Fin k0_t1_loop.trips) (hk : k.val < 256) (b : Fin 1024) :
    answer m c t k (ix3 (0 : Fin 1) (0 : Fin 1) b) = answersOf m c t (ix3 (0 : Fin 1) (⟨k.val, hk⟩ : Fin 256) b) := by
  unfold answer
  rw [View.readAt_apply, Memref.IsWhole.read_unread]
  refine congrArg (answersOf m c t) (funext fun a => Fin.ext ?_)
  have e := k0_off3_eq k
  match a with
  | ⟨0, _⟩ => show k0_off3 k 0 + 1 * 0 = 0; rw [e]; rfl
  | ⟨1, _⟩ => show k0_off3 k 1 + 1 * 0 = k.val; rw [e]; rfl
  | ⟨2, _⟩ => show k0_off3 k 2 + 1 * b.val = b.val; rw [e]; show 0 + 1 * b.val = b.val; omega

/-- The store of trip `k` over a block held as `f`: the token its word names, the answer added. -/
abbrev storeOf (c : Dev nD) (t : Fin cfg0.N) (k : Fin k0_t1_loop.trips) (f : Held t) :
    View.Piece (Elt Ideal) S1x2048x1024 .f32 :=
  ⟨Rect.unit (s := S1x2048x1024) (k0_off2 (word m c t k)) S1x1x1024.size
      (k0_off2_inb (word m c t k) (Hyps.c0 hH c t k.val k.isLt)),
    k0_pay2 (loaded m hH c t k f) (answer m c t k)⟩

/-- The trips before `k + 1` add that one store to the trips before `k`. -/
theorem stores_succ (c : Dev nD) (t : Fin cfg0.N) (G : Held t) (k : Fin k0_t1_loop.trips) :
    stores m hH c t G (k.val + 1) = storeOf m hH c t k ((ms0_2 t).view.writes (Elt Ideal) G (stores m hH c t G k.val))
      :: stores m hH c t G k.val := by
  unfold stores
  rw [pb_k0_t1_succ]
  unfold tripL_k0_t1 trip_k0_t1
  rfl

/-- One entry of what a trip stores: the sum of the two rows it loads. -/
theorem payload_at (x y : Vec Ideal S1x1x1024 .f32) (b : Fin 1024) :
    k0_pay2 (F := Ideal) x y (ix3 (0 : Fin 1) (0 : Fin 1) b)
      = (x (ix3 (0 : Fin 1) (0 : Fin 1) b) + y (ix3 (0 : Fin 1) (0 : Fin 1) b) : EReal) := by
  pointwise [k0_pay2]

/-- After `n` trips the block holds, at every token, what it held plus what those trips add there. -/
theorem held_after (c : Dev nD) (t : Fin cfg0.N) (G : Held t) (a : Fin 2048) (b : Fin 1024) : ∀ n ≤ 256,
    (ms0_2 t).view.read (Elt Ideal) ((ms0_2 t).view.writes (Elt Ideal) G (stores m hH c t G n)) (ix3 (0 : Fin 1) a b)
      = ((ms0_2 t).view.read (Elt Ideal) G (ix3 (0 : Fin 1) a b) + ∑ r ∈ Finset.range n, share m c t a b r : EReal)
  | 0, _ => by
    rw [Finset.range_zero, Finset.sum_empty]
    exact (add_zero (_ : EReal)).symm
  | n + 1, hn => by
    have ih := held_after c t G a b n (by omega)
    have hk : n < k0_t1_loop.trips := by rw [trips_eq]; omega
    have hw := word_eq m c t ⟨n, hk⟩ (by show n < 256; omega)
    rw [stores_succ m hH c t G ⟨n, hk⟩, Finset.sum_range_succ]
    by_cases ha : (word m c t ⟨n, hk⟩).toNat = a.val
    · refine (View.read_writes_cons_hit_of_coords _ _ _ _ _ (ix3 (0 : Fin 1) (0 : Fin 1) b) _ ?_).trans ?_
      · intro d
        match d with
        | ⟨0, _⟩ => rfl
        | ⟨1, _⟩ => show a.val = (word m c t ⟨n, hk⟩).toNat + 1 * 0
                    omega
        | ⟨2, _⟩ => show b.val = 0 + 1 * b.val; omega
      · rw [payload_at, loaded_at m hH c t ⟨n, hk⟩ _ a ha, answer_at m c t ⟨n, hk⟩ (by show n < 256; omega), ih]
        have hs : share m c t a b n = answersOf m c t (ix3 (0 : Fin 1) (⟨n, by omega⟩ : Fin 256) b) := by
          unfold share
          rw [dif_pos (by omega), if_pos (by rw [← hw]; exact ha)]
        rw [hs, add_assoc]
    · refine (View.read_writes_cons_miss_of_axis _ _ _ _ _ (1 : Fin 3) (word m c t ⟨n, hk⟩).toNat 1 rfl rfl rfl ?_).trans ?_
      · show a.val < (word m c t ⟨n, hk⟩).toNat ∨ (word m c t ⟨n, hk⟩).toNat + 1 ≤ a.val
        omega
      · rw [ih]
        have hs : share m c t a b n = 0 := by
          unfold share
          rw [dif_pos (by omega), if_neg (by rw [← hw]; exact ha)]
        rw [hs, add_zero]

/-- At the first expert of a batch the block starts from zero. -/
theorem first_at (c : Dev nD) (t : Fin cfg0.N) (h0 : t.val % 16 = 0) (a : Fin 2048) (b : Fin 1024) :
    outsAt0 m hH c t.val t.isLt (ix3 (0 : Fin 1) a b) = (∑ r ∈ Finset.range 256, share m c t a b r : EReal) := by
  have origin3 : (![0, 0, 0] : Fin 3 → Nat) = fun _ => 0 := funext fun a => by fin_cases a <;> rfl
  rw [outsAt0_A m hH c t h0]
  unfold out0_A_2
  rw [View.read_writes_eq_canon _ _ _ (fun y => cover0_A_2 _ _ _ _ _ _ _ _ _ _ _ _ y),
    ← View.read_writes_eq_canon (ms0_2 t).view (ms0_2 t).view.junk _ (fun y => cover0_A_2 _ _ _ _ _ _ _ _ _ _ _ _ y)]
  unfold kernelRun0_A
  dsimp only
  sl_unfold_words
  rw [View.writes_append]
  have ht : (Scf.trips (0#32) (Scalar.addi 0#32 256#32) 1#32) = 256 := trips_eq
  rw [ht]
  refine (held_after m hH c t _ a b 256 le_rfl).trans ?_
  have hz : (ms0_2 t).view.read (Elt Ideal) ((ms0_2 t).view.writes (Elt Ideal) (ms0_2 t).view.junk
      [⟨Rect.unit (s := S1x2048x1024) ![0, 0, 0] S1x2048x1024.size inb_S1x2048x1024_S1x2048x1024_0_0_0, k0_pay1 (F := Ideal)⟩])
      (ix3 (0 : Fin 1) a b) = (0 : EReal) := by
    refine (View.read_writes_cons_hit_of_coords _ _ _ _ _ (ix3 (0 : Fin 1) a b) _ ?_).trans ?_
    · intro d
      match d with
      | ⟨0, _⟩ => rfl
      | ⟨1, _⟩ => show a.val = 0 + 1 * a.val; omega
      | ⟨2, _⟩ => show b.val = 0 + 1 * b.val; omega
    · show Ideal.ofBits .f32 0x00000000#32 = (0 : EReal)
      simp [Ideal.ofBits, Ideal.ieee]
  rw [hz, zero_add]

/-- At a later expert it starts from what the expert before left. -/
theorem later_at (c : Dev nD) (t : Fin cfg0.N) (h0 : ¬ t.val % 16 = 0) (a : Fin 2048) (b : Fin 1024) :
    outsAt0 m hH c t.val t.isLt (ix3 (0 : Fin 1) a b)
      = (outsAt0 m hH c (t.val - 1) (Nat.lt_of_le_of_lt (Nat.sub_le _ _) t.isLt) (ix3 (0 : Fin 1) a b)
          + ∑ r ∈ Finset.range 256, share m c t a b r : EReal) := by
  rw [outsAt0_B m hH c t h0]
  unfold out0_B_2 kernelRun0_B
  dsimp only
  have ht : (Scf.trips (0#32) (Scalar.addi 0#32 256#32) 1#32) = 256 := trips_eq
  rw [ht]
  refine (held_after m hH c t _ a b 256 le_rfl).trans ?_
  rw [Memref.IsWhole.read_unread]

/-- After the `e`-th expert of batch `g` the block holds, at every token, what the experts so far add there. -/
theorem out_at (c : Dev nD) (a : Fin 2048) (b : Fin 1024) (g : Nat) : ∀ (e : Nat) (_ : e < 16) (h : 16 * g + e < cfg0.N),
    outsAt0 m hH c (16 * g + e) h (ix3 (0 : Fin 1) a b)
      = (∑ e' ∈ Finset.range (e + 1), ∑ r ∈ Finset.range 256,
          (if h' : 16 * g + e' < cfg0.N then share m c ⟨16 * g + e', h'⟩ a b r else 0) : EReal)
  | 0, _, h => by
    rw [Finset.sum_range_one]
    refine (first_at m hH c ⟨16 * g + 0, h⟩ (by show (16 * g + 0) % 16 = 0; omega) a b).trans ?_
    exact Finset.sum_congr rfl fun r _ => by rw [dif_pos h]
  | e + 1, he, h => by
    rw [Finset.sum_range_succ, ← out_at c a b g e (by omega) (by omega)]
    refine (later_at m hH c ⟨16 * g + (e + 1), h⟩ (by show ¬ (16 * g + (e + 1)) % 16 = 0; omega) a b).trans ?_
    exact congrArg₂ (fun x y : EReal => x + y) rfl (Finset.sum_congr rfl fun r _ => by rw [dif_pos h])

end Cert.ScatterIdeal.Sum

end
-- ==== Proof.ScatterRefRows.lean ====
/- The reference's scatter: which answers its indexed addition brings to a token, and so each entry of its result as a sum over
   experts and positions. -/
module

public import proofs.«01_k».proof.Proof.Gen.ScatterRefIdeal.Read
public import proofs.«01_k».proof.Proof.TopkRange
public import Idealize.ShloMosaic.Lib.Pointwise
public import Idealize.ShloMosaic.Lib.Pipeline.Value

@[expose] public section

set_option maxRecDepth 16384

noncomputable section

namespace Cert.ScatterRefIdeal.Rows

open Cert.ScatterRefIdeal Cert.ScatterRefIdeal.Gen Cert.ScatterRefIdeal.Read Idealize.ShloMosaic Idealize.ShloMosaic.TcCoe
  Idealize.SL.Sem

variable (x0 : S32x16x2048.Idx → EReal) (x1 : S512x256x1024.Idx → EReal)

/-- The positions the experts chose. -/
abbrev chosen : S32x16x256.Idx → BitVec 32 := val_main_indices (F := Ideal) x0

/-- Each is below the number of tokens. -/
theorem chosen_lt (i : S32x16x256.Idx) : (chosen x0 i).toNat < 2048 := by
  unfold chosen val_main_indices
  exact Cert.TopkRange.position_lt (s := S32x16x2048) S32x16x256 2 _ _ _ (by decide) _

/-- A small word is its unsigned reading, signed, and so not negative. -/
theorem signed (w : BitVec 32) (h : w.toNat < 2147483648) : w.toInt = w.toNat ∧ ¬ IntOp.cmpi .slt w 0#32 = 1#1 := by
  have e : w.toInt = w.toNat := by rw [BitVec.toInt_eq_toNat_of_lt (by omega)]
  have n : ¬ (w.toInt < 0) := by rw [e]; omega
  exact ⟨e, by simp [IntOp.cmpi, BitVec.slt, n]⟩

/-- The position word of the indexed addition: the position, which is not negative. -/
theorem position (i : S32x16x256.Idx) : val_main_v13 (F := Ideal) x0 i = chosen x0 i := by
  rw [val_main_v13_apply, val_main_v10_apply, val_main_v9_apply]
  exact if_neg (signed _ (by have := chosen_lt x0 i; show (chosen x0 i).toNat < _; omega)).2

/-- The batch word of the indexed addition: the number of the batch. -/
theorem batch (i : S32x1x1.Idx) : val_main_v8 (F := Ideal) i = BitVec.ofNat 32 (i 0).val := by
  have h0 : (i 0).val < 32 := (i 0).isLt
  rw [val_main_v8_apply, val_main_v5_apply, val_main_v4_apply, val_main_v1_apply, val_main_v0_apply]
  exact if_neg (signed _ (by rw [BitVec.toNat_ofNat]; show (i 0).val % _ < _; omega)).2

/-- The start index of an answer, first component: the number of its batch. -/
theorem start_batch (i : S32x16x256x2.Idx) (h : (i 3).val = 0) :
    val_main_v17 (F := Ideal) x0 i = BitVec.ofNat 32 (i 0).val := by
  unfold val_main_v17
  refine (concatenate_pair_apply_left (s₁ := S32x16x256x1) (s₂ := S32x16x256x1) _ _ _ _ i rfl (ix4 (i 0) (i 1) (i 2) (0 : Fin 1) : S32x16x256x1.Idx) (fun b => ?_)).trans ?_
  · match b with
    | ⟨0, _⟩ => rfl
    | ⟨1, _⟩ => rfl
    | ⟨2, _⟩ => rfl
    | ⟨3, _⟩ => exact h.symm
  · rw [val_main_v15_apply, val_main_v14_apply, batch]; rfl

/-- The start index of an answer, second component: its position. -/
theorem start_position (i : S32x16x256x2.Idx) (h : (i 3).val = 1) :
    val_main_v17 (F := Ideal) x0 i = chosen x0 (ix3 (i 0) (i 1) (i 2)) := by
  unfold val_main_v17
  refine (concatenate_pair_apply_right (s₁ := S32x16x256x1) (s₂ := S32x16x256x1) _ _ _ _ i rfl rfl (ix4 (i 0) (i 1) (i 2) (0 : Fin 1) : S32x16x256x1.Idx) (fun b hb => ?_) ?_).trans ?_
  · match b, hb with
    | ⟨0, _⟩, _ => rfl
    | ⟨1, _⟩, _ => rfl
    | ⟨2, _⟩, _ => rfl
    | ⟨3, _⟩, hb => exact absurd rfl hb
  · show 0 + 1 = (i 3).val; omega
  · rw [val_main_v16_apply, position]
    refine congrArg (chosen x0) (funext fun a => Fin.ext ?_)
    match a with
    | ⟨0, _⟩ => rfl
    | ⟨1, _⟩ => rfl
    | ⟨2, _⟩ => rfl

/-- The scatter's dimension numbers, under a short name. -/
abbrev dims := scatter_S32x2048x1024_S32x16x256x2_S32x16x256x1024_3_01_01_3

/-- An update lands where its start and its window coordinate add up to a place of the operand. -/
theorem result_of_places {s si u : Shape} (d : ScatterDims s si u) {w : Nat} (j : u.Idx) (idx : IVec si w) (i : s.Idx)
    (key : ∀ a, d.start j idx a + (d.window j a : Int) = ((i a).val : Int)) : d.resultIdx? j idx = some i := by
  unfold ScatterDims.resultIdx?
  rw [dif_pos fun a => by rw [key a]; exact ⟨Int.natCast_nonneg _, Int.ofNat_lt.mpr (i a).isLt⟩]
  refine congrArg some (funext fun a => Fin.ext ?_)
  show (d.start j idx a + (d.window j a : Int)).toNat = (i a).val
  rw [key a]
  exact Int.toNat_natCast _

/-- Where an answer lands: its batch, the token its position names, its own column. -/
theorem lands (g : Fin 32) (e : Fin 16) (r : Fin 256) (d : Fin 1024) :
    dims.resultIdx? (ix4 g e r d) (val_main_v17 (F := Ideal) x0)
      = some (ix3 g (⟨(chosen x0 (ix3 g e r)).toNat, chosen_lt x0 _⟩ : Fin 2048) d) := by
  have hw := chosen_lt x0 (ix3 g e r)
  have hg := g.isLt
  have s0 : dims.start (ix4 g e r d) (val_main_v17 (F := Ideal) x0) 0 = (g.val : Int) := by
    unfold ScatterDims.start
    rw [dif_pos (by decide), start_batch x0 _ rfl, (signed _ (by rw [BitVec.toNat_ofNat]; show g.val % _ < _; omega)).1,
      BitVec.toNat_ofNat]
    show ((g.val % 2 ^ 32 : Nat) : Int) = g.val
    omega
  have s1 : dims.start (ix4 g e r d) (val_main_v17 (F := Ideal) x0) 1 = ((chosen x0 (ix3 g e r)).toNat : Int) := by
    unfold ScatterDims.start
    rw [dif_pos (by decide), start_position x0 _ rfl]
    exact (signed _ (by show (chosen x0 (ix3 g e r)).toNat < _; omega)).1
  have s2 : dims.start (ix4 g e r d) (val_main_v17 (F := Ideal) x0) 2 = 0 := by
    unfold ScatterDims.start
    rw [dif_neg (by decide)]
  have w0 : dims.window (ix4 g e r d) 0 = 0 := by
    unfold ScatterDims.window
    rw [dif_neg (by decide)]
  have w1 : dims.window (ix4 g e r d) 1 = 0 := by
    unfold ScatterDims.window
    rw [dif_neg (by decide)]
  have w2 : dims.window (ix4 g e r d) 2 = d.val := by
    unfold ScatterDims.window
    rw [dif_pos (by decide)]
    rfl
  refine result_of_places dims _ _ _ fun a => ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [s0, w0]; exact add_zero _
  · rw [s1, w1]; exact add_zero _
  · rw [s2, w2]; exact zero_add _

/-- An answer lands on an entry exactly when batch, token and column agree. -/
theorem lands_iff (g g' : Fin 32) (e : Fin 16) (r : Fin 256) (d d' : Fin 1024) (n : Fin 2048) :
    dims.resultIdx? (ix4 g e r d) (val_main_v17 (F := Ideal) x0) = some (ix3 g' n d')
      ↔ g = g' ∧ d = d' ∧ (chosen x0 (ix3 g e r)).toNat = n.val := by
  rw [lands, Option.some_inj]
  constructor
  · intro h
    exact ⟨congrFun h 0, congrFun h 2, congrArg Fin.val (congrFun h 1)⟩
  · rintro ⟨rfl, rfl, h⟩
    exact congrArg (fun y => ix3 g y d) (Fin.ext h)

/-- Entry of the answers, batch and expert split. -/
theorem answers_at (g : Fin 32) (e : Fin 16) (r : Fin 256) (d : Fin 1024) :
    val_main_v3 (F := Ideal) x1 (ix4 g e r d) = x1 (ix3 (⟨16 * g.val + e.val, by omega⟩ : Fin 512) r d) := by
  unfold val_main_v3
  refine shapeCast_apply _ _ _ _ ?_
  rw [Shape.rowMajor_val_three, Shape.rowMajor_val_four]
  show ((16 * g.val + e.val) * 256 + r.val) * 1024 + d.val = ((g.val * 16 + e.val) * 256 + r.val) * 1024 + d.val
  omega

/-- The indices of the answers as quadruples. -/
def quad : S32x16x256x1024.Idx ≃ Fin 32 × Fin 16 × Fin 256 × Fin 1024 where
  toFun j := (j 0, j 1, j 2, j 3)
  invFun p := ix4 p.1 p.2.1 p.2.2.1 p.2.2.2
  left_inv j := (eq_ix4 j).symm
  right_inv _ := rfl

/-- One entry of the reference's result: over all experts and positions of the batch, the answers whose position is the token. -/
theorem result_at (g : Fin 32) (n : Fin 2048) (d : Fin 1024) :
    val_main_v18 (F := Ideal) x0 x1 (ix3 g n d)
      = (∑ e : Fin 16, ∑ r : Fin 256, (if (chosen x0 (ix3 g e r)).toNat = n.val then
          x1 (ix3 (⟨16 * g.val + e.val, by omega⟩ : Fin 512) r d) else 0) : EReal) := by
  have hz : val_main_v2 (F := Ideal) (ix3 g n d) = (0 : EReal) := by
    show Ideal.ofBits .f32 0x00000000#32 = (0 : EReal)
    simp [Ideal.ofBits, Ideal.ieee]
  unfold val_main_v18
  show (val_main_v2 (F := Ideal) (ix3 g n d) + ∑ j ∈ Finset.univ.filter
    (fun j => dims.resultIdx? j (val_main_v17 (F := Ideal) x0) = some (ix3 g n d)), val_main_v3 (F := Ideal) x1 j : EReal) = _
  rw [hz, zero_add, Finset.sum_filter, ← quad.symm.sum_comp, Fintype.sum_prod_type, Finset.sum_eq_single g]
  · rw [Fintype.sum_prod_type]
    refine Finset.sum_congr rfl fun e _ => ?_
    rw [Fintype.sum_prod_type]
    refine Finset.sum_congr rfl fun r _ => ?_
    rw [Finset.sum_eq_single d]
    · show (if dims.resultIdx? (ix4 g e r d) _ = _ then val_main_v3 (F := Ideal) x1 (ix4 g e r d) else 0) = _
      rw [answers_at]
      exact if_congr ((lands_iff x0 g g e r d d n).trans ⟨fun h => h.2.2, fun h => ⟨rfl, rfl, h⟩⟩) rfl rfl
    · intro d' _ hd
      exact if_neg fun h => hd ((lands_iff x0 g g e r d' d n).mp h).2.1
    · exact fun h => absurd (Finset.mem_univ _) h
  · rintro g' _ hg
    refine Finset.sum_eq_zero fun p _ => ?_
    exact if_neg fun h => hg ((lands_iff x0 g' g p.1 p.2.1 p.2.2 d n).mp h).1
  · exact fun h => absurd (Finset.mem_univ _) h

end Cert.ScatterRefIdeal.Rows

end
-- ==== Proof.ScatterValue.lean ====
/- The scatter of the experts' answers: what the kernel leaves in its result array is the reference's result, entry by entry
   over the extended reals. -/
module

public import proofs.«01_k».proof.Proof.ScatterSum
public import proofs.«01_k».proof.Proof.ScatterRefRows
public import proofs.«01_k».proof.Proof.Gen.ScatterRefIdeal.Run

@[expose] public section

set_option maxRecDepth 16384

noncomputable section

namespace Cert.ScatterIdeal.Tokens

open Cert.ScatterIdeal Cert.ScatterIdeal.Gen Idealize.ShloMosaic Idealize.ShloMosaic.TcCoe Idealize.SL.Sem

variable (m : (ℓ : Loc nD τ sig) → Buf (Elt Ideal) ℓ) (ρ : Dev nD → PrngReg)

/-- The affinities and the experts' answers the program is given. -/
abbrev affinities (c : Dev nD) : S32x16x2048.Idx → EReal := m ((c : Thread nD τ).loc main_arg0)
@[inherit_doc affinities] abbrev answers (c : Dev nD) : S512x256x1024.Idx → EReal := m ((c : Thread nD τ).loc main_arg1)

/-- The answers as the grid finds them: the argument itself. -/
theorem entry_answers (c : Dev nD) (i : S512x256x1024.Idx) : V m c main_arg1 i = answers m c i := by
  rw [V_main_arg1]

/-- Where each window's block lies: point `t` is batch `t / 16` and expert `t % 16`; a batch's tokens are written back after its
    last expert. -/
theorem block_at : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val / 16 ∧ win0_2.index t 1 = 0 ∧ win0_2.index t 2 = 0)
    ∧ ((cfg0.win 2).flush t = true ↔ t.val % 16 = 15) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val / 16 ∧ win0_2.index t 1 = 0 ∧ win0_2.index t 2 = 0)
    ∧ ((cfg0.win 2).flush t = true ↔ t.val % 16 = 15))

/-- A point's positions: the ones its expert chose in its batch. -/
theorem words_at (c : Dev nD) (t : Fin cfg0.N) (g : Fin 32) (e : Fin 16) (ht : t.val = 16 * g.val + e.val) (r : Fin 256) :
    Sum.wordsOf m c t (ix3 (0 : Fin 1) (0 : Fin 1) r) = Cert.ScatterRefIdeal.Rows.chosen (affinities m c) (ix3 g e r) := by
  have h := (block_at t).1
  have hb : Sum.wordsOf m c t (ix3 (0 : Fin 1) (0 : Fin 1) r)
      = Words.words m c (ix3 (⟨16 * g.val + e.val, by omega⟩ : Fin 512) (0 : Fin 1) r) := by
    unfold Sum.wordsOf iblk
    rw [View.read_apply, cast_eq]
    refine congrArg (V m c main_v0) (funext fun a => Fin.ext ?_)
    match a with
    | ⟨0, _⟩ => show win0_0.index t 0 * 1 + 1 * 0 = 16 * g.val + e.val
                rw [h.1]; omega
    | ⟨1, _⟩ => show win0_0.index t 1 * 1 + 1 * 0 = 0
                rw [h.2.1]
    | ⟨2, _⟩ => show win0_0.index t 2 * 256 + 1 * r.val = r.val
                rw [h.2.2]; omega
  rw [hb, Words.entry_words]
  refine shapeCast_apply _ _ _ (ix3 g e r) ?_
  rw [Shape.rowMajor_val_three, Shape.rowMajor_val_three]
  show (g.val * 16 + e.val) * 256 + r.val = ((16 * g.val + e.val) * 1 + 0) * 256 + r.val
  omega

/-- A point's answers: its row block of the argument. -/
theorem answers_at (c : Dev nD) (t : Fin cfg0.N) (p : Fin 512) (ht : t.val = p.val) (r : Fin 256) (b : Fin 1024) :
    Sum.answersOf m c t (ix3 (0 : Fin 1) r b) = answers m c (ix3 p r b) := by
  have h := (block_at t).2.1
  rw [← entry_answers]
  unfold Sum.answersOf iblk
  rw [View.read_apply, cast_eq]
  refine congrArg (V m c main_arg1) (funext fun a => Fin.ext ?_)
  match a with
  | ⟨0, _⟩ => show win0_1.index t 0 * 1 + 1 * 0 = p.val
              rw [h.1]; omega
  | ⟨1, _⟩ => show win0_1.index t 1 * 256 + 1 * r.val = r.val
              rw [h.2.1]; omega
  | ⟨2, _⟩ => show win0_1.index t 2 * 1024 + 1 * b.val = b.val
              rw [h.2.2]; omega

/-- The reference's result for the kernel's arguments. -/
abbrev result (c : Dev nD) : S32x2048x1024.Idx → EReal :=
  Cert.ScatterRefIdeal.Read.val_main_v18 (F := Ideal) (affinities m c) (answers m c)

/-- What the last expert of a batch leaves is the batch's tokens of the reference's result. -/
theorem last_at (c : Dev nD) (g : Fin 32) (h : 16 * g.val + 15 < cfg0.N) (a : Fin 2048) (b : Fin 1024) :
    outsAt0 m (Words.hyps m) c (16 * g.val + 15) h (ix3 (0 : Fin 1) a b) = result m c (ix3 g a b) := by
  unfold result
  rw [Sum.out_at m (Words.hyps m) c a b g.val 15 (by omega) h, Cert.ScatterRefIdeal.Rows.result_at, Finset.sum_range]
  refine Finset.sum_congr rfl fun e _ => ?_
  have hN : cfg0.N = 512 := N_0
  have hp : 16 * g.val + e.val < cfg0.N := by have := e.isLt; omega
  rw [Finset.sum_range]
  refine Finset.sum_congr rfl fun r _ => ?_
  rw [dif_pos hp]
  unfold Sum.share
  rw [dif_pos r.isLt, words_at m c ⟨16 * g.val + e.val, hp⟩ g e rfl ⟨r.val, r.isLt⟩,
    answers_at m c ⟨16 * g.val + e.val, hp⟩ ⟨16 * g.val + e.val, by omega⟩ rfl ⟨r.val, r.isLt⟩ b]

/-- Where entry `(z, a, b)` of point `t`'s block lies in the result. -/
theorem place_at (t : Fin cfg0.N) (z : Fin 1) (a : Fin 2048) (b : Fin 1024) (h : t.val / 16 < 32) :
    (win0_2.blk t).view.emb (ix3 z a b) = ix3 (⟨t.val / 16, h⟩ : Fin 32) a b := by
  have e := (block_at t).2.2.1
  refine funext fun x => Fin.ext ?_
  match x with
  | ⟨0, _⟩ => show win0_2.index t 0 * 1 + 1 * z.val = t.val / 16
              rw [e.1]; omega
  | ⟨1, _⟩ => show win0_2.index t 1 * 2048 + 1 * a.val = a.val
              rw [e.2.1]; omega
  | ⟨2, _⟩ => show win0_2.index t 2 * 1024 + 1 * b.val = b.val
              rw [e.2.2]; omega

/-- What is written back after a batch's last expert is the batch's block of the reference's result. -/
theorem flushed_eq (c : Dev nD) (t : Fin cfg0.N) (hf : (cfg0.win 2).flush t = true) :
    (dats m (Words.hyps m) 0 c).flushed 2 t = (win0_2.blk t).view.read (Elt Ideal) (result m c) := by
  have hl := (block_at t).2.2.2.mp hf
  have hN : cfg0.N = 512 := N_0
  have ht := t.isLt
  have h : t.val / 16 < 32 := by omega
  rw [Value.flushed2]
  funext j
  show outsAt0 m (Words.hyps m) c t.val t.isLt j = _
  rw [View.read_apply, cast_eq]
  obtain ⟨z, a, b, rfl⟩ : ∃ (z : Fin 1) (a : Fin 2048) (b : Fin 1024), j = ix3 z a b := ⟨j 0, j 1, j 2, eq_ix3 j⟩
  rw [place_at t z a b h, ← last_at m c ⟨t.val / 16, h⟩ (by show 16 * (t.val / 16) + 15 < cfg0.N; omega) a b]
  have hz : z = 0 := Subsingleton.elim _ _
  subst hz
  have e : ∀ (n : Nat) (hn : n < cfg0.N), n = t.val →
      outsAt0 m (Words.hyps m) c t.val t.isLt = outsAt0 m (Words.hyps m) c n hn := by
    rintro n hn rfl
    rfl
  exact congrFun (e (16 * (t.val / 16) + 15) _ (by omega)) _

/-- Every entry of the result lies in the block written back after its batch's last expert. -/
theorem cover (i : S32x2048x1024.Idx) :
    ∃ t : Fin cfg0.N, (cfg0.win 2).flush t = true ∧ i ∈ ((cfg0.win 2).blk t).view.set := by
  have h0 : (i 0).val < 32 := (i 0).isLt
  have h1 : (i 1).val < 2048 := (i 1).isLt
  have h2 : (i 2).val < 1024 := (i 2).isLt
  have hN : cfg0.N = 512 := N_0
  have ht : 16 * (i 0).val + 15 < cfg0.N := by omega
  have e := (block_at ⟨16 * (i 0).val + 15, ht⟩).2.2
  refine ⟨⟨16 * (i 0).val + 15, ht⟩, e.2.mpr (by dsimp only; omega), ?_⟩
  show i ∈ ((View.whole main_v1).slice (win0_2.rect ⟨16 * (i 0).val + 15, ht⟩)).set
  rw [View.set_slice_whole, Rect.mem_set_unit]
  intro a
  match a with
  | ⟨0, _⟩ => show win0_2.index ⟨16 * (i 0).val + 15, ht⟩ 0 * 1 ≤ (i 0).val
                ∧ (i 0).val < win0_2.index ⟨16 * (i 0).val + 15, ht⟩ 0 * 1 + 1
              rw [e.1.1]; dsimp only; omega
  | ⟨1, _⟩ => show win0_2.index ⟨16 * (i 0).val + 15, ht⟩ 1 * 2048 ≤ (i 1).val
                ∧ (i 1).val < win0_2.index ⟨16 * (i 0).val + 15, ht⟩ 1 * 2048 + 2048
              rw [e.1.2.1]; omega
  | ⟨2, _⟩ => show win0_2.index ⟨16 * (i 0).val + 15, ht⟩ 2 * 1024 ≤ (i 2).val
                ∧ (i 2).val < win0_2.index ⟨16 * (i 0).val + 15, ht⟩ 2 * 1024 + 1024
              rw [e.1.2.2]; omega

/-- The result array after the run is the reference's result. -/
theorem final (c : Dev nD) : (dats m (Words.hyps m) 0 c).arrAt 2 cfg0.N = result m c :=
  (dats m (Words.hyps m) 0 c).arrAt_eq_of_cover 2 (result m c) (fun t hf => flushed_eq m c t hf) cover

/-- The run: the result array at the reference's result, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ (Words.hyps m))

end Cert.ScatterIdeal.Tokens

end
-- ==== Proof.ScatterClaims.lean ====
/- The claims about the scatter of the experts' answers. -/
module

public import proofs.«01_k».proof.Defs
public import proofs.«01_k».proof.Proof.ScatterWords
public import proofs.«01_k».proof.Proof.ScatterIdealWords
public import proofs.«01_k».proof.Proof.ScatterValue

@[expose] public section

noncomputable section

namespace Cert.Proof.Scatter

open Idealize.ShloMosaic Idealize.SL.Sem

/-- The call runs to its end from any state, in machine words, and leaves its arguments as they were: every row it adds to by
    a prefetched word lies within the tokens. -/
theorem frame : Cert.quiescent_Scatter := fun m ρ _ => Cert.Scatter.Gen.frame m ρ (Cert.Scatter.Words.hyps m)

/-- The same over the extended reals. -/
theorem frame_ideal : Cert.quiescent_ScatterIdeal := fun m ρ _ => Cert.ScatterIdeal.Gen.frame m ρ (Cert.ScatterIdeal.Words.hyps m)

/-- The reference runs to its end from any state and leaves its arguments as they were. -/
theorem frame_reference : Cert.quiescent_ScatterRefIdeal := fun m ρ _ =>
  (θ_run Cert.ScatterRefIdeal.defs _ _).mono (fun r h => ⟨fun c => (h c).2,
      Idealize.ShloMosaic.sem_eq_zero_of_no_sems (by decide) r.2⟩)
    (Cert.ScatterRefIdeal.Value.run (F := Ideal) m ρ)

/-- Over the extended reals the call and the reference leave the same result for the same arguments. -/
theorem algebraic : Cert.algebraic_ScatterIdeal_ScatterRefIdeal := fun m ρ m' ρ' _ hag =>
  ⟨fun c => Cert.ScatterIdeal.Tokens.result m c, Cert.ScatterIdeal.Tokens.run m ρ,
    (θ_run Cert.ScatterRefIdeal.defs _ _).mono
      (fun _ h c => ⟨(h c).1.trans ((Cert.ScatterRefIdeal.Read.val_main_v18_eq _ _).trans (by
        unfold Cert.ScatterIdeal.Tokens.result
        rw [(hag c).1, (hag c).2])), (h c).2⟩)
      (Cert.ScatterRefIdeal.Value.run (F := Ideal) m' ρ')⟩

end Cert.Proof.Scatter

end
-- ==== Proof.SinkSoftmax.lean ====
/- Attention with a sink, over the extended reals: a softmax over a set of keys and one further logit that has no value.
   Three facts are used of it. Keys masked by −∞ do not count, so that two key sets with the same unmasked keys give the
   same answer. The division by the normalizer may be done before the sum over the values or after it, when the scores
   are finite. And a softmax written over the keys and the sink joined in one row is the same. -/
module

public import Idealize.ShloMosaic.Lib.Pointwise

@[expose] public section

noncomputable section

namespace Cert.SinkSoftmax

open Idealize.ShloMosaic

variable {ι κ l : Type} [Fintype ι] [Fintype κ] [Fintype l]

/-- The largest of the scores and the sink. -/
def peak (s : ι → EReal) (sink : EReal) : EReal := max (Finset.univ.fold max ⊥ s) sink

/-- The values weighted by the exponentials of their scores, over the sum of these exponentials and the sink's. -/
def attend (s v : ι → EReal) (sink : EReal) : EReal :=
  Ideal.div (∑ i, Ideal.exp (s i - peak s sink) * v i)
    (∑ i, Ideal.exp (s i - peak s sink) + Ideal.exp (sink - peak s sink))

/-- A masked key weighs nothing. -/
theorem exp_masked (x : EReal) : Ideal.exp (⊥ - x) = 0 := by
  rw [EReal.bot_sub]; exact Ideal.exp_bot

/-- The fold of `max` from −∞ is the supremum. -/
theorem fold_max_eq_sup (s : ι → EReal) : Finset.univ.fold max ⊥ s = Finset.univ.sup s := rfl

/-- The supremum of scores masked outside the range of `a` is the supremum over that range. -/
theorem sup_of_masked (a : l → ι) (s : ι → EReal) (h : ∀ i, i ∉ Set.range a → s i = ⊥) :
    Finset.univ.sup s = Finset.univ.sup (fun x => s (a x)) := by
  apply le_antisymm
  · refine Finset.sup_le fun i _ => ?_
    by_cases hi : i ∈ Set.range a
    · obtain ⟨x, rfl⟩ := hi
      exact Finset.le_sup (f := fun x => s (a x)) (Finset.mem_univ x)
    · rw [h i hi]; exact bot_le
  · exact Finset.sup_le fun x _ => Finset.le_sup (f := s) (Finset.mem_univ (a x))

/-- Attention over a key set whose unmasked keys are the range of `a` is attention over that range. -/
theorem attend_unmasked (a : l → ι) (ha : Function.Injective a) (s v : ι → EReal) (sink : EReal)
    (h : ∀ i, i ∉ Set.range a → s i = ⊥) :
    attend s v sink = attend (fun x => s (a x)) (fun x => v (a x)) sink := by
  have hp : peak s sink = peak (fun x => s (a x)) sink := by
    unfold peak; rw [fold_max_eq_sup, fold_max_eq_sup, sup_of_masked a s h]
  unfold attend
  rw [hp]
  congr 1
  · refine (Fintype.sum_of_injective a ha _ _ (fun i hi => ?_) (fun _ => rfl)).symm
    rw [h i hi, exp_masked, zero_mul]
  · refine congrArg (· + _) (Fintype.sum_of_injective a ha _ _ (fun i hi => ?_) (fun _ => rfl)).symm
    rw [h i hi, exp_masked]

/-- The exponential of a number below infinity, less a finite number: a finite number, not negative. -/
theorem exp_finite (x : EReal) (hx : x ≠ ⊤) (p : ℝ) : ∃ r : ℝ, 0 ≤ r ∧ Ideal.exp (x - (p : EReal)) = (r : EReal) := by
  induction x using EReal.rec with
  | bot => exact ⟨0, le_refl _, by rw [exp_masked]; rfl⟩
  | coe y => exact ⟨Real.exp (y - p), (Real.exp_pos _).le, by rw [← EReal.coe_sub, Ideal.exp_coe]⟩
  | top => exact absurd rfl hx

/-- With every score below infinity and a finite sink the largest is finite. -/
theorem peak_finite (s : ι → EReal) (hs : ∀ i, s i ≠ ⊤) (sink : ℝ) : ∃ p : ℝ, peak s (sink : EReal) = (p : EReal) := by
  have h1 : peak s (sink : EReal) ≠ ⊥ := fun h =>
    EReal.coe_ne_bot sink (le_bot_iff.1 ((le_max_right _ _).trans_eq h))
  have h2 : peak s (sink : EReal) ≠ ⊤ := by
    unfold peak
    rw [fold_max_eq_sup]
    refine ne_of_lt (max_lt ((Finset.sup_lt_iff (bot_lt_top)).2 fun i _ => lt_top_iff_ne_top.2 (hs i)) (EReal.coe_lt_top _))
  exact ⟨(peak s (sink : EReal)).toReal, (EReal.coe_toReal h2 h1).symm⟩

/-- A finite number not negative distributes over a sum of extended reals. -/
theorem sum_mul_coe (f : ι → EReal) (r : ℝ) (hr : 0 ≤ r) : (∑ i, f i) * (r : EReal) = ∑ i, f i * (r : EReal) := by
  classical
  induction (Finset.univ : Finset ι) using Finset.induction with
  | empty => simp
  | insert a t ha ih =>
    rw [Finset.sum_insert ha, Finset.sum_insert ha, ← ih]
    exact EReal.right_distrib_of_nonneg_of_ne_top (EReal.coe_nonneg.2 hr) (EReal.coe_ne_top r) _ _

/-- A sum of finite numbers is the sum as reals. -/
theorem coe_sum (f : ι → ℝ) : (∑ i, (f i : EReal)) = ((∑ i, f i : ℝ) : EReal) := by
  classical
  induction (Finset.univ : Finset ι) using Finset.induction with
  | empty => simp
  | insert a t ha ih => rw [Finset.sum_insert ha, Finset.sum_insert ha, ih, EReal.coe_add]

/-- The weights divided before the sum over the values, when the scores are below infinity and the sink is finite. -/
theorem attend_spread (s v : ι → EReal) (hs : ∀ i, s i ≠ ⊤) (sink : ℝ) :
    attend s v (sink : EReal) = ∑ i, v i * Ideal.div (Ideal.exp (s i - peak s sink))
      (∑ i, Ideal.exp (s i - peak s sink) + Ideal.exp ((sink : EReal) - peak s sink)) := by
  obtain ⟨p, hp⟩ := peak_finite s hs sink
  choose r hr hre using fun i => exp_finite (s i) (hs i) p
  unfold attend
  rw [hp]
  have hd : (∑ i, Ideal.exp (s i - (p : EReal)) + Ideal.exp ((sink : EReal) - (p : EReal)))
      = (((∑ i, r i) + Real.exp (sink - p) : ℝ) : EReal) := by
    rw [Finset.sum_congr rfl fun i _ => hre i, coe_sum, ← EReal.coe_sub, Ideal.exp_coe, EReal.coe_add]
  rw [hd]
  have hpos : 0 < (∑ i, r i) + Real.exp (sink - p) :=
    add_pos_of_nonneg_of_pos (Finset.sum_nonneg fun i _ => hr i) (Real.exp_pos _)
  generalize (∑ i, r i) + Real.exp (sink - p) = d at hpos
  have hdiv : ∀ x : EReal, Ideal.div x (d : EReal) = x * ((d⁻¹ : ℝ) : EReal) := fun x => by
    rw [Ideal.div, if_neg (by simpa using hpos.ne'), ← EReal.coe_inv]
  simp only [hdiv]
  rw [sum_mul_coe _ _ (inv_nonneg.2 hpos.le)]
  exact Finset.sum_congr rfl fun i _ => by rw [mul_comm (Ideal.exp _) (v i), mul_assoc]

/-- The largest of a row in which keys and sink are joined. -/
theorem peak_joined (e : ι ⊕ Fin 1 ≃ κ) (g : κ → EReal) (s : ι → EReal) (sink : EReal)
    (hk : ∀ i, g (e (.inl i)) = s i) (hz : g (e (.inr 0)) = sink) : Finset.univ.fold max ⊥ g = peak s sink := by
  unfold peak
  rw [fold_max_eq_sup, fold_max_eq_sup]
  apply le_antisymm
  · refine Finset.sup_le fun k _ => ?_
    obtain ⟨x, rfl⟩ := e.surjective k
    rcases x with i | z
    · rw [hk]; exact le_max_of_le_left (Finset.le_sup (f := s) (Finset.mem_univ i))
    · obtain rfl : z = 0 := Subsingleton.elim _ _
      rw [hz]; exact le_max_right _ _
  · refine max_le (Finset.sup_le fun i _ => ?_) ?_
    · rw [← hk]; exact Finset.le_sup (f := g) (Finset.mem_univ _)
    · rw [← hz]; exact Finset.le_sup (f := g) (Finset.mem_univ _)

/-- The normalizer of a row in which keys and sink are joined. -/
theorem sum_joined (e : ι ⊕ Fin 1 ≃ κ) (g : κ → EReal) (s : ι → EReal) (sink : EReal)
    (hk : ∀ i, g (e (.inl i)) = s i) (hz : g (e (.inr 0)) = sink) (f : EReal → EReal) :
    ∑ k, f (g k) = ∑ i, f (s i) + f sink := by
  rw [← e.sum_comp, Fintype.sum_sum_type]
  simp only [hk, Fin.sum_univ_one, hz]

end Cert.SinkSoftmax

end
-- ==== Proof.Finite.lean ====
/- What the preconditions say: every entry of an array is a real number. -/
module

public import Idealize.ShloMosaic.Lib.ReduceAll
public import proofs.«01_k».proof.Proof.SinkSoftmax

@[expose] public section

noncomputable section

namespace Cert.Finite

open Idealize.ShloMosaic

/-- The word of positive infinity, over the extended reals. -/
theorem infinity : Ideal.ofBits .f32 0x7F800000#32 = (⊤ : EReal) := by simp [Ideal.ofBits, Ideal.ieee]

/-- A value whose absolute value lies below infinity is a real number. -/
theorem real_of_abs_lt {x : EReal} (h : max x (-x) < ⊤) : ∃ r : ℝ, x = r := by
  induction x with
  | bot => simp at h
  | coe r => exact ⟨r, rfl⟩
  | top => simp at h

/-- The comparison's bit says that its left side is the lesser. -/
theorem lt_of_bit {x y : EReal} (h : Ideal.cmp .olt x y = 1#1) : x < y := by
  by_contra hn
  rw [show Ideal.cmp .olt x y = BitVec.ofBool (decide (x < y)) from rfl, decide_eq_false hn] at h
  exact absurd h (by decide)

/-- When the conjunction over an array of "the absolute value is below infinity" is true, every entry is a real number. -/
theorem real_of_all {s u t : Shape} {axes : List (Fin s.rank)} {dims : Fin u.rank → Fin s.rank} [Subsingleton t.Idx]
    (x : FVec Ideal s .f32) (hb : u.BroadcastsInDim s dims) (v : IVec u 1) (hr : s.ReducesTo axes t) (hu : 0 < u.numel)
    (j : t.Idx)
    (e : Host.reduce IntOp.andi (cmpf .olt (Host.absf x) (broadcastInDim s dims hb (constant u .f32 0x7F800000#32))) v hr hu j
      = 1#1) (i : s.Idx) : ∃ r : ℝ, (x i : EReal) = r := by
  have h := Host.reduce_andi_all _ _ _ _ j e i
  have h' : Ideal.cmp .olt (max (x i : EReal) (-(x i : EReal))) (Ideal.ofBits .f32 0x7F800000#32) = 1#1 := h
  rw [infinity] at h'
  exact real_of_abs_lt (lt_of_bit h')

/-- A finite sum of products of real numbers is a real number. -/
theorem real_sum {n : Nat} (f g : Fin n → EReal) (hf : ∀ i, ∃ r : ℝ, f i = r) (hg : ∀ i, ∃ r : ℝ, g i = r) :
    ∃ r : ℝ, ∑ i, f i * g i = r := by
  choose p hp using hf
  choose q hq using hg
  refine ⟨∑ i, p i * q i, ?_⟩
  rw [← Cert.SinkSoftmax.coe_sum]
  exact Finset.sum_congr rfl fun i _ => by rw [hp, hq, EReal.coe_mul]

end Cert.Finite
-- ==== Proof.AttnHeads.lean ====
/- What one grid point of the windowed attention computes: for each of its 128 queries and 8 heads, attention with a
   sink over 640 keys, 256 of the context and 384 around the query's block, those outside the window masked. -/
module

public import proofs.«01_k».proof.Proof.Gen.AttnIdeal.Skeleton
public import proofs.«01_k».proof.Proof.SinkSoftmax
public import Idealize.ShloMosaic.Lib.Pointwise

@[expose] public section

set_option maxRecDepth 16384

noncomputable section

namespace Cert.AttnIdeal.Heads

open Cert.AttnIdeal Cert.AttnIdeal.Gen Cert.SinkSoftmax Idealize.ShloMosaic

/-- The word of negative infinity, over the extended reals. -/
theorem bottom : Ideal.ofBits .f32 0xFF800000#32 = (⊥ : EReal) := by simp [Ideal.ofBits, Ideal.ieee]

/-- The scores of one head: its queries against its keys. -/
def scored (q : FVec Ideal S128x64 .f32) (k : FVec Ideal S640x64 .bf16) : FVec Ideal S128x640 .f32 :=
  matmul (F := Ideal) dot_S128x64_S640x64_S128x640_1_1_0_0_n_n none (truncf .bf16 q bitsLt_bf16_f32) k
    (constant S128x640 .f32 0x00000000#32)

theorem scored_at (q : FVec Ideal S128x64 .f32) (k : FVec Ideal S640x64 .bf16) (r : Fin 128) (l : Fin 640) :
    scored q k (ix2 r l) = (∑ e : Fin 64, q (ix2 r e) * k (ix2 l e) : EReal) := by
  pointwise [scored]

/-- The name the mask carries stands for minus infinity. -/
theorem mask_eq : Named.named (F := Ideal) κ "mask" (φ := .f32) 0xF149F2CA#32 = (⊥ : EReal) := rfl

/-- One head of the kernel is attention with a sink, the masked scores at minus infinity. -/
theorem head_at (w : IVec S128x640 1) (v : FVec Ideal S640x64 .bf16) (s : FVec Ideal S128x640 .f32) (z : EReal)
    (r : Fin 128) (d : Fin 64) :
    k0_pay12 (F := Ideal) w v s z (ix2 r d)
      = attend (fun l : Fin 640 => if w (ix2 r l) = 1#1 then s (ix2 r l) else ⊥) (fun l => v (ix2 l d)) z := by
  unfold attend peak
  rw [← bottom]
  pointwise [k0_pay12]
  rw [mask_eq, bottom]
  rfl

/-- A disjunction of bits. -/
theorem ori_one : ∀ a b : BitVec 1, IntOp.ori a b = 1#1 ↔ a = 1#1 ∨ b = 1#1 := by decide

/-- A conjunction of bits. -/
theorem andi_one : ∀ a b : BitVec 1, IntOp.andi a b = 1#1 ↔ a = 1#1 ∧ b = 1#1 := by decide

/-- Distance at most 128, in words. -/
theorem near_word : ∀ n : Fin 768, IntOp.cmpi CmpIPredicate.sle (IntOp.absi (BitVec.ofNat 32 n.val - 512#32)) 128#32 = 1#1
    ↔ 384 ≤ n.val ∧ n.val ≤ 640 := by decide +kernel

/-- The position of a key is not negative, in words. -/
theorem low_word : ∀ n : Fin 3072, IntOp.cmpi CmpIPredicate.sge (BitVec.ofNat 32 n.val - 384#32) 0#32 = 1#1
    ↔ 384 ≤ n.val := by decide +kernel

/-- The position of a key lies in the sequence, in words. -/
theorem high_word : ∀ n : Fin 3072, IntOp.cmpi CmpIPredicate.slt (BitVec.ofNat 32 n.val - 384#32) 2048#32 = 1#1
    ↔ n.val < 2432 := by decide +kernel

/-- The first 256 columns are the context's. -/
theorem context_word : ∀ n : Fin 640, IntOp.cmpi CmpIPredicate.slt (BitVec.ofNat 32 n.val) 256#32 = 1#1 ↔ n.val < 256 := by
  decide +kernel

/-- The distance of a column to a row, as one difference. -/
theorem distance_word (r : Fin 128) (l : Fin 640) :
    IntOp.subi (IntOp.subi (IntOp.subi (BitVec.ofNat 32 l.val) 256#32) 128#32) (BitVec.ofNat 32 r.val)
      = BitVec.ofNat 32 (l.val + 128 - r.val) - 512#32 := by
  have := r.isLt
  have := l.isLt
  refine BitVec.eq_of_toNat_eq ?_
  simp only [IntOp.subi, BitVec.toNat_sub, BitVec.toNat_ofNat]
  omega

/-- The position of a column's key, as one difference. -/
theorem position_word (i : Fin 16) (l : Fin 640) :
    IntOp.subi (IntOp.addi (Scalar.muli (Scalar.subi (BitVec.ofNat 32 i.val) 1#32) 128#32) (BitVec.ofNat 32 l.val)) 256#32
      = BitVec.ofNat 32 (128 * i.val + l.val) - 384#32 := by
  have := i.isLt
  have := l.isLt
  refine BitVec.eq_of_toNat_eq ?_
  simp only [IntOp.subi, IntOp.addi, Scalar.muli, Scalar.subi, IntOp.muli, BitVec.toNat_sub, BitVec.toNat_add, BitVec.toNat_mul, BitVec.toNat_ofNat]
  omega

/-- The mask of a grid point. -/
def mask (i : grid0.Coords) : IVec S128x640 1 :=
  k0_pay6 (iota .tc S128x640 32 [1] iota_S128x640_d1_w32) k0_pay4 (k0_pay5 i)

/-- The mask lets through the context, and of the sequence what is at most 128 away. -/
theorem mask_at (i : grid0.Coords) (r : Fin 128) (l : Fin 640) :
    mask i (ix2 r l) = 1#1 ↔ l.val < 256 ∨ (r.val + 256 ≤ l.val ∧ l.val ≤ r.val + 512)
      ∧ 384 ≤ 128 * (i 1).val + l.val ∧ 128 * (i 1).val + l.val < 2432 := by
  pointwise [mask, k0_pay6, k0_pay4, k0_pay5]
  rw [ori_one, andi_one, andi_one, distance_word]
  have hi : (i 1).val < 16 := (i 1).isLt
  have hr := r.isLt
  have hl := l.isLt
  have h1 := position_word ⟨(i 1).val, hi⟩ l
  have h2 := near_word ⟨l.val + 128 - r.val, by omega⟩
  have h3 := low_word ⟨128 * (i 1).val + l.val, by omega⟩
  have h4 := high_word ⟨128 * (i 1).val + l.val, by omega⟩
  dsimp only at h1 h2 h3 h4
  rw [context_word l, h1, h2, h3, h4]
  omega

/-- The keys or the values a grid point sees: the context's, then three blocks of the sequence. -/
def joined (c : FVec Ideal S1x256x128 .f32) (x y z : FVec Ideal S1x128x128 .f32) (l : Fin 640) (e : Fin 128) : EReal :=
  if h : l.val < 256 then c (ix3 0 ⟨l.val, h⟩ e)
  else if h1 : l.val < 384 then x (ix3 0 ⟨l.val - 256, by omega⟩ e)
  else if h2 : l.val < 512 then y (ix3 0 ⟨l.val - 384, by omega⟩ e)
  else z (ix3 0 ⟨l.val - 512, by have := l.isLt; omega⟩ e)

theorem keys_at (c : FVec Ideal S1x256x128 .f32) (x y z : FVec Ideal S1x128x128 .f32) (l : Fin 640) (e : Fin 128) :
    k0_pay2 (F := Ideal) c x y z (ix2 l e) = joined c x y z l e := by
  pointwise [k0_pay2]
  unfold joined
  have := l.isLt
  by_cases h : l.val < 256
  · rw [dif_pos h, dif_pos h]
  by_cases h1 : l.val < 384
  · rw [dif_neg h, dif_neg h, dif_pos (by omega), dif_pos h1]
  by_cases h2 : l.val < 512
  · rw [dif_neg h, dif_neg h, dif_neg (by omega), dif_neg h1, dif_pos (by omega), dif_pos h2]
    exact congrArg y (congrArg (fun p => ix3 0 p e) (Fin.ext (by dsimp only; omega)))
  · rw [dif_neg h, dif_neg h, dif_neg (by omega), dif_neg h1, dif_neg (by omega), dif_neg h2]
    exact congrArg z (congrArg (fun p => ix3 0 p e) (Fin.ext (by dsimp only; omega)))

theorem values_at (c : FVec Ideal S1x256x128 .f32) (x y z : FVec Ideal S1x128x128 .f32) (l : Fin 640) (e : Fin 128) :
    k0_pay3 (F := Ideal) c x y z (ix2 l e) = joined c x y z l e := keys_at c x y z l e

section

variable (w21 : IVec S128x640 32) (w26 : IVec S128x640 32) (w29 : IVec S128x640 32) (k : FVec Ideal S640x128 .bf16)
  (v : FVec Ideal S640x128 .bf16) (q : FVec Ideal S1x128x512 .f32) (s0 s1 s2 s3 s4 s5 s6 s7 : EReal)

def leaves : FVec Ideal S1x128x512 .f32 :=
  k0_pay1 (F := Ideal) (k0_pay10 k v w21 w26 w29 q s0)
    (k0_pay12 (k0_pay6 w21 w26 w29) (k0_pay9 v) (k0_pay11 k q) s1)
    (k0_pay13 (k0_pay6 w21 w26 w29) (k0_pay7 q) (k0_pay8 k) (k0_pay9 v) s2)
    (k0_pay16 (k0_pay6 w21 w26 w29) (k0_pay9 v) (k0_pay14 (k0_pay7 q) (k0_pay8 k)) k0_pay15 s3)
    (k0_pay18 v)
    (k0_pay19 k v (k0_pay6 w21 w26 w29) (k0_pay7 q) s4)
    (k0_pay22 (k0_pay6 w21 w26 w29) (k0_pay18 v) (k0_pay20 k (k0_pay7 q)) k0_pay21 s5)
    (k0_pay23 (k0_pay6 w21 w26 w29) (k0_pay7 q) (k0_pay17 k) (k0_pay18 v) s6)
    (k0_pay24 (k0_pay6 w21 w26 w29) (k0_pay7 q) (k0_pay17 k)) s7

/-- One head's queries. -/
def queries (o : Fin 2 → ℕ) (h : Shape.Slices S128x512 o S128x64) : FVec Ideal S128x64 .f32 :=
  extractStridedSlice S128x64 o (k0_pay7 q) h

theorem leaves_eq : leaves w21 w26 w29 k v q s0 s1 s2 s3 s4 s5 s6 s7
  = shapeCast S1x128x512 (concatenate S128x512 1 [
      ⟨S128x64, k0_pay12 (k0_pay6 w21 w26 w29) (k0_pay9 v) (scored (queries q _ slices_S128x512_o0_0_S128x64) (k0_pay8 k)) s0⟩,
      ⟨S128x64, k0_pay12 (k0_pay6 w21 w26 w29) (k0_pay9 v) (scored (queries q _ slices_S128x512_o0_64_S128x64) (k0_pay8 k)) s1⟩,
      ⟨S128x64, k0_pay12 (k0_pay6 w21 w26 w29) (k0_pay9 v) (scored (queries q _ slices_S128x512_o0_128_S128x64) (k0_pay8 k)) s2⟩,
      ⟨S128x64, k0_pay12 (k0_pay6 w21 w26 w29) (k0_pay9 v) (scored (queries q _ slices_S128x512_o0_192_S128x64) (k0_pay8 k)) s3⟩,
      ⟨S128x64, k0_pay12 (k0_pay6 w21 w26 w29) (k0_pay18 v) (scored (queries q _ slices_S128x512_o0_256_S128x64) (k0_pay17 k)) s4⟩,
      ⟨S128x64, k0_pay12 (k0_pay6 w21 w26 w29) (k0_pay18 v) (scored (queries q _ slices_S128x512_o0_320_S128x64) (k0_pay17 k)) s5⟩,
      ⟨S128x64, k0_pay12 (k0_pay6 w21 w26 w29) (k0_pay18 v) (scored (queries q _ slices_S128x512_o0_384_S128x64) (k0_pay17 k)) s6⟩,
      ⟨S128x64, k0_pay12 (k0_pay6 w21 w26 w29) (k0_pay18 v) (scored (queries q _ slices_S128x512_o0_448_S128x64) (k0_pay17 k)) s7⟩]
      concatenates_S128x64_S128x64_S128x64_S128x64_S128x64_S128x64_S128x64_S128x64_S128x512_d1) shapeCasts_S128x512_S1x128x512 := rfl

theorem queries_at (h : Fin 8) (o : Fin 2 → ℕ) (ho : Shape.Slices S128x512 o S128x64) (h0 : o 0 = 0) (h1 : o 1 = 64 * h.val)
    (r : Fin 128) (e : Fin 64) :
    queries q o ho (ix2 r e) = q (ix3 0 r ⟨64 * h.val + e.val, by have := h.isLt; have := e.isLt; omega⟩) := by
  obtain rfl : o = ![0, 64 * h.val] := funext fun a => match a with | ⟨0, _⟩ => h0 | ⟨1, _⟩ => h1
  pointwise [queries, k0_pay7]

theorem half_at (l : Fin 640) (e : Fin 64) : k0_pay8 (F := Ideal) k (ix2 l e) = k (ix2 l ⟨e.val, by omega⟩)
  ∧ k0_pay17 (F := Ideal) k (ix2 l e) = k (ix2 l ⟨64 + e.val, by omega⟩) := by
  refine ⟨?_, ?_⟩
  · pointwise [k0_pay8]
  · pointwise [k0_pay17]

end

section

variable (i : grid0.Coords) (ck cv : FVec Ideal S1x256x128 .f32) (x y z x' y' z' : FVec Ideal S1x128x128 .f32)
  (q : FVec Ideal S1x128x512 .f32) (s : Fin 8 → EReal)

/-- What head `h` leaves at row `r` and column `d`: attention with a sink over the columns the mask lets through. -/
def entry (h : Fin 8) (r : Fin 128) (d : Fin 64) : EReal :=
  attend
    (fun l : Fin 640 => if mask i (ix2 r l) = 1#1 then
      (∑ e : Fin 64, q (ix3 0 r ⟨64 * h.val + e.val, by have := h.isLt; have := e.isLt; omega⟩)
        * joined ck x y z l ⟨64 * (h.val / 4) + e.val, by have := h.isLt; have := e.isLt; omega⟩ : EReal) else ⊥)
    (fun l => joined cv x' y' z' l ⟨64 * (h.val / 4) + d.val, by have := h.isLt; have := d.isLt; omega⟩) (s h)

/-- The first four heads read the first half of the keys and the values. -/
theorem low (h : Fin 8) (hh : h.val < 4) (o : Fin 2 → ℕ) (ho : Shape.Slices S128x512 o S128x64) (h0 : o 0 = 0)
    (h1 : o 1 = 64 * h.val) (r : Fin 128) (d : Fin 64) :
    k0_pay12 (mask i) (k0_pay9 (k0_pay3 cv x' y' z')) (scored (queries q o ho) (k0_pay8 (k0_pay2 ck x y z))) (s h) (ix2 r d)
      = entry i ck cv x y z x' y' z' q s h r d := by
  have hz : 64 * (h.val / 4) = 0 := by omega
  rw [head_at]
  unfold entry
  congr 1
  · funext l
    simp only [scored_at, queries_at q h o ho h0 h1, (half_at _ _ _).1, keys_at, hz, Nat.zero_add]
  · funext l
    refine ((half_at (k0_pay3 cv x' y' z') l d).1).trans ?_
    simp only [values_at, hz, Nat.zero_add]

/-- The last four heads read the second half. -/
theorem high (h : Fin 8) (hh : 4 ≤ h.val) (o : Fin 2 → ℕ) (ho : Shape.Slices S128x512 o S128x64) (h0 : o 0 = 0)
    (h1 : o 1 = 64 * h.val) (r : Fin 128) (d : Fin 64) :
    k0_pay12 (mask i) (k0_pay18 (k0_pay3 cv x' y' z')) (scored (queries q o ho) (k0_pay17 (k0_pay2 ck x y z))) (s h) (ix2 r d)
      = entry i ck cv x y z x' y' z' q s h r d := by
  have hz : 64 * (h.val / 4) = 64 := by have := h.isLt; omega
  rw [head_at]
  unfold entry
  congr 1
  · funext l
    simp only [scored_at, queries_at q h o ho h0 h1, (half_at _ _ _).2, keys_at, hz]
  · funext l
    refine ((half_at (k0_pay3 cv x' y' z') l d).2).trans ?_
    simp only [values_at, hz]

/-- What a grid point leaves, head after head. -/
theorem leaves_at (a : Fin 1) (r : Fin 128) (h : Fin 8) (d : Fin 64) (j : Fin 512) (hj : j.val = 64 * h.val + d.val) :
    leaves (iota .tc S128x640 32 [1] iota_S128x640_d1_w32) k0_pay4 (k0_pay5 i) (k0_pay2 ck x y z) (k0_pay3 cv x' y' z') q
      (s 0) (s 1) (s 2) (s 3) (s 4) (s 5) (s 6) (s 7) (ix3 a r j) = entry i ck cv x y z x' y' z' q s h r d := by
  rw [leaves_eq]
  pointwise []
  have hd := d.isLt
  have h8 := h.isLt
  by_cases h0 : j.val < 64
  · obtain rfl : h = 0 := Fin.ext (by show h.val = 0; omega)
    rw [dif_pos (by omega)]
    exact (congrArg _ (congrArg (ix2 r) (Fin.ext (by dsimp only; omega)))).trans
      (low i ck cv x y z x' y' z' q s 0 (by decide) ![0, 0] slices_S128x512_o0_0_S128x64 rfl rfl r d)
  by_cases h1 : j.val < 128
  · obtain rfl : h = 1 := Fin.ext (by show h.val = 1; omega)
    rw [dif_neg (by omega), dif_pos (by omega)]
    exact (congrArg _ (congrArg (ix2 r) (Fin.ext (by dsimp only; omega)))).trans
      (low i ck cv x y z x' y' z' q s 1 (by decide) ![0, 64] slices_S128x512_o0_64_S128x64 rfl rfl r d)
  by_cases h2 : j.val < 192
  · obtain rfl : h = 2 := Fin.ext (by show h.val = 2; omega)
    rw [dif_neg (by omega), dif_neg (by omega), dif_pos (by omega)]
    exact (congrArg _ (congrArg (ix2 r) (Fin.ext (by dsimp only; omega)))).trans
      (low i ck cv x y z x' y' z' q s 2 (by decide) ![0, 128] slices_S128x512_o0_128_S128x64 rfl rfl r d)
  by_cases h3 : j.val < 256
  · obtain rfl : h = 3 := Fin.ext (by show h.val = 3; omega)
    rw [dif_neg (by omega), dif_neg (by omega), dif_neg (by omega), dif_pos (by omega)]
    exact (congrArg _ (congrArg (ix2 r) (Fin.ext (by dsimp only; omega)))).trans
      (low i ck cv x y z x' y' z' q s 3 (by decide) ![0, 192] slices_S128x512_o0_192_S128x64 rfl rfl r d)
  by_cases h4 : j.val < 320
  · obtain rfl : h = 4 := Fin.ext (by show h.val = 4; omega)
    rw [dif_neg (by omega), dif_neg (by omega), dif_neg (by omega), dif_neg (by omega), dif_pos (by omega)]
    exact (congrArg _ (congrArg (ix2 r) (Fin.ext (by dsimp only; omega)))).trans
      (high i ck cv x y z x' y' z' q s 4 (by decide) ![0, 256] slices_S128x512_o0_256_S128x64 rfl rfl r d)
  by_cases h5 : j.val < 384
  · obtain rfl : h = 5 := Fin.ext (by show h.val = 5; omega)
    rw [dif_neg (by omega), dif_neg (by omega), dif_neg (by omega), dif_neg (by omega), dif_neg (by omega), dif_pos (by omega)]
    exact (congrArg _ (congrArg (ix2 r) (Fin.ext (by dsimp only; omega)))).trans
      (high i ck cv x y z x' y' z' q s 5 (by decide) ![0, 320] slices_S128x512_o0_320_S128x64 rfl rfl r d)
  by_cases h6 : j.val < 448
  · obtain rfl : h = 6 := Fin.ext (by show h.val = 6; omega)
    rw [dif_neg (by omega), dif_neg (by omega), dif_neg (by omega), dif_neg (by omega), dif_neg (by omega), dif_neg (by omega), dif_pos (by omega)]
    exact (congrArg _ (congrArg (ix2 r) (Fin.ext (by dsimp only; omega)))).trans
      (high i ck cv x y z x' y' z' q s 6 (by decide) ![0, 384] slices_S128x512_o0_384_S128x64 rfl rfl r d)
  · obtain rfl : h = 7 := Fin.ext (by show h.val = 7; omega)
    rw [dif_neg (by omega), dif_neg (by omega), dif_neg (by omega), dif_neg (by omega), dif_neg (by omega), dif_neg (by omega), dif_neg (by omega)]
    exact (congrArg _ (congrArg (ix2 r) (Fin.ext (by dsimp only; omega)))).trans
      (high i ck cv x y z x' y' z' q s 7 (by decide) ![0, 448] slices_S128x512_o0_448_S128x64 rfl rfl r d)

end

end Cert.AttnIdeal.Heads

end
-- ==== Proof.AttnRefValue.lean ====
/- The windowed attention's reference, read entry by entry: attention with a sink over the 256 keys of the context and the
   2048 of the sequence, those more than 128 away masked. -/
module

public import proofs.«01_k».proof.Proof.Gen.AttnRefIdeal.Read
public import proofs.«01_k».proof.Proof.SinkSoftmax
public import Idealize.ShloMosaic.Lib.Pointwise

@[expose] public section

set_option maxRecDepth 16384

noncomputable section

namespace Cert.AttnRefIdeal.Entry

open Cert.AttnRefIdeal Cert.AttnRefIdeal.Gen Cert.AttnRefIdeal.Read Cert.SinkSoftmax Idealize.ShloMosaic

variable (x0 : S8.Idx → EReal) (x1 : S32x2048x640.Idx → EReal) (x2 : S32x2048x1792.Idx → EReal)
  (x3 : S32x256x1792.Idx → EReal)

/-- The word of negative infinity, over the extended reals. -/
theorem bottom : Ideal.ofBits .f32 0xFF800000#32 = (⊥ : EReal) := by simp [Ideal.ofBits, Ideal.ieee]

/-- Head `h` is member `h % 4` of group `h / 4`; a group shares its keys and its values. -/
abbrev group (h : Fin 8) : Fin 2 := ⟨h.val / 4, by omega⟩
@[inherit_doc group] abbrev member (h : Fin 8) : Fin 4 := ⟨h.val % 4, by omega⟩

/-- Where a head's queries lie, where its keys lie (in either array) and where its values lie. -/
abbrev queryCol (h : Fin 8) (e : Fin 64) : Fin 640 := ⟨64 * h.val + e.val, by omega⟩
@[inherit_doc queryCol] abbrev keyCol (h : Fin 8) (e : Fin 64) : Fin 640 := ⟨512 + (64 * (h.val / 4) + e.val), by omega⟩
@[inherit_doc queryCol] abbrev wideKeyCol (h : Fin 8) (e : Fin 64) : Fin 1792 := ⟨512 + (64 * (h.val / 4) + e.val), by omega⟩
@[inherit_doc queryCol] abbrev valueCol (h : Fin 8) (e : Fin 64) : Fin 1792 := ⟨640 + (64 * (h.val / 4) + e.val), by omega⟩

/-- The score of a query against a key of the context. -/
def contextScore (b : Fin 32) (n : Fin 2048) (h : Fin 8) (c : Fin 256) : EReal :=
  ∑ e : Fin 64, x1 (ix3 b n (queryCol h e)) * x3 (ix3 b c (wideKeyCol h e))

/-- The score of a query against a key of the sequence. -/
def windowScore (b : Fin 32) (n : Fin 2048) (h : Fin 8) (j : Fin 2048) : EReal :=
  ∑ e : Fin 64, x1 (ix3 b n (queryCol h e)) * x1 (ix3 b j (keyCol h e))

/-- At most 128 away. -/
abbrev near (n j : Fin 2048) : Prop := n.val ≤ j.val + 128 ∧ j.val ≤ n.val + 128

/-- The scores of a query, the masked ones at minus infinity. -/
def scoreOf (b : Fin 32) (n : Fin 2048) (h : Fin 8) : Fin 256 ⊕ Fin 2048 → EReal :=
  Sum.elim (contextScore x1 x3 b n h) (fun j => if near n j then windowScore x1 b n h j else ⊥)

/-- One column of the values a query weighs. -/
def valueOf (b : Fin 32) (h : Fin 8) (d : Fin 64) : Fin 256 ⊕ Fin 2048 → EReal :=
  Sum.elim (fun c => x3 (ix3 b c (valueCol h d))) (fun j => x2 (ix3 b j (valueCol h d)))

/-- The reference's queries. -/
theorem query_at (b : Fin 32) (n : Fin 2048) (h : Fin 8) (e : Fin 64) :
    val_main_v1 (F := Ideal) x1 (ix5 b n (group h) (member h) e) = x1 (ix3 b n (queryCol h e)) := by
  rw [val_main_v1_apply, val_main_v0_apply]
  refine congrArg x1 (funext fun a => Fin.ext ?_)
  match a with
  | ⟨0, _⟩ => show ((((b.val * 2048 + n.val) * 2 + h.val / 4) * 4 + h.val % 4) * 64 + e.val) / 1048576 = b.val
              omega
  | ⟨1, _⟩ => show ((((b.val * 2048 + n.val) * 2 + h.val / 4) * 4 + h.val % 4) * 64 + e.val) / 512 % 2048 = n.val
              omega
  | ⟨2, _⟩ => show ((((b.val * 2048 + n.val) * 2 + h.val / 4) * 4 + h.val % 4) * 64 + e.val) % 512 = 64 * h.val + e.val
              omega

/-- The reference's keys of the sequence. -/
theorem key_at (b : Fin 32) (j : Fin 2048) (h : Fin 8) (e : Fin 64) :
    val_main_v3 (F := Ideal) x1 (ix4 b j (group h) e) = x1 (ix3 b j (keyCol h e)) := by
  rw [val_main_v3_apply, val_main_v2_apply]
  refine congrArg x1 (funext fun a => Fin.ext ?_)
  match a with
  | ⟨0, _⟩ => show (((b.val * 2048 + j.val) * 2 + h.val / 4) * 64 + e.val) / 262144 = b.val
              omega
  | ⟨1, _⟩ => show (((b.val * 2048 + j.val) * 2 + h.val / 4) * 64 + e.val) / 128 % 2048 = j.val
              omega
  | ⟨2, _⟩ => show 512 + (((b.val * 2048 + j.val) * 2 + h.val / 4) * 64 + e.val) % 128 = 512 + (64 * (h.val / 4) + e.val)
              omega

/-- The reference's values of the sequence. -/
theorem value_at (b : Fin 32) (j : Fin 2048) (h : Fin 8) (e : Fin 64) :
    val_main_v5 (F := Ideal) x2 (ix4 b j (group h) e) = x2 (ix3 b j (valueCol h e)) := by
  rw [val_main_v5_apply, val_main_v4_apply]
  refine congrArg x2 (funext fun a => Fin.ext ?_)
  match a with
  | ⟨0, _⟩ => show (((b.val * 2048 + j.val) * 2 + h.val / 4) * 64 + e.val) / 262144 = b.val
              omega
  | ⟨1, _⟩ => show (((b.val * 2048 + j.val) * 2 + h.val / 4) * 64 + e.val) / 128 % 2048 = j.val
              omega
  | ⟨2, _⟩ => show 640 + (((b.val * 2048 + j.val) * 2 + h.val / 4) * 64 + e.val) % 128 = 640 + (64 * (h.val / 4) + e.val)
              omega

/-- The reference's keys of the context. -/
theorem contextKey_at (b : Fin 32) (c : Fin 256) (h : Fin 8) (e : Fin 64) :
    val_main_v7 (F := Ideal) x3 (ix4 b c (group h) e) = x3 (ix3 b c (wideKeyCol h e)) := by
  rw [val_main_v7_apply, val_main_v6_apply]
  refine congrArg x3 (funext fun a => Fin.ext ?_)
  match a with
  | ⟨0, _⟩ => show (((b.val * 256 + c.val) * 2 + h.val / 4) * 64 + e.val) / 32768 = b.val
              omega
  | ⟨1, _⟩ => show (((b.val * 256 + c.val) * 2 + h.val / 4) * 64 + e.val) / 128 % 256 = c.val
              omega
  | ⟨2, _⟩ => show 512 + (((b.val * 256 + c.val) * 2 + h.val / 4) * 64 + e.val) % 128 = 512 + (64 * (h.val / 4) + e.val)
              omega

/-- The reference's values of the context. -/
theorem contextValue_at (b : Fin 32) (c : Fin 256) (h : Fin 8) (e : Fin 64) :
    val_main_v9 (F := Ideal) x3 (ix4 b c (group h) e) = x3 (ix3 b c (valueCol h e)) := by
  rw [val_main_v9_apply, val_main_v8_apply]
  refine congrArg x3 (funext fun a => Fin.ext ?_)
  match a with
  | ⟨0, _⟩ => show (((b.val * 256 + c.val) * 2 + h.val / 4) * 64 + e.val) / 32768 = b.val
              omega
  | ⟨1, _⟩ => show (((b.val * 256 + c.val) * 2 + h.val / 4) * 64 + e.val) / 128 % 256 = c.val
              omega
  | ⟨2, _⟩ => show 640 + (((b.val * 256 + c.val) * 2 + h.val / 4) * 64 + e.val) % 128 = 640 + (64 * (h.val / 4) + e.val)
              omega

/-- The reference's scores against the context. -/
theorem contextScore_at (b : Fin 32) (n : Fin 2048) (h : Fin 8) (c : Fin 256) :
    val_main_v21 (F := Ideal) x1 x3 (ix5 b (group h) (member h) n c) = contextScore x1 x3 b n h c := by
  have hi : idx_main_v21 (ix5 b (group h) (member h) n c) = ix5 b (group h) c n (member h) := eq_ix5 _
  rw [val_main_v21_apply, hi, val_main_v20_apply]
  refine Finset.sum_congr rfl fun e _ => ?_
  have hl : lidx_main_v20 (ix5 b (group h) c n (member h)) e = ix4 b c (group h) e := eq_ix4 _
  have hr : ridx_main_v20 (ix5 b (group h) c n (member h)) e = ix5 b n (group h) (member h) e := eq_ix5 _
  rw [hl, hr, contextKey_at, query_at]
  exact mul_comm _ _

/-- The reference's scores against the sequence. -/
theorem windowScore_at (b : Fin 32) (n : Fin 2048) (h : Fin 8) (j : Fin 2048) :
    val_main_v23 (F := Ideal) x1 (ix5 b (group h) (member h) n j) = windowScore x1 b n h j := by
  have hi : idx_main_v23 (ix5 b (group h) (member h) n j) = ix5 b (group h) j n (member h) := eq_ix5 _
  rw [val_main_v23_apply, hi, val_main_v22_apply]
  refine Finset.sum_congr rfl fun e _ => ?_
  have hl : lidx_main_v22 (ix5 b (group h) j n (member h)) e = ix4 b j (group h) e := eq_ix4 _
  have hr : ridx_main_v22 (ix5 b (group h) j n (member h)) e = ix5 b n (group h) (member h) e := eq_ix5 _
  rw [hl, hr, key_at, query_at]
  exact mul_comm _ _

/-- Distance at most 128, in words. -/
theorem near_word : ∀ k : Fin 4096, IntOp.cmpi CmpIPredicate.sle (IntOp.absi (BitVec.ofNat 32 k.val - 2048#32)) 128#32 = 1#1
    ↔ 1920 ≤ k.val ∧ k.val ≤ 2176 := by decide +kernel

/-- The reference's mask. -/
theorem mask_at (n j : Fin 2048) : val_main_v19 (F := Ideal) (ix2 n j) = 1#1 ↔ near n j := by
  rw [val_main_v19_apply, val_main_v17_apply, val_main_v16_apply, val_main_v14_apply, val_main_v15_apply, val_main_v11_apply,
    val_main_v13_apply, val_main_v10_apply, val_main_v12_apply, val_main_v18_apply, val_main_c_apply]
  have hw : IntOp.subi (BitVec.ofNat 32 j.val) (BitVec.ofNat 32 n.val) = BitVec.ofNat 32 (j.val + 2048 - n.val) - 2048#32 := by
    have := n.isLt
    have := j.isLt
    refine BitVec.eq_of_toNat_eq ?_
    simp only [IntOp.subi, BitVec.toNat_sub, BitVec.toNat_ofNat]
    omega
  show IntOp.cmpi CmpIPredicate.sle (IntOp.absi (IntOp.subi (BitVec.ofNat 32 j.val) (BitVec.ofNat 32 n.val))) 128#32 = 1#1 ↔ _
  rw [hw]
  have h := near_word ⟨j.val + 2048 - n.val, by omega⟩
  dsimp only at h
  rw [h]
  show _ ↔ n.val ≤ j.val + 128 ∧ j.val ≤ n.val + 128
  omega

/-- The reference's masked scores against the sequence. -/
theorem maskedScore_at (b : Fin 32) (n : Fin 2048) (h : Fin 8) (j : Fin 2048) :
    val_main_v24 (F := Ideal) x1 (ix5 b (group h) (member h) n j) = if near n j then windowScore x1 b n h j else ⊥ := by
  have hi : idx_main_call0_v1 (ix5 b (group h) (member h) n j) = ix2 n j := eq_ix2 _
  rw [val_main_v24_apply, val_main_call0_v1_apply, hi, windowScore_at, val_main_call0_v2_apply, val_main_call0_v0_apply,
    val_main_cst_apply]
  show (if val_main_v19 (F := Ideal) (ix2 n j) = 1#1 then windowScore x1 b n h j else Ideal.ofBits .f32 0xFF800000#32) = _
  rw [bottom]
  exact if_congr (mask_at n j) rfl rfl

/-- The reference's sink. -/
theorem sink_at (b : Fin 32) (n : Fin 2048) (h : Fin 8) :
    val_main_v26 (F := Ideal) x0 (ix5 b (group h) (member h) n (0 : Fin 1)) = x0 (ix1 h) := by
  rw [val_main_v26_apply, val_main_v25_apply]
  refine congrArg x0 (funext fun a => Fin.ext ?_)
  match a with
  | ⟨0, _⟩ => show ((h.val / 4 * 4 + h.val % 4) * 1 + 0) * 1 + 0 = h.val
              omega

/-- The three parts of a row of scores: the context's, the sequence's and the sink. -/
def place : (Fin 256 ⊕ Fin 2048) ⊕ Fin 1 ≃ Fin 2305 :=
  ((finSumFinEquiv (m := 256) (n := 2048)).sumCongr (Equiv.refl (Fin 1))).trans (finSumFinEquiv (m := 2304) (n := 1))

/-- A row of the joined scores. -/
def row (b : Fin 32) (n : Fin 2048) (h : Fin 8) (k : Fin 2305) : EReal :=
  val_main_v27 (F := Ideal) x0 x1 x3 (ix5 b (group h) (member h) n k)

/-- A row of three joined arrays, the column in the first, the second or the third. -/
theorem joined_at (y : FVec Ideal S32x2x4x2048x256 .f32) (z : FVec Ideal S32x2x4x2048x2048 .f32) (w : FVec Ideal S32x2x4x2048x1 .f32)
    (b : Fin 32) (g : Fin 2) (u : Fin 4) (n : Fin 2048) (k : Fin 2305) :
    concatenate S32x2x4x2048x2305 4 [⟨S32x2x4x2048x256, y⟩, ⟨S32x2x4x2048x2048, z⟩, ⟨S32x2x4x2048x1, w⟩]
        concatenates_S32x2x4x2048x256_S32x2x4x2048x2048_S32x2x4x2048x1_S32x2x4x2048x2305_d4 (ix5 b g u n k)
      = if h : k.val < 256 then y (ix5 b g u n ⟨k.val, h⟩)
        else if h' : k.val - 256 < 2048 then z (ix5 b g u n ⟨k.val - 256, h'⟩)
        else w (ix5 b g u n ⟨k.val - 256 - 2048, by have := k.isLt; omega⟩) := by
  pointwise []

theorem row_key (b : Fin 32) (n : Fin 2048) (h : Fin 8) (k : Fin 256 ⊕ Fin 2048) :
    row x0 x1 x3 b n h (place (.inl k)) = scoreOf x1 x3 b n h k := by
  unfold row val_main_v27
  refine (joined_at _ _ _ b (group h) (member h) n _).trans ?_
  match k with
  | .inl c =>
    have hv : (place (.inl (.inl c))).val = c.val := rfl
    rw [dif_pos (by rw [hv]; exact c.isLt)]
    exact contextScore_at x1 x3 b n h c
  | .inr j =>
    have hv : (place (.inl (.inr j))).val = 256 + j.val := rfl
    have hj := j.isLt
    rw [dif_neg (by rw [hv]; omega), dif_pos (by rw [hv]; omega)]
    refine Eq.trans (congrArg _ (congrArg (ix5 b (group h) (member h) n) (Fin.ext ?_))) (maskedScore_at x1 b n h j)
    show (place (.inl (.inr j))).val - 256 = j.val
    rw [hv]; omega

theorem row_sink (b : Fin 32) (n : Fin 2048) (h : Fin 8) : row x0 x1 x3 b n h (place (.inr 0)) = x0 (ix1 h) := by
  unfold row val_main_v27
  refine (joined_at _ _ _ b (group h) (member h) n _).trans ?_
  have hv : (place (.inr 0)).val = 2304 := rfl
  rw [dif_neg (by rw [hv]; omega), dif_neg (by rw [hv]; omega)]
  exact sink_at x0 b n h

/-- The reference's maximum over a row, of any array. -/
theorem host_largest (y : FVec Ideal S32x2x4x2048x2305 .f32) (b : Fin 32) (g : Fin 2) (u : Fin 4) (n : Fin 2048) :
    Host.reduce FloatOps.maximumf y (val_main_cst_0 (F := Ideal)) reducesTo_S32x2x4x2048x2305_S32x2x4x2048_d4 h_S_ (ix4 b g u n)
      = Finset.univ.fold max ⊥ (fun k : Fin 2305 => y (ix5 b g u n k)) := by
  rw [Host.reduce_eq_fold_single FloatOps.maximumf y _ _ (by decide) _ (ix4 b g u n), val_main_cst_0_apply]
  show Finset.univ.fold max (Ideal.ofBits .f32 0xFF800000#32) _ = _
  rw [bottom]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl))

/-- The largest of a row: the largest of the scores and the sink. -/
theorem largest_at (b : Fin 32) (n : Fin 2048) (h : Fin 8) :
    val_main_v30 (F := Ideal) x0 x1 x3 (ix4 b (group h) (member h) n) = peak (scoreOf x1 x3 b n h) (x0 (ix1 h)) := by
  have h0 : (val_main_v29 (F := Ideal) (ix4 b (group h) (member h) n) : EReal) = ⊥ := by
    rw [val_main_v29_apply, val_main_cst_1_apply]; exact bottom
  have h1 : (val_main_v28 (F := Ideal) x0 x1 x3 (ix4 b (group h) (member h) n) : EReal)
      = peak (scoreOf x1 x3 b n h) (x0 (ix1 h)) :=
    (host_largest _ b (group h) (member h) n).trans
      (peak_joined place (row x0 x1 x3 b n h) _ _ (row_key x0 x1 x3 b n h) (row_sink x0 x1 x3 b n h))
  rw [val_main_v30_apply, h1]
  show max (val_main_v29 (F := Ideal) (ix4 b (group h) (member h) n) : EReal) _ = _
  rw [h0]
  exact max_eq_right bot_le

/-- The exponentials of a row. -/
theorem exp_at (b : Fin 32) (n : Fin 2048) (h : Fin 8) (k : Fin 2305) :
    val_main_v34 (F := Ideal) x0 x1 x3 (ix5 b (group h) (member h) n k)
      = Ideal.exp (row x0 x1 x3 b n h k - peak (scoreOf x1 x3 b n h) (x0 (ix1 h))) := by
  have hi : idx_main_v32 (ix5 b (group h) (member h) n k) = ix5 b (group h) (member h) n (0 : Fin 1) := eq_ix5 _
  have hj : idx_main_v31 (ix5 b (group h) (member h) n (0 : Fin 1)) = ix4 b (group h) (member h) n := eq_ix4 _
  rw [val_main_v34_apply, val_main_v33_apply, val_main_v32_apply, hi, val_main_v31_apply, hj, largest_at]
  rfl

/-- The sum of a row's exponentials. -/
theorem total_at (b : Fin 32) (n : Fin 2048) (h : Fin 8) :
    val_main_v35 (F := Ideal) x0 x1 x3 (ix4 b (group h) (member h) n)
      = ∑ i, Ideal.exp (scoreOf x1 x3 b n h i - peak (scoreOf x1 x3 b n h) (x0 (ix1 h)))
        + Ideal.exp (x0 (ix1 h) - peak (scoreOf x1 x3 b n h) (x0 (ix1 h))) := by
  have hz : (val_main_cst_2 (F := Ideal) (Shape.Idx.first h_S_) : EReal) = 0 := by
    rw [val_main_cst_2_apply]
    show Ideal.ofBits .f32 0x00000000#32 = 0
    simp [Ideal.ofBits, Ideal.ieee]
  rw [val_main_v35_apply, hz, zero_add]
  refine Eq.trans (Finset.sum_congr rfl fun k _ => ?_)
    (sum_joined place (row x0 x1 x3 b n h) _ _ (row_key x0 x1 x3 b n h) (row_sink x0 x1 x3 b n h)
      (fun s => Ideal.exp (s - peak (scoreOf x1 x3 b n h) (x0 (ix1 h)))))
  have hi : idx_main_v35 (ix4 b (group h) (member h) n) k = ix5 b (group h) (member h) n k := eq_ix5 _
  rw [hi, exp_at]

/-- The weight of a key in the reference. -/
def weight (b : Fin 32) (n : Fin 2048) (h : Fin 8) (i : Fin 256 ⊕ Fin 2048) : EReal :=
  Ideal.div (Ideal.exp (scoreOf x1 x3 b n h i - peak (scoreOf x1 x3 b n h) (x0 (ix1 h))))
    (∑ i, Ideal.exp (scoreOf x1 x3 b n h i - peak (scoreOf x1 x3 b n h) (x0 (ix1 h)))
        + Ideal.exp (x0 (ix1 h) - peak (scoreOf x1 x3 b n h) (x0 (ix1 h))))

theorem weight_at (b : Fin 32) (n : Fin 2048) (h : Fin 8) (i : Fin 256 ⊕ Fin 2048) (k : Fin 2305) (hk : k = place (.inl i)) :
    val_main_v38 (F := Ideal) x0 x1 x3 (ix5 b (group h) (member h) n k) = weight x0 x1 x3 b n h i := by
  have hi : idx_main_v37 (ix5 b (group h) (member h) n k) = ix5 b (group h) (member h) n (0 : Fin 1) := eq_ix5 _
  have hj : idx_main_v36 (ix5 b (group h) (member h) n (0 : Fin 1)) = ix4 b (group h) (member h) n := eq_ix4 _
  rw [val_main_v38_apply, val_main_v37_apply, hi, val_main_v36_apply, hj, total_at, exp_at, hk, row_key]
  rfl

/-- The weighted values of the context. -/
theorem contextPart_at (b : Fin 32) (n : Fin 2048) (h : Fin 8) (d : Fin 64) :
    val_main_v41 (F := Ideal) x0 x1 x3 (ix5 b n (group h) (member h) d)
      = ∑ c : Fin 256, x3 (ix3 b c (valueCol h d)) * weight x0 x1 x3 b n h (.inl c) := by
  have hi : idx_main_v41 (ix5 b n (group h) (member h) d) = ix5 b (group h) d (member h) n := eq_ix5 _
  rw [val_main_v41_apply, hi, val_main_v40_apply]
  refine Finset.sum_congr rfl fun c _ => ?_
  have hl : lidx_main_v40 (ix5 b (group h) d (member h) n) c = ix4 b c (group h) d := eq_ix4 _
  have hr : ridx_main_v40 (ix5 b (group h) d (member h) n) c = ix5 b (group h) (member h) n c := eq_ix5 _
  have hs : idx_main_v39 (ix5 b (group h) (member h) n c)
      = ix5 b (group h) (member h) n (⟨c.val, by omega⟩ : Fin 2305) := eq_ix5 _
  rw [hl, hr, contextValue_at, val_main_v39_apply, hs]
  exact congrArg (_ * ·) (weight_at x0 x1 x3 b n h (.inl c) _ rfl)

/-- The weighted values of the sequence. -/
theorem windowPart_at (b : Fin 32) (n : Fin 2048) (h : Fin 8) (d : Fin 64) :
    val_main_v44 (F := Ideal) x0 x1 x2 x3 (ix5 b n (group h) (member h) d)
      = ∑ j : Fin 2048, x2 (ix3 b j (valueCol h d)) * weight x0 x1 x3 b n h (.inr j) := by
  have hi : idx_main_v44 (ix5 b n (group h) (member h) d) = ix5 b (group h) d (member h) n := eq_ix5 _
  rw [val_main_v44_apply, hi, val_main_v43_apply]
  refine Finset.sum_congr rfl fun j _ => ?_
  have hl : lidx_main_v43 (ix5 b (group h) d (member h) n) j = ix4 b j (group h) d := eq_ix4 _
  have hr : ridx_main_v43 (ix5 b (group h) d (member h) n) j = ix5 b (group h) (member h) n j := eq_ix5 _
  have hs : idx_main_v42 (ix5 b (group h) (member h) n j)
      = ix5 b (group h) (member h) n (⟨256 + j.val, by omega⟩ : Fin 2305) := eq_ix5 _
  rw [hl, hr, value_at, val_main_v42_apply, hs]
  exact congrArg (_ * ·) (weight_at x0 x1 x3 b n h (.inr j) _ rfl)

/-- The reference's result, entry by entry: attention with a sink, when no score is infinite and the sink is finite. -/
theorem result_at (b : Fin 32) (n : Fin 2048) (h : Fin 8) (d : Fin 64) (j : Fin 512) (hj : j.val = 64 * h.val + d.val)
    (hs : ∀ i, scoreOf x1 x3 b n h i ≠ ⊤) (sink : ℝ) (hz : x0 (ix1 h) = sink) :
    val_main_v46 (F := Ideal) x0 x1 x2 x3 (ix3 b n j) = attend (scoreOf x1 x3 b n h) (valueOf x2 x3 b h d) (x0 (ix1 h)) := by
  have hi : idx_main_v46 (ix3 b n j) = ix5 b n (group h) (member h) d := by
    refine funext fun a => Fin.ext ?_
    match a with
    | ⟨0, _⟩ => show ((b.val * 2048 + n.val) * 512 + j.val) / 1048576 = b.val
                omega
    | ⟨1, _⟩ => show ((b.val * 2048 + n.val) * 512 + j.val) / 512 % 2048 = n.val
                omega
    | ⟨2, _⟩ => show ((b.val * 2048 + n.val) * 512 + j.val) / 256 % 2 = h.val / 4
                omega
    | ⟨3, _⟩ => show ((b.val * 2048 + n.val) * 512 + j.val) / 64 % 4 = h.val % 4
                omega
    | ⟨4, _⟩ => show ((b.val * 2048 + n.val) * 512 + j.val) % 64 = d.val
                omega
  rw [val_main_v46_apply, hi, val_main_v45_apply, contextPart_at, windowPart_at, hz, attend_spread _ _ hs,
    Fintype.sum_sum_type]
  unfold weight
  rw [hz]
  rfl

end Cert.AttnRefIdeal.Entry

end
-- ==== Proof.AttnValue.lean ====
/- The windowed attention: what the kernel leaves in its result array is the reference's result, entry by entry over the
   extended reals. -/
module

public import proofs.«01_k».proof.Proof.AttnHeads
public import proofs.«01_k».proof.Proof.AttnRefValue
public import proofs.«01_k».proof.Proof.Gen.AttnIdeal.Value
public import proofs.«01_k».proof.Proof.Gen.AttnRefIdeal.Run

@[expose] public section

set_option maxRecDepth 16384

noncomputable section

namespace Cert.AttnIdeal.Window

open Cert.AttnIdeal Cert.AttnIdeal.Gen Cert.AttnIdeal.Heads Cert.SinkSoftmax Idealize.ShloMosaic Idealize.ShloMosaic.TcCoe Idealize.SL.Sem

variable (m : (ℓ : Loc nD τ sig) → Buf (Elt Ideal) ℓ) (ρ : Dev nD → PrngReg)

/-- The sinks, the queries and keys, the projections of the sequence and those of the context. -/
abbrev sinks (c : Dev nD) : S8.Idx → EReal := m ((c : Thread nD τ).loc main_arg0)
@[inherit_doc sinks] abbrev queriesKeys (c : Dev nD) : S32x2048x640.Idx → EReal := m ((c : Thread nD τ).loc main_arg1)
@[inherit_doc sinks] abbrev sequence (c : Dev nD) : S32x2048x1792.Idx → EReal := m ((c : Thread nD τ).loc main_arg2)
@[inherit_doc sinks] abbrev context (c : Dev nD) : S32x256x1792.Idx → EReal := m ((c : Thread nD τ).loc main_arg3)

/-- The word of the sinks' block a scalar load takes. -/
theorem sink_load (X : Vec Ideal S8 .f32) (k : ℕ) (hk : k < 8) (inb) (h) :
    View.ld X (Rect.unit (s := S8) ![k] S1.size inb) (Shape.Idx.first h) = X (ix1 (⟨k, hk⟩ : Fin 8)) :=
  congrArg X (funext fun a => Fin.ext (match a with | ⟨0, _⟩ => rfl))

/-- What the body leaves in the result's buffer: the eight heads of its blocks. -/
theorem out_at (c : Dev nD) (t : Fin cfg0.N) (x0 : Vec Ideal S8 .f32) (x1 : Vec Ideal S1x128x512 .f32)
    (x2 x3 x4 x5 x6 x7 : Vec Ideal S1x128x128 .f32) (x8 x9 : Vec Ideal S1x256x128 .f32) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      x0 x1 x2 x3 x4 x5 x6 x7 x8 x9
    = leaves (iota .tc S128x640 32 [1] iota_S128x640_d1_w32) k0_pay4 (k0_pay5 (grid0.coords t))
        (k0_pay2 x8 x2 x3 x4) (k0_pay3 x9 x5 x6 x7) x1
        (x0 (ix1 (0 : Fin 8))) (x0 (ix1 (1 : Fin 8))) (x0 (ix1 (2 : Fin 8))) (x0 (ix1 (3 : Fin 8)))
        (x0 (ix1 (4 : Fin 8))) (x0 (ix1 (5 : Fin 8))) (x0 (ix1 (6 : Fin 8))) (x0 (ix1 (7 : Fin 8))) := by
  have origin3 : (![0, 0, 0] : Fin 3 → Nat) = fun _ => 0 := funext fun a => by fin_cases a <;> rfl
  unfold out0_A_10
  rw [View.read_writes_eq_canon _ _ _ (fun y => cover0_A_10 _ _ _ _ _ _ _ _ _ _ _ _ _ _ _ _ _ _ _ _ _ _ _ _ _ _ _ _ _ _ _ _ _ _ y)]
  unfold kernelRun0_A
  dsimp only
  sl_unfold_words
  refine (View.canon_unit_zero origin3 _ _).trans ?_
  have e1 : ∀ (X : Vec Ideal S1x128x512 .f32), View.ld X (Rect.unit ![0, 0, 0] S1x128x512.size inb_S1x128x512_S1x128x512_0_0_0) = X :=
    View.ld_unit_zero origin3 _
  have e2 : ∀ (X : Vec Ideal S1x128x128 .f32), View.ld X (Rect.unit ![0, 0, 0] S1x128x128.size inb_S1x128x128_S1x128x128_0_0_0) = X :=
    View.ld_unit_zero origin3 _
  have e8 : ∀ (X : Vec Ideal S1x256x128 .f32), View.ld X (Rect.unit ![0, 0, 0] S1x256x128.size inb_S1x256x128_S1x256x128_0_0_0) = X :=
    View.ld_unit_zero origin3 _
  have ez : ∀ (k : ℕ) (hk : k < 8) (inb) (h), View.ld x0 (Rect.unit (s := S8) ![k] S1.size inb) (Shape.Idx.first h)
      = x0 (ix1 (⟨k, hk⟩ : Fin 8)) := fun k hk inb h => sink_load x0 k hk inb h
  simp only [View.readAt_eq_ld, Memref.IsWhole.read_unread, e1, e2, e8, ez _ (by decide : 0 < 8), ez _ (by decide : 1 < 8),
    ez _ (by decide : 2 < 8), ez _ (by decide : 3 < 8), ez _ (by decide : 4 < 8), ez _ (by decide : 5 < 8),
    ez _ (by decide : 6 < 8), ez _ (by decide : 7 < 8)]
  rfl

/-- The result's buffer at a point, from the point's blocks. -/
theorem out_eq (c : Dev nD) (t : Fin cfg0.N) : outsAt0 m c t
    = leaves (iota .tc S128x640 32 [1] iota_S128x640_d1_w32) k0_pay4 (k0_pay5 (grid0.coords t))
        (k0_pay2 (iblk m c 8 t) (iblk m c 2 t) (iblk m c 3 t) (iblk m c 4 t))
        (k0_pay3 (iblk m c 9 t) (iblk m c 5 t) (iblk m c 6 t) (iblk m c 7 t)) (X0_1 m c t)
        (iblk m c 0 t (ix1 (0 : Fin 8))) (iblk m c 0 t (ix1 (1 : Fin 8))) (iblk m c 0 t (ix1 (2 : Fin 8)))
        (iblk m c 0 t (ix1 (3 : Fin 8))) (iblk m c 0 t (ix1 (4 : Fin 8))) (iblk m c 0 t (ix1 (5 : Fin 8)))
        (iblk m c 0 t (ix1 (6 : Fin 8))) (iblk m c 0 t (ix1 (7 : Fin 8))) := by
  unfold outsAt0
  exact out_at c t _ _ _ _ _ _ _ _ _ _

/-- Where each window's block lies: point `t` is batch `t / 16` and block `t % 16` of the sequence; the neighbouring
    blocks are held inside the sequence. -/
theorem block_at : ∀ t : Fin cfg0.N, win0_0.index t 0 = 0
    ∧ (win0_1.index t 0 = t.val / 16 ∧ win0_1.index t 1 = t.val % 16 ∧ win0_1.index t 2 = 0)
    ∧ (win0_2.index t 0 = t.val / 16 ∧ win0_2.index t 1 = t.val % 16 - 1 ∧ win0_2.index t 2 = 4)
    ∧ (win0_3.index t 0 = t.val / 16 ∧ win0_3.index t 1 = t.val % 16 ∧ win0_3.index t 2 = 4)
    ∧ (win0_4.index t 0 = t.val / 16 ∧ win0_4.index t 1 = min (t.val % 16 + 1) 15 ∧ win0_4.index t 2 = 4)
    ∧ (win0_5.index t 0 = t.val / 16 ∧ win0_5.index t 1 = t.val % 16 - 1 ∧ win0_5.index t 2 = 5)
    ∧ (win0_6.index t 0 = t.val / 16 ∧ win0_6.index t 1 = t.val % 16 ∧ win0_6.index t 2 = 5)
    ∧ (win0_7.index t 0 = t.val / 16 ∧ win0_7.index t 1 = min (t.val % 16 + 1) 15 ∧ win0_7.index t 2 = 5)
    ∧ (win0_8.index t 0 = t.val / 16 ∧ win0_8.index t 1 = 0 ∧ win0_8.index t 2 = 4)
    ∧ (win0_9.index t 0 = t.val / 16 ∧ win0_9.index t 1 = 0 ∧ win0_9.index t 2 = 5)
    ∧ (win0_10.index t 0 = t.val / 16 ∧ win0_10.index t 1 = t.val % 16 ∧ win0_10.index t 2 = 0)
    ∧ (cfg0.win 10).flush t = true
    ∧ (grid0.coords t 1).val = t.val % 16 :=
  (by decide +kernel : ∀ t : Fin grid0.N, win0_0.index t 0 = 0
    ∧ (win0_1.index t 0 = t.val / 16 ∧ win0_1.index t 1 = t.val % 16 ∧ win0_1.index t 2 = 0)
    ∧ (win0_2.index t 0 = t.val / 16 ∧ win0_2.index t 1 = t.val % 16 - 1 ∧ win0_2.index t 2 = 4)
    ∧ (win0_3.index t 0 = t.val / 16 ∧ win0_3.index t 1 = t.val % 16 ∧ win0_3.index t 2 = 4)
    ∧ (win0_4.index t 0 = t.val / 16 ∧ win0_4.index t 1 = min (t.val % 16 + 1) 15 ∧ win0_4.index t 2 = 4)
    ∧ (win0_5.index t 0 = t.val / 16 ∧ win0_5.index t 1 = t.val % 16 - 1 ∧ win0_5.index t 2 = 5)
    ∧ (win0_6.index t 0 = t.val / 16 ∧ win0_6.index t 1 = t.val % 16 ∧ win0_6.index t 2 = 5)
    ∧ (win0_7.index t 0 = t.val / 16 ∧ win0_7.index t 1 = min (t.val % 16 + 1) 15 ∧ win0_7.index t 2 = 5)
    ∧ (win0_8.index t 0 = t.val / 16 ∧ win0_8.index t 1 = 0 ∧ win0_8.index t 2 = 4)
    ∧ (win0_9.index t 0 = t.val / 16 ∧ win0_9.index t 1 = 0 ∧ win0_9.index t 2 = 5)
    ∧ (win0_10.index t 0 = t.val / 16 ∧ win0_10.index t 1 = t.val % 16 ∧ win0_10.index t 2 = 0)
    ∧ (cfg0.win 10).flush t = true
    ∧ (grid0.coords t 1).val = t.val % 16)

/-- A point's batch. -/
abbrev batchOf (t : Fin cfg0.N) : Fin 32 := ⟨t.val / 16, by have hN : cfg0.N = 512 := N_0; have := t.isLt; omega⟩

/-- The sequence position of a point's row. -/
abbrev positionOf (t : Fin cfg0.N) (r : Fin 128) : Fin 2048 := ⟨128 * (t.val % 16) + r.val, by omega⟩

/-- The sinks' block is the whole of them. -/
theorem sink_at (c : Dev nD) (t : Fin cfg0.N) (h : Fin 8) : (iblk m c 0 t (ix1 h) : EReal) = sinks m c (ix1 h) := by
  have e := (block_at t).1
  unfold iblk
  rw [View.read_apply, cast_eq]
  refine congrArg (V m c main_arg0) (funext fun a => Fin.ext ?_)
  match a with
  | ⟨0, _⟩ => show win0_0.index t 0 * 8 + 1 * h.val = h.val
              rw [e]; omega

/-- A point's block of queries. -/
theorem query_at (c : Dev nD) (t : Fin cfg0.N) (r : Fin 128) (j : Fin 512) :
    (X0_1 m c t (ix3 (0 : Fin 1) r j) : EReal)
      = queriesKeys m c (ix3 (batchOf t) (positionOf t r) (⟨j.val, by omega⟩ : Fin 640)) := by
  have e := (block_at t).2.1
  unfold X0_1 Pipeline.Window.fill
  rw [dif_pos (moved0_1 t _)]
  unfold iblk
  rw [View.read_apply, cast_eq]
  refine congrArg (V m c main_arg1) (funext fun a => Fin.ext ?_)
  match a with
  | ⟨0, _⟩ => show win0_1.index t 0 * 1 + 1 * 0 = t.val / 16
              rw [e.1]; omega
  | ⟨1, _⟩ => show win0_1.index t 1 * 128 + 1 * r.val = 128 * (t.val % 16) + r.val
              rw [e.2.1]; omega
  | ⟨2, _⟩ => show win0_1.index t 2 * 512 + 1 * j.val = j.val
              rw [e.2.2]; omega

/-- A point's block of keys of the sequence: the one before its queries. -/
theorem beforeKey (c : Dev nD) (t : Fin cfg0.N) (r : Fin 128) (e : Fin 128) (n : Fin 2048) (hn : n.val = (t.val % 16 - 1) * 128 + r.val) :
    (iblk m c 2 t (ix3 (0 : Fin 1) r e) : EReal) = queriesKeys m c (ix3 (batchOf t) n (⟨512 + e.val, by omega⟩ : Fin 640)) := by
  have h := (block_at t).2.2.1
  unfold iblk
  rw [View.read_apply, cast_eq]
  refine congrArg (V m c main_arg1) (funext fun a => Fin.ext ?_)
  match a with
  | ⟨0, _⟩ => show win0_2.index t 0 * 1 + 1 * 0 = t.val / 16
              rw [h.1]; omega
  | ⟨1, _⟩ => show win0_2.index t 1 * 128 + 1 * r.val = n.val
              rw [h.2.1, hn]; omega
  | ⟨2, _⟩ => show win0_2.index t 2 * 128 + 1 * e.val = 512 + e.val
              rw [h.2.2]; omega

/-- A point's block of keys of the sequence: the one of its queries. -/
theorem hereKey (c : Dev nD) (t : Fin cfg0.N) (r : Fin 128) (e : Fin 128) (n : Fin 2048) (hn : n.val = t.val % 16 * 128 + r.val) :
    (iblk m c 3 t (ix3 (0 : Fin 1) r e) : EReal) = queriesKeys m c (ix3 (batchOf t) n (⟨512 + e.val, by omega⟩ : Fin 640)) := by
  have h := (block_at t).2.2.2.1
  unfold iblk
  rw [View.read_apply, cast_eq]
  refine congrArg (V m c main_arg1) (funext fun a => Fin.ext ?_)
  match a with
  | ⟨0, _⟩ => show win0_3.index t 0 * 1 + 1 * 0 = t.val / 16
              rw [h.1]; omega
  | ⟨1, _⟩ => show win0_3.index t 1 * 128 + 1 * r.val = n.val
              rw [h.2.1, hn]; omega
  | ⟨2, _⟩ => show win0_3.index t 2 * 128 + 1 * e.val = 512 + e.val
              rw [h.2.2]; omega

/-- A point's block of keys of the sequence: the one after its queries. -/
theorem afterKey (c : Dev nD) (t : Fin cfg0.N) (r : Fin 128) (e : Fin 128) (n : Fin 2048) (hn : n.val = min (t.val % 16 + 1) 15 * 128 + r.val) :
    (iblk m c 4 t (ix3 (0 : Fin 1) r e) : EReal) = queriesKeys m c (ix3 (batchOf t) n (⟨512 + e.val, by omega⟩ : Fin 640)) := by
  have h := (block_at t).2.2.2.2.1
  unfold iblk
  rw [View.read_apply, cast_eq]
  refine congrArg (V m c main_arg1) (funext fun a => Fin.ext ?_)
  match a with
  | ⟨0, _⟩ => show win0_4.index t 0 * 1 + 1 * 0 = t.val / 16
              rw [h.1]; omega
  | ⟨1, _⟩ => show win0_4.index t 1 * 128 + 1 * r.val = n.val
              rw [h.2.1, hn]; omega
  | ⟨2, _⟩ => show win0_4.index t 2 * 128 + 1 * e.val = 512 + e.val
              rw [h.2.2]; omega

/-- A point's block of values of the sequence: the one before its queries. -/
theorem beforeValue (c : Dev nD) (t : Fin cfg0.N) (r : Fin 128) (e : Fin 128) (n : Fin 2048) (hn : n.val = (t.val % 16 - 1) * 128 + r.val) :
    (iblk m c 5 t (ix3 (0 : Fin 1) r e) : EReal) = sequence m c (ix3 (batchOf t) n (⟨640 + e.val, by omega⟩ : Fin 1792)) := by
  have h := (block_at t).2.2.2.2.2.1
  unfold iblk
  rw [View.read_apply, cast_eq]
  refine congrArg (V m c main_arg2) (funext fun a => Fin.ext ?_)
  match a with
  | ⟨0, _⟩ => show win0_5.index t 0 * 1 + 1 * 0 = t.val / 16
              rw [h.1]; omega
  | ⟨1, _⟩ => show win0_5.index t 1 * 128 + 1 * r.val = n.val
              rw [h.2.1, hn]; omega
  | ⟨2, _⟩ => show win0_5.index t 2 * 128 + 1 * e.val = 640 + e.val
              rw [h.2.2]; omega

/-- A point's block of values of the sequence: the one of its queries. -/
theorem hereValue (c : Dev nD) (t : Fin cfg0.N) (r : Fin 128) (e : Fin 128) (n : Fin 2048) (hn : n.val = t.val % 16 * 128 + r.val) :
    (iblk m c 6 t (ix3 (0 : Fin 1) r e) : EReal) = sequence m c (ix3 (batchOf t) n (⟨640 + e.val, by omega⟩ : Fin 1792)) := by
  have h := (block_at t).2.2.2.2.2.2.1
  unfold iblk
  rw [View.read_apply, cast_eq]
  refine congrArg (V m c main_arg2) (funext fun a => Fin.ext ?_)
  match a with
  | ⟨0, _⟩ => show win0_6.index t 0 * 1 + 1 * 0 = t.val / 16
              rw [h.1]; omega
  | ⟨1, _⟩ => show win0_6.index t 1 * 128 + 1 * r.val = n.val
              rw [h.2.1, hn]; omega
  | ⟨2, _⟩ => show win0_6.index t 2 * 128 + 1 * e.val = 640 + e.val
              rw [h.2.2]; omega

/-- A point's block of values of the sequence: the one after its queries. -/
theorem afterValue (c : Dev nD) (t : Fin cfg0.N) (r : Fin 128) (e : Fin 128) (n : Fin 2048) (hn : n.val = min (t.val % 16 + 1) 15 * 128 + r.val) :
    (iblk m c 7 t (ix3 (0 : Fin 1) r e) : EReal) = sequence m c (ix3 (batchOf t) n (⟨640 + e.val, by omega⟩ : Fin 1792)) := by
  have h := (block_at t).2.2.2.2.2.2.2.1
  unfold iblk
  rw [View.read_apply, cast_eq]
  refine congrArg (V m c main_arg2) (funext fun a => Fin.ext ?_)
  match a with
  | ⟨0, _⟩ => show win0_7.index t 0 * 1 + 1 * 0 = t.val / 16
              rw [h.1]; omega
  | ⟨1, _⟩ => show win0_7.index t 1 * 128 + 1 * r.val = n.val
              rw [h.2.1, hn]; omega
  | ⟨2, _⟩ => show win0_7.index t 2 * 128 + 1 * e.val = 640 + e.val
              rw [h.2.2]; omega

/-- A point's keys of the context. -/
theorem contextKey (c : Dev nD) (t : Fin cfg0.N) (r : Fin 256) (e : Fin 128) (n : Fin 256) (hn : n.val = r.val) :
    (iblk m c 8 t (ix3 (0 : Fin 1) r e) : EReal) = context m c (ix3 (batchOf t) n (⟨512 + e.val, by omega⟩ : Fin 1792)) := by
  have h := (block_at t).2.2.2.2.2.2.2.2.1
  unfold iblk
  rw [View.read_apply, cast_eq]
  refine congrArg (V m c main_arg3) (funext fun a => Fin.ext ?_)
  match a with
  | ⟨0, _⟩ => show win0_8.index t 0 * 1 + 1 * 0 = t.val / 16
              rw [h.1]; omega
  | ⟨1, _⟩ => show win0_8.index t 1 * 256 + 1 * r.val = n.val
              rw [h.2.1, hn]; omega
  | ⟨2, _⟩ => show win0_8.index t 2 * 128 + 1 * e.val = 512 + e.val
              rw [h.2.2]; omega

/-- A point's values of the context. -/
theorem contextValue (c : Dev nD) (t : Fin cfg0.N) (r : Fin 256) (e : Fin 128) (n : Fin 256) (hn : n.val = r.val) :
    (iblk m c 9 t (ix3 (0 : Fin 1) r e) : EReal) = context m c (ix3 (batchOf t) n (⟨640 + e.val, by omega⟩ : Fin 1792)) := by
  have h := (block_at t).2.2.2.2.2.2.2.2.2.1
  unfold iblk
  rw [View.read_apply, cast_eq]
  refine congrArg (V m c main_arg3) (funext fun a => Fin.ext ?_)
  match a with
  | ⟨0, _⟩ => show win0_9.index t 0 * 1 + 1 * 0 = t.val / 16
              rw [h.1]; omega
  | ⟨1, _⟩ => show win0_9.index t 1 * 256 + 1 * r.val = n.val
              rw [h.2.1, hn]; omega
  | ⟨2, _⟩ => show win0_9.index t 2 * 128 + 1 * e.val = 640 + e.val
              rw [h.2.2]; omega

/-- The joined blocks at a column of the context. -/
theorem joinedKey_context (c : Dev nD) (t : Fin cfg0.N) (l : Fin 640) (e : Fin 128) (k : Fin 256) (hk : l.val = k.val) :
    joined (iblk m c 8 t) (iblk m c 2 t) (iblk m c 3 t) (iblk m c 4 t) l e = context m c (ix3 (batchOf t) k (⟨512 + e.val, by omega⟩ : Fin 1792)) := by
  unfold joined
  rw [dif_pos (by omega)]
  exact contextKey m c t _ e k hk.symm

/-- The joined blocks at a column of the sequence: the position the column stands for. -/
theorem joinedKey_window (c : Dev nD) (t : Fin cfg0.N) (l : Fin 640) (e : Fin 128) (j : Fin 2048)
    (hl : 256 ≤ l.val) (hj : j.val + 384 = 128 * (t.val % 16) + l.val) :
    joined (iblk m c 8 t) (iblk m c 2 t) (iblk m c 3 t) (iblk m c 4 t) l e = queriesKeys m c (ix3 (batchOf t) j (⟨512 + e.val, by omega⟩ : Fin 640)) := by
  have h1 := l.isLt
  have h2 := j.isLt
  unfold joined
  rw [dif_neg (by omega)]
  by_cases ha : l.val < 384
  · rw [dif_pos ha]
    exact beforeKey m c t _ e j (by dsimp only; omega)
  rw [dif_neg ha]
  by_cases hb : l.val < 512
  · rw [dif_pos hb]
    exact hereKey m c t _ e j (by dsimp only; omega)
  rw [dif_neg hb]
  exact afterKey m c t _ e j (by dsimp only; omega)

/-- The joined blocks at a column of the context. -/
theorem joinedValue_context (c : Dev nD) (t : Fin cfg0.N) (l : Fin 640) (e : Fin 128) (k : Fin 256) (hk : l.val = k.val) :
    joined (iblk m c 9 t) (iblk m c 5 t) (iblk m c 6 t) (iblk m c 7 t) l e = context m c (ix3 (batchOf t) k (⟨640 + e.val, by omega⟩ : Fin 1792)) := by
  unfold joined
  rw [dif_pos (by omega)]
  exact contextValue m c t _ e k hk.symm

/-- The joined blocks at a column of the sequence: the position the column stands for. -/
theorem joinedValue_window (c : Dev nD) (t : Fin cfg0.N) (l : Fin 640) (e : Fin 128) (j : Fin 2048)
    (hl : 256 ≤ l.val) (hj : j.val + 384 = 128 * (t.val % 16) + l.val) :
    joined (iblk m c 9 t) (iblk m c 5 t) (iblk m c 6 t) (iblk m c 7 t) l e = sequence m c (ix3 (batchOf t) j (⟨640 + e.val, by omega⟩ : Fin 1792)) := by
  have h1 := l.isLt
  have h2 := j.isLt
  unfold joined
  rw [dif_neg (by omega)]
  by_cases ha : l.val < 384
  · rw [dif_pos ha]
    exact beforeValue m c t _ e j (by dsimp only; omega)
  rw [dif_neg ha]
  by_cases hb : l.val < 512
  · rw [dif_pos hb]
    exact hereValue m c t _ e j (by dsimp only; omega)
  rw [dif_neg hb]
  exact afterValue m c t _ e j (by dsimp only; omega)

open Cert.AttnRefIdeal.Entry (near scoreOf valueOf contextScore windowScore)

/-- The keys a query may see: the context's and those of the sequence at most 128 away. -/
abbrev Seen (n : Fin 2048) : Type := Fin 256 ⊕ {j : Fin 2048 // near n j}

/-- The column of a grid point in which a key stands. -/
def column (t : Fin cfg0.N) (r : Fin 128) : Seen (positionOf t r) → Fin 640
  | .inl k => ⟨k.val, by omega⟩
  | .inr j => ⟨j.1.val + 384 - 128 * (t.val % 16), by
      have h : 128 * (t.val % 16) + r.val ≤ j.1.val + 128 ∧ j.1.val ≤ 128 * (t.val % 16) + r.val + 128 := j.2
      omega⟩

theorem column_inl (t : Fin cfg0.N) (r : Fin 128) (k : Fin 256) : (column t r (.inl k)).val = k.val := rfl

theorem column_inr (t : Fin cfg0.N) (r : Fin 128) (j : {j : Fin 2048 // near (positionOf t r) j}) :
    j.1.val + 384 = 128 * (t.val % 16) + (column t r (.inr j)).val ∧ r.val + 256 ≤ (column t r (.inr j)).val
      ∧ (column t r (.inr j)).val ≤ r.val + 512 := by
  have h : 128 * (t.val % 16) + r.val ≤ j.1.val + 128 ∧ j.1.val ≤ 128 * (t.val % 16) + r.val + 128 := j.2
  have e : (column t r (.inr j)).val = j.1.val + 384 - 128 * (t.val % 16) := rfl
  rw [e]
  omega

theorem column_injective (t : Fin cfg0.N) (r : Fin 128) : Function.Injective (column t r) := by
  intro x y h
  have hv := congrArg Fin.val h
  match x, y with
  | .inl k, .inl k' =>
    rw [column_inl, column_inl] at hv
    exact congrArg Sum.inl (Fin.ext hv)
  | .inl k, .inr j' =>
    have := column_inr t r j'
    rw [column_inl] at hv
    have := k.isLt
    omega
  | .inr j, .inl k' =>
    have := column_inr t r j
    rw [column_inl] at hv
    have := k'.isLt
    omega
  | .inr j, .inr j' =>
    have h1 := column_inr t r j
    have h2 := column_inr t r j'
    exact congrArg Sum.inr (Subtype.ext (Fin.ext (by omega)))

/-- A column the mask lets through holds a key the query may see. -/
theorem column_surjective (t : Fin cfg0.N) (r : Fin 128) (l : Fin 640) (h : mask (grid0.coords t) (ix2 r l) = 1#1) :
    l ∈ Set.range (column t r) := by
  have hc : (grid0.coords t 1).val = t.val % 16 := (block_at t).2.2.2.2.2.2.2.2.2.2.2.2
  rw [mask_at, hc] at h
  have hl := l.isLt
  rcases h with h | h
  · exact ⟨.inl ⟨l.val, h⟩, Fin.ext rfl⟩
  · have hj : 128 * (t.val % 16) + l.val - 384 < 2048 := by omega
    have hn : near (positionOf t r) ⟨128 * (t.val % 16) + l.val - 384, hj⟩ := by
      show 128 * (t.val % 16) + r.val ≤ 128 * (t.val % 16) + l.val - 384 + 128
        ∧ 128 * (t.val % 16) + l.val - 384 ≤ 128 * (t.val % 16) + r.val + 128
      omega
    refine ⟨.inr ⟨_, hn⟩, Fin.ext ?_⟩
    show 128 * (t.val % 16) + l.val - 384 + 384 - 128 * (t.val % 16) = l.val
    omega

/-- The mask lets through every key the query may see. -/
theorem column_unmasked (t : Fin cfg0.N) (r : Fin 128) (x : Seen (positionOf t r)) :
    mask (grid0.coords t) (ix2 r (column t r x)) = 1#1 := by
  have hc : (grid0.coords t 1).val = t.val % 16 := (block_at t).2.2.2.2.2.2.2.2.2.2.2.2
  rw [mask_at, hc]
  match x with
  | .inl k => exact Or.inl k.isLt
  | .inr j =>
    have := column_inr t r j
    have := j.1.isLt
    omega

/-- What a grid point computes for a head, a row and a column is attention with a sink over the keys of the context and of
    the sequence, those more than 128 away masked. -/
theorem entry_at (c : Dev nD) (t : Fin cfg0.N) (h : Fin 8) (r : Fin 128) (d : Fin 64) :
    entry (grid0.coords t) (iblk m c 8 t) (iblk m c 9 t) (iblk m c 2 t) (iblk m c 3 t) (iblk m c 4 t) (iblk m c 5 t)
        (iblk m c 6 t) (iblk m c 7 t) (X0_1 m c t) (fun h => iblk m c 0 t (ix1 h)) h r d
      = attend (scoreOf (queriesKeys m c) (context m c) (batchOf t) (positionOf t r) h)
          (valueOf (sequence m c) (context m c) (batchOf t) h d) (sinks m c (ix1 h)) := by
  unfold entry
  rw [attend_unmasked (column t r) (column_injective t r) _ _ _ (fun l hl => if_neg fun hm => hl (column_surjective t r l hm)),
    attend_unmasked (Sum.map id Subtype.val : Seen (positionOf t r) → Fin 256 ⊕ Fin 2048)
      (Sum.map_injective.2 ⟨Function.injective_id, Subtype.val_injective⟩) (scoreOf _ _ _ _ _) _ _ (fun i hi => ?_)]
  · congr 1
    · funext x
      rw [if_pos (column_unmasked t r x)]
      match x with
      | .inl k =>
        show _ = contextScore (queriesKeys m c) (context m c) (batchOf t) (positionOf t r) h k
        unfold contextScore
        refine Finset.sum_congr rfl fun e _ => ?_
        rw [query_at, joinedKey_context m c t _ _ k rfl]
      | .inr j =>
        refine Eq.trans (b := windowScore (queriesKeys m c) (batchOf t) (positionOf t r) h j.1) ?_ (if_pos j.2).symm
        unfold windowScore
        refine Finset.sum_congr rfl fun e _ => ?_
        rw [query_at, joinedKey_window m c t _ _ j.1 (by have := column_inr t r j; omega) (column_inr t r j).1]
    · funext x
      match x with
      | .inl k => exact joinedValue_context m c t _ _ k rfl
      | .inr j => exact joinedValue_window m c t _ _ j.1 (by have := column_inr t r j; omega) (column_inr t r j).1
    · exact sink_at m c t h
  · match i with
    | .inl k => exact absurd ⟨.inl k, rfl⟩ hi
    | .inr j => exact if_neg fun hn => hi ⟨.inr ⟨j, hn⟩, rfl⟩

/-- The reference's result for the kernel's arguments. -/
abbrev result (c : Dev nD) : S32x2048x512.Idx → EReal :=
  Cert.AttnRefIdeal.Read.val_main_v46 (F := Ideal) (sinks m c) (queriesKeys m c) (sequence m c) (context m c)

/-- No score is infinite and every sink is a real number. -/
structure Bounded (c : Dev nD) : Prop where
  score : ∀ b n h i, scoreOf (queriesKeys m c) (context m c) b n h i ≠ ⊤
  sink : ∀ h : Fin 8, ∃ x : ℝ, sinks m c (ix1 h) = x

/-- Where entry `(a, r, j)` of point `t`'s block lies in the result. -/
theorem place_at (t : Fin cfg0.N) (a : Fin 1) (r : Fin 128) (j : Fin 512) :
    (win0_10.blk t).view.emb (ix3 a r j) = ix3 (batchOf t) (positionOf t r) j := by
  have e := (block_at t).2.2.2.2.2.2.2.2.2.2.1
  refine funext fun x => Fin.ext ?_
  match x with
  | ⟨0, _⟩ => show win0_10.index t 0 * 1 + 1 * a.val = t.val / 16
              rw [e.1]; omega
  | ⟨1, _⟩ => show win0_10.index t 1 * 128 + 1 * r.val = 128 * (t.val % 16) + r.val
              rw [e.2.1]; omega
  | ⟨2, _⟩ => show win0_10.index t 2 * 512 + 1 * j.val = j.val
              rw [e.2.2]; omega

/-- What point `t` writes back is its block of the reference's result. -/
theorem flushed_eq (c : Dev nD) (hb : Bounded m c) (t : Fin cfg0.N) :
    (dats m 0 c).flushed 10 t = (win0_10.blk t).view.read (Elt Ideal) (result m c) := by
  rw [Value.flushed10, out_eq]
  funext x
  rw [View.read_apply, cast_eq]
  obtain ⟨a, r, j, rfl⟩ : ∃ (a : Fin 1) (r : Fin 128) (j : Fin 512), x = ix3 a r j := ⟨x 0, x 1, x 2, eq_ix3 x⟩
  rw [place_at t a r j]
  have hj := j.isLt
  obtain ⟨h, d, hd⟩ : ∃ (h : Fin 8) (d : Fin 64), j.val = 64 * h.val + d.val :=
    ⟨⟨j.val / 64, by omega⟩, ⟨j.val % 64, by omega⟩, by show j.val = 64 * (j.val / 64) + j.val % 64; omega⟩
  obtain ⟨s, hs⟩ := hb.sink h
  exact ((leaves_at (grid0.coords t) _ _ _ _ _ _ _ _ _ (fun h => iblk m c 0 t (ix1 h)) a r h d j hd).trans (entry_at m c t h r d)).trans
    (Cert.AttnRefIdeal.Entry.result_at _ _ _ _ _ _ h d j hd (hb.score _ _ _) s hs).symm

/-- Every entry of the result lies in the block of the point its first two coordinates name. -/
theorem cover (i : S32x2048x512.Idx) :
    ∃ t : Fin cfg0.N, (cfg0.win 10).flush t = true ∧ i ∈ ((cfg0.win 10).blk t).view.set := by
  have h0 : (i 0).val < 32 := (i 0).isLt
  have h1 : (i 1).val < 2048 := (i 1).isLt
  have h2 : (i 2).val < 512 := (i 2).isLt
  have hN : cfg0.N = 512 := N_0
  obtain ⟨t, ht⟩ : ∃ t : Fin cfg0.N, t.val = (i 0).val * 16 + (i 1).val / 128 := ⟨⟨(i 0).val * 16 + (i 1).val / 128, by omega⟩, rfl⟩
  have e := (block_at t).2.2.2.2.2.2.2.2.2.2
  refine ⟨t, e.2.1, ?_⟩
  show i ∈ ((View.whole main_v0).slice (win0_10.rect t)).set
  rw [View.set_slice_whole, Rect.mem_set_unit]
  intro a
  match a with
  | ⟨0, _⟩ => show win0_10.index t 0 * 1 ≤ (i 0).val ∧ (i 0).val < win0_10.index t 0 * 1 + 1
              rw [e.1.1]; omega
  | ⟨1, _⟩ => show win0_10.index t 1 * 128 ≤ (i 1).val ∧ (i 1).val < win0_10.index t 1 * 128 + 128
              rw [e.1.2.1]; omega
  | ⟨2, _⟩ => show win0_10.index t 2 * 512 ≤ (i 2).val ∧ (i 2).val < win0_10.index t 2 * 512 + 512
              rw [e.1.2.2]; omega

/-- The result array after the run is the reference's result. -/
theorem final (c : Dev nD) (hb : Bounded m c) : (dats m 0 c).arrAt 10 cfg0.N = result m c :=
  (dats m 0 c).arrAt_eq_of_cover 10 (result m c) (fun t _ => flushed_eq m c hb t) cover

/-- The run: the result array at the reference's result, the arguments unchanged. -/
theorem run (hb : ∀ c, Bounded m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c (hb c)), (h c).2⟩) (Value.run_blocks m ρ)

end Cert.AttnIdeal.Window

end
-- ==== Proof.AttnClaims.lean ====
/- The claims about the windowed attention. -/
module

public import proofs.«01_k».proof.Defs
public import proofs.«01_k».proof.Proof.Finite
public import proofs.«01_k».proof.Proof.Gen.Pre_finite
public import proofs.«01_k».proof.Proof.Gen.Attn.Frame
public import proofs.«01_k».proof.Proof.Gen.AttnIdeal.Frame
public import proofs.«01_k».proof.Proof.AttnValue

@[expose] public section

set_option maxRecDepth 16384

noncomputable section

namespace Cert.Proof.Attn

open Idealize.ShloMosaic Idealize.ShloMosaic.TcCoe Idealize.SL.Sem Cert.AttnIdeal.Window Cert.AttnRefIdeal.Entry

/-- The call runs to its end from any state, in machine words, and leaves its arguments as they were. -/
theorem frame : Cert.quiescent_Attn := fun m ρ _ => Cert.Attn.Gen.frame m ρ

/-- The same over the extended reals. -/
theorem frame_ideal : Cert.quiescent_AttnIdeal := fun m ρ _ => Cert.AttnIdeal.Gen.frame m ρ

/-- The same where the arguments are real numbers. -/
theorem frame_ideal_finite : Cert.quiescent_AttnIdeal_pre_finite (hPre_finite := Cert.Pre_finite.Gen.facts) :=
  fun m ρ _ => Cert.AttnIdeal.Gen.frame m ρ

/-- The reference runs to its end from any state and leaves its arguments as they were. -/
theorem frame_reference : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The same where the arguments are real numbers. -/
theorem frame_reference_finite : Cert.quiescent_AttnRefIdeal_pre_finite (hPre_finite := Cert.Pre_finite.Gen.facts) :=
  fun m ρ _ => frame_reference m ρ trivial

/-- The mask's constant stands for minus infinity. -/
theorem preserves : Cert.preserves_Attn_AttnIdeal :=
  IdealRules.named_const.statement Cert.AttnIdeal.κ "mask" .f32 0xF149F2CA#32 ⊥ rfl

/-- What the precondition says of the sinks, of the queries and keys and of the context: their entries are real numbers. -/
theorem reals (x0 : Cert.Pre_finite.S8.Idx → EReal) (x1 : Cert.Pre_finite.S32x2048x640.Idx → EReal)
    (x2 : Cert.Pre_finite.S32x2048x1792.Idx → EReal) (x3 : Cert.Pre_finite.S32x256x1792.Idx → EReal)
    (h0 : (letI := Cert.Pre_finite.Gen.facts; Cert.Pre_finite.fn (F := Ideal) x0 x1 x2 x3).1 = fun _ => 1#1)
    (h1 : (letI := Cert.Pre_finite.Gen.facts; Cert.Pre_finite.fn (F := Ideal) x0 x1 x2 x3).2.1 = fun _ => 1#1)
    (h3 : (letI := Cert.Pre_finite.Gen.facts; Cert.Pre_finite.fn (F := Ideal) x0 x1 x2 x3).2.2 = fun _ => 1#1) :
    (∀ i, ∃ r : ℝ, x0 i = r) ∧ (∀ i, ∃ r : ℝ, x1 i = r) ∧ ∀ i, ∃ r : ℝ, x3 i = r := by
  dsimp only [Cert.Pre_finite.fn] at h0 h1 h3
  exact ⟨Cert.Finite.real_of_all _ _ _ _ _ _ (congrFun h0 (fun a => a.elim0)),
    Cert.Finite.real_of_all _ _ _ _ _ _ (congrFun h1 (fun a => a.elim0)),
    Cert.Finite.real_of_all _ _ _ _ _ _ (congrFun h3 (fun a => a.elim0))⟩

/-- Real arguments have scores below infinity, and real sinks. -/
theorem bounded (m : (ℓ : Loc Cert.AttnIdeal.nD Cert.AttnIdeal.τ Cert.AttnIdeal.sig) → Buf (Elt Ideal) ℓ)
    (h : Cert.Pre_AttnIdeal_finite (hPre_finite := Cert.Pre_finite.Gen.facts) m) (c : Dev Cert.AttnIdeal.nD) :
    Bounded m c := by
  obtain ⟨h0, h1, h3⟩ := h c
  obtain ⟨r0, r1, r3⟩ := reals (sinks m c) (queriesKeys m c) (sequence m c) (context m c) h0 h1 h3
  refine ⟨fun b n h i => ?_, fun h => r0 _⟩
  match i with
  | .inl j =>
    obtain ⟨r, hr⟩ := Cert.Finite.real_sum (fun e => queriesKeys m c (ix3 b n (queryCol h e)))
      (fun e => context m c (ix3 b j (wideKeyCol h e))) (fun _ => r1 _) (fun _ => r3 _)
    show contextScore (queriesKeys m c) (context m c) b n h j ≠ ⊤
    unfold contextScore
    exact hr ▸ EReal.coe_ne_top r
  | .inr j =>
    obtain ⟨r, hr⟩ := Cert.Finite.real_sum (fun e => queriesKeys m c (ix3 b n (queryCol h e)))
      (fun e => queriesKeys m c (ix3 b j (keyCol h e))) (fun _ => r1 _) (fun _ => r1 _)
    show (if near n j then windowScore (queriesKeys m c) b n h j else ⊥) ≠ ⊤
    split
    · unfold windowScore
      exact hr ▸ EReal.coe_ne_top r
    · exact bot_ne_top

/-- Over the extended reals the call and the reference leave the same result for the same real arguments. -/
theorem algebraic : Cert.algebraic_AttnIdeal_AttnRefIdeal_pre_finite (hPre_finite := Cert.Pre_finite.Gen.facts) :=
  fun m ρ m' ρ' hpre hag =>
  ⟨fun c => result m c, run m ρ (bounded m hpre),
    (θ_run Cert.AttnRefIdeal.defs _ _).mono
      (fun _ h c => ⟨(h c).1.trans (by
        unfold Cert.AttnRefIdeal.Value.res_main_v46
        rw [(hag c).1, (hag c).2.1, (hag c).2.2.1, (hag c).2.2.2]
        rfl), (h c).2⟩)
      (Cert.AttnRefIdeal.Value.run (F := Ideal) m' ρ')⟩

end Cert.Proof.Attn

end
-- ==== Proof.CattnHeads.lean ====
/- What one grid point of the context attention computes: for each of its 256 queries and 8 heads, attention with a sink
   over the 256 keys of its batch row. -/
module

public import proofs.«01_k».proof.Proof.Gen.CattnIdeal.Skeleton
public import proofs.«01_k».proof.Proof.SinkSoftmax
public import Idealize.ShloMosaic.Lib.Pointwise

@[expose] public section

set_option maxRecDepth 16384

noncomputable section

namespace Cert.CattnIdeal.Heads

open Cert.CattnIdeal Cert.CattnIdeal.Gen Cert.SinkSoftmax Idealize.ShloMosaic

/-- The word of negative infinity, over the extended reals. -/
theorem bottom : Ideal.ofBits .f32 0xFF800000#32 = (⊥ : EReal) := by simp [Ideal.ofBits, Ideal.ieee]

/-- The scale of the queries, an eighth. -/
abbrev eighth : EReal := Ideal.ofBits .f32 0x3E000000#32

/-- The scores of one head: its queries against its keys. -/
def scored (q : FVec Ideal S256x64 .f32) (k : FVec Ideal S256x64 .bf16) : FVec Ideal S256x256 .f32 :=
  matmul (F := Ideal) dot_S256x64_S256x64_S256x256_1_1_0_0_n_n none (truncf .bf16 q bitsLt_bf16_f32) k
    (constant S256x256 .f32 0x00000000#32)

theorem scored_at (q : FVec Ideal S256x64 .f32) (k : FVec Ideal S256x64 .bf16) (r : Fin 256) (l : Fin 256) :
    scored q k (ix2 r l) = (∑ e : Fin 64, q (ix2 r e) * k (ix2 l e) : EReal) := by
  pointwise [scored]

/-- The largest score of each row, the sink among them. -/
def largest (s : FVec Ideal S256x256 .f32) (z : EReal) : FVec Ideal S256x1 .f32 :=
  maximumf (F := Ideal) (shapeCast S256x1 (multiReduction .maximumf [1] S256 s 0xFF800000#32 reduces_S256x256_S256 (.inl rfl) rfl)
    shapeCasts_S256_S256x1) (broadcast S256x1 z)

/-- One head, from its scores, its values and its sink. -/
def head (s : FVec Ideal S256x256 .f32) (v : FVec Ideal S256x64 .bf16) (z : EReal) : FVec Ideal S256x64 .f32 :=
  k0_pay9 (F := Ideal) v s z (largest s z)

/-- One head of the kernel is attention with a sink. -/
theorem head_at (v : FVec Ideal S256x64 .bf16) (s : FVec Ideal S256x256 .f32) (z : EReal) (r : Fin 256) (d : Fin 64) :
    head s v z (ix2 r d) = attend (fun l : Fin 256 => s (ix2 r l)) (fun l => v (ix2 l d)) z := by
  unfold attend peak
  rw [← bottom]
  pointwise [head, largest, k0_pay9]

section

variable (q : FVec Ideal S1x256x512 .f32) (k v : FVec Ideal S1x256x128 .f32) (s0 s1 s2 s3 s4 s5 s6 s7 : EReal)

/-- What a grid point leaves. -/
def leaves : FVec Ideal S1x256x512 .f32 :=
  k0_pay25 (F := Ideal) (k0_pay1 q) (k0_pay6 q k v s0) (k0_pay9 (k0_pay5 v) (k0_pay7 q k) s1 (k0_pay8 q k s1))
    (k0_pay10 (k0_pay1 q) (k0_pay4 k) (k0_pay5 v) s2)
    (k0_pay16 (k0_pay5 v) (k0_pay13 (k0_pay1 q) (k0_pay4 k) s3) (k0_pay14 (k0_pay1 q) (k0_pay4 k) s3)
      (k0_pay15 (k0_pay1 q) (k0_pay4 k) s3))
    (k0_pay17 (k0_pay2 k)) (k0_pay18 (k0_pay3 v)) (k0_pay19 (k0_pay1 q) (k0_pay2 k) (k0_pay3 v) s4)
    (k0_pay23 (k0_pay1 q) (k0_pay2 k) (k0_pay3 v) s5) (k0_pay24 (k0_pay1 q) (k0_pay2 k) s5) s6 s7

/-- One head's queries. -/
def queries (o : Fin 2 → ℕ) (h : Shape.Slices S256x512 o S256x64) : FVec Ideal S256x64 .f32 :=
  extractStridedSlice S256x64 o (k0_pay1 q) h

theorem leaves_eq : leaves q k v s0 s1 s2 s3 s4 s5 s6 s7
  = shapeCast S1x256x512 (concatenate S256x512 1 [
      ⟨S256x64, head (scored (queries q _ slices_S256x512_o0_0_S256x64) (k0_pay4 k)) (k0_pay5 v) s0⟩,
      ⟨S256x64, head (scored (queries q _ slices_S256x512_o0_64_S256x64) (k0_pay4 k)) (k0_pay5 v) s1⟩,
      ⟨S256x64, head (scored (queries q _ slices_S256x512_o0_128_S256x64) (k0_pay4 k)) (k0_pay5 v) s2⟩,
      ⟨S256x64, head (scored (queries q _ slices_S256x512_o0_192_S256x64) (k0_pay4 k)) (k0_pay5 v) s3⟩,
      ⟨S256x64, head (scored (queries q _ slices_S256x512_o0_256_S256x64) (k0_pay17 (k0_pay2 k))) (k0_pay18 (k0_pay3 v)) s4⟩,
      ⟨S256x64, head (scored (queries q _ slices_S256x512_o0_320_S256x64) (k0_pay17 (k0_pay2 k))) (k0_pay18 (k0_pay3 v)) s5⟩,
      ⟨S256x64, head (scored (queries q _ slices_S256x512_o0_384_S256x64) (k0_pay17 (k0_pay2 k))) (k0_pay18 (k0_pay3 v)) s6⟩,
      ⟨S256x64, head (scored (queries q _ slices_S256x512_o0_448_S256x64) (k0_pay17 (k0_pay2 k))) (k0_pay18 (k0_pay3 v)) s7⟩]
      concatenates_S256x64_S256x64_S256x64_S256x64_S256x64_S256x64_S256x64_S256x64_S256x512_d1) shapeCasts_S256x512_S1x256x512 := rfl

theorem queries_at (h : Fin 8) (o : Fin 2 → ℕ) (ho : Shape.Slices S256x512 o S256x64) (h0 : o 0 = 0) (h1 : o 1 = 64 * h.val)
    (r : Fin 256) (e : Fin 64) :
    queries q o ho (ix2 r e) = (q (ix3 0 r ⟨64 * h.val + e.val, by have := h.isLt; have := e.isLt; omega⟩) * eighth : EReal) := by
  obtain rfl : o = ![0, 64 * h.val] := funext fun a => match a with | ⟨0, _⟩ => h0 | ⟨1, _⟩ => h1
  pointwise [queries, k0_pay1]

/-- The two halves of the keys and of the values. -/
theorem half_at (l : Fin 256) (e : Fin 64) :
    (k0_pay4 (F := Ideal) k (ix2 l e) = k (ix3 0 l ⟨e.val, by omega⟩)
      ∧ k0_pay17 (F := Ideal) (k0_pay2 k) (ix2 l e) = k (ix3 0 l ⟨64 + e.val, by omega⟩))
    ∧ k0_pay5 (F := Ideal) v (ix2 l e) = v (ix3 0 l ⟨e.val, by omega⟩)
      ∧ k0_pay18 (F := Ideal) (k0_pay3 v) (ix2 l e) = v (ix3 0 l ⟨64 + e.val, by omega⟩) := by
  refine ⟨⟨?_, ?_⟩, ?_, ?_⟩
  · pointwise [k0_pay4, k0_pay2]
  · pointwise [k0_pay17, k0_pay2]
  · pointwise [k0_pay5, k0_pay3]
  · pointwise [k0_pay18, k0_pay3]

end

section

variable (q : FVec Ideal S1x256x512 .f32) (k v : FVec Ideal S1x256x128 .f32) (s : Fin 8 → EReal)

/-- What head `h` leaves at row `r` and column `d`: attention with a sink over the 256 keys. -/
def entry (h : Fin 8) (r : Fin 256) (d : Fin 64) : EReal :=
  attend
    (fun l : Fin 256 => (∑ e : Fin 64, q (ix3 0 r ⟨64 * h.val + e.val, by have := h.isLt; have := e.isLt; omega⟩) * eighth
        * k (ix3 0 l ⟨64 * (h.val / 4) + e.val, by have := h.isLt; have := e.isLt; omega⟩) : EReal))
    (fun l => v (ix3 0 l ⟨64 * (h.val / 4) + d.val, by have := h.isLt; have := d.isLt; omega⟩)) (s h)

/-- The first four heads read the first half of the keys and the values. -/
theorem low (h : Fin 8) (hh : h.val < 4) (o : Fin 2 → ℕ) (ho : Shape.Slices S256x512 o S256x64) (h0 : o 0 = 0)
    (h1 : o 1 = 64 * h.val) (r : Fin 256) (d : Fin 64) :
    head (scored (queries q o ho) (k0_pay4 k)) (k0_pay5 v) (s h) (ix2 r d) = entry q k v s h r d := by
  have hz : 64 * (h.val / 4) = 0 := by omega
  rw [head_at]
  unfold entry
  congr 1
  · funext l
    simp only [scored_at, queries_at q h o ho h0 h1, (half_at k v _ _).1.1, hz, Nat.zero_add]
  · funext l
    refine ((half_at k v l d).2.1).trans ?_
    simp only [hz, Nat.zero_add]

/-- The last four heads read the second half. -/
theorem high (h : Fin 8) (hh : 4 ≤ h.val) (o : Fin 2 → ℕ) (ho : Shape.Slices S256x512 o S256x64) (h0 : o 0 = 0)
    (h1 : o 1 = 64 * h.val) (r : Fin 256) (d : Fin 64) :
    head (scored (queries q o ho) (k0_pay17 (k0_pay2 k))) (k0_pay18 (k0_pay3 v)) (s h) (ix2 r d) = entry q k v s h r d := by
  have hz : 64 * (h.val / 4) = 64 := by have := h.isLt; omega
  rw [head_at]
  unfold entry
  congr 1
  · funext l
    simp only [scored_at, queries_at q h o ho h0 h1, (half_at k v _ _).1.2, hz]
  · funext l
    refine ((half_at k v l d).2.2).trans ?_
    simp only [hz]

/-- What a grid point leaves, head after head. -/
theorem leaves_at (a : Fin 1) (r : Fin 256) (h : Fin 8) (d : Fin 64) (j : Fin 512) (hj : j.val = 64 * h.val + d.val) :
    leaves q k v (s 0) (s 1) (s 2) (s 3) (s 4) (s 5) (s 6) (s 7) (ix3 a r j) = entry q k v s h r d := by
  rw [leaves_eq]
  pointwise []
  have hd := d.isLt
  have h8 := h.isLt
  by_cases h0 : j.val < 64
  · obtain rfl : h = 0 := Fin.ext (by show h.val = 0; omega)
    rw [dif_pos (by omega)]
    exact (congrArg _ (congrArg (ix2 r) (Fin.ext (by dsimp only; omega)))).trans
      (low q k v s 0 (by decide) ![0, 0] slices_S256x512_o0_0_S256x64 rfl rfl r d)
  by_cases h1 : j.val < 128
  · obtain rfl : h = 1 := Fin.ext (by show h.val = 1; omega)
    rw [dif_neg (by omega), dif_pos (by omega)]
    exact (congrArg _ (congrArg (ix2 r) (Fin.ext (by dsimp only; omega)))).trans
      (low q k v s 1 (by decide) ![0, 64] slices_S256x512_o0_64_S256x64 rfl rfl r d)
  by_cases h2 : j.val < 192
  · obtain rfl : h = 2 := Fin.ext (by show h.val = 2; omega)
    rw [dif_neg (by omega), dif_neg (by omega), dif_pos (by omega)]
    exact (congrArg _ (congrArg (ix2 r) (Fin.ext (by dsimp only; omega)))).trans
      (low q k v s 2 (by decide) ![0, 128] slices_S256x512_o0_128_S256x64 rfl rfl r d)
  by_cases h3 : j.val < 256
  · obtain rfl : h = 3 := Fin.ext (by show h.val = 3; omega)
    rw [dif_neg (by omega), dif_neg (by omega), dif_neg (by omega), dif_pos (by omega)]
    exact (congrArg _ (congrArg (ix2 r) (Fin.ext (by dsimp only; omega)))).trans
      (low q k v s 3 (by decide) ![0, 192] slices_S256x512_o0_192_S256x64 rfl rfl r d)
  by_cases h4 : j.val < 320
  · obtain rfl : h = 4 := Fin.ext (by show h.val = 4; omega)
    rw [dif_neg (by omega), dif_neg (by omega), dif_neg (by omega), dif_neg (by omega), dif_pos (by omega)]
    exact (congrArg _ (congrArg (ix2 r) (Fin.ext (by dsimp only; omega)))).trans
      (high q k v s 4 (by decide) ![0, 256] slices_S256x512_o0_256_S256x64 rfl rfl r d)
  by_cases h5 : j.val < 384
  · obtain rfl : h = 5 := Fin.ext (by show h.val = 5; omega)
    rw [dif_neg (by omega), dif_neg (by omega), dif_neg (by omega), dif_neg (by omega), dif_neg (by omega), dif_pos (by omega)]
    exact (congrArg _ (congrArg (ix2 r) (Fin.ext (by dsimp only; omega)))).trans
      (high q k v s 5 (by decide) ![0, 320] slices_S256x512_o0_320_S256x64 rfl rfl r d)
  by_cases h6 : j.val < 448
  · obtain rfl : h = 6 := Fin.ext (by show h.val = 6; omega)
    rw [dif_neg (by omega), dif_neg (by omega), dif_neg (by omega), dif_neg (by omega), dif_neg (by omega), dif_neg (by omega), dif_pos (by omega)]
    exact (congrArg _ (congrArg (ix2 r) (Fin.ext (by dsimp only; omega)))).trans
      (high q k v s 6 (by decide) ![0, 384] slices_S256x512_o0_384_S256x64 rfl rfl r d)
  · obtain rfl : h = 7 := Fin.ext (by show h.val = 7; omega)
    rw [dif_neg (by omega), dif_neg (by omega), dif_neg (by omega), dif_neg (by omega), dif_neg (by omega), dif_neg (by omega), dif_neg (by omega)]
    exact (congrArg _ (congrArg (ix2 r) (Fin.ext (by dsimp only; omega)))).trans
      (high q k v s 7 (by decide) ![0, 448] slices_S256x512_o0_448_S256x64 rfl rfl r d)

end

end Cert.CattnIdeal.Heads

end
-- ==== Proof.CattnRefValue.lean ====
/- The context attention's reference, read entry by entry: attention with a sink over the 256 keys of the context. -/
module

public import proofs.«01_k».proof.Proof.Gen.CattnRefIdeal.Read
public import proofs.«01_k».proof.Proof.SinkSoftmax
public import Idealize.ShloMosaic.Lib.Pointwise

@[expose] public section

set_option maxRecDepth 16384

noncomputable section

namespace Cert.CattnRefIdeal.Entry

open Cert.CattnRefIdeal Cert.CattnRefIdeal.Gen Cert.CattnRefIdeal.Read Cert.SinkSoftmax Idealize.ShloMosaic

variable (x0 : S8.Idx → EReal) (x1 : S32x256x1792.Idx → EReal)

/-- The word of negative infinity, over the extended reals. -/
theorem bottom : Ideal.ofBits .f32 0xFF800000#32 = (⊥ : EReal) := by simp [Ideal.ofBits, Ideal.ieee]

/-- Head `h` is member `h % 4` of group `h / 4`; a group shares its keys and its values. -/
abbrev group (h : Fin 8) : Fin 2 := ⟨h.val / 4, by omega⟩
@[inherit_doc group] abbrev member (h : Fin 8) : Fin 4 := ⟨h.val % 4, by omega⟩

/-- Where a head's queries, its keys and its values lie. -/
abbrev queryCol (h : Fin 8) (e : Fin 64) : Fin 1792 := ⟨64 * h.val + e.val, by omega⟩
@[inherit_doc queryCol] abbrev keyCol (h : Fin 8) (e : Fin 64) : Fin 1792 := ⟨512 + (64 * (h.val / 4) + e.val), by omega⟩
@[inherit_doc queryCol] abbrev valueCol (h : Fin 8) (e : Fin 64) : Fin 1792 := ⟨640 + (64 * (h.val / 4) + e.val), by omega⟩

/-- The scale of the queries, an eighth. -/
abbrev eighth : EReal := Ideal.ofBits .f32 0x3E000000#32

/-- The scores of a query. -/
def scoreOf (b : Fin 32) (n : Fin 256) (h : Fin 8) (c : Fin 256) : EReal :=
  ∑ e : Fin 64, x1 (ix3 b n (queryCol h e)) * eighth * x1 (ix3 b c (keyCol h e))

/-- One column of the values a query weighs. -/
def valueOf (b : Fin 32) (h : Fin 8) (d : Fin 64) (c : Fin 256) : EReal := x1 (ix3 b c (valueCol h d))

/-- The reference's queries, scaled. -/
theorem query_at (b : Fin 32) (n : Fin 256) (h : Fin 8) (e : Fin 64) :
    val_main_v8 (F := Ideal) x1 (ix5 b n (group h) (member h) e) = x1 (ix3 b n (queryCol h e)) * eighth := by
  have hi : idx_main_v8 (ix5 b n (group h) (member h) e) = ix4 b n h e := by
    refine funext fun a => Fin.ext ?_
    match a with
    | ⟨0, _⟩ => show ((((b.val * 256 + n.val) * 2 + h.val / 4) * 4 + h.val % 4) * 64 + e.val) / 131072 = b.val
                omega
    | ⟨1, _⟩ => show ((((b.val * 256 + n.val) * 2 + h.val / 4) * 4 + h.val % 4) * 64 + e.val) / 512 % 256 = n.val
                omega
    | ⟨2, _⟩ => show ((((b.val * 256 + n.val) * 2 + h.val / 4) * 4 + h.val % 4) * 64 + e.val) / 64 % 8 = h.val
                omega
    | ⟨3, _⟩ => show ((((b.val * 256 + n.val) * 2 + h.val / 4) * 4 + h.val % 4) * 64 + e.val) % 64 = e.val
                omega
  rw [val_main_v8_apply, hi, val_main_v7_apply, val_main_v1_apply, val_main_v0_apply, val_main_v6_apply, val_main_cst_apply]
  refine congrArg (fun z : EReal => z * eighth) (congrArg x1 (funext fun a => Fin.ext ?_))
  match a with
  | ⟨0, _⟩ => show (((b.val * 256 + n.val) * 8 + h.val) * 64 + e.val) / 131072 = b.val
              omega
  | ⟨1, _⟩ => show (((b.val * 256 + n.val) * 8 + h.val) * 64 + e.val) / 512 % 256 = n.val
              omega
  | ⟨2, _⟩ => show (((b.val * 256 + n.val) * 8 + h.val) * 64 + e.val) % 512 = 64 * h.val + e.val
              omega

/-- The reference's keys. -/
theorem key_at (b : Fin 32) (c : Fin 256) (h : Fin 8) (e : Fin 64) :
    val_main_v3 (F := Ideal) x1 (ix4 b c (group h) e) = x1 (ix3 b c (keyCol h e)) := by
  rw [val_main_v3_apply, val_main_v2_apply]
  refine congrArg x1 (funext fun a => Fin.ext ?_)
  match a with
  | ⟨0, _⟩ => show (((b.val * 256 + c.val) * 2 + h.val / 4) * 64 + e.val) / 32768 = b.val
              omega
  | ⟨1, _⟩ => show (((b.val * 256 + c.val) * 2 + h.val / 4) * 64 + e.val) / 128 % 256 = c.val
              omega
  | ⟨2, _⟩ => show 512 + (((b.val * 256 + c.val) * 2 + h.val / 4) * 64 + e.val) % 128 = 512 + (64 * (h.val / 4) + e.val)
              omega

/-- The reference's values. -/
theorem value_at (b : Fin 32) (c : Fin 256) (h : Fin 8) (e : Fin 64) :
    val_main_v5 (F := Ideal) x1 (ix4 b c (group h) e) = valueOf x1 b h e c := by
  rw [val_main_v5_apply, val_main_v4_apply]
  refine congrArg x1 (funext fun a => Fin.ext ?_)
  match a with
  | ⟨0, _⟩ => show (((b.val * 256 + c.val) * 2 + h.val / 4) * 64 + e.val) / 32768 = b.val
              omega
  | ⟨1, _⟩ => show (((b.val * 256 + c.val) * 2 + h.val / 4) * 64 + e.val) / 128 % 256 = c.val
              omega
  | ⟨2, _⟩ => show 640 + (((b.val * 256 + c.val) * 2 + h.val / 4) * 64 + e.val) % 128 = 640 + (64 * (h.val / 4) + e.val)
              omega

/-- The reference's scores. -/
theorem score_at (b : Fin 32) (n : Fin 256) (h : Fin 8) (c : Fin 256) :
    val_main_v10 (F := Ideal) x1 (ix5 b (group h) (member h) n c) = scoreOf x1 b n h c := by
  have hi : idx_main_v10 (ix5 b (group h) (member h) n c) = ix5 b (group h) c n (member h) := eq_ix5 _
  rw [val_main_v10_apply, hi, val_main_v9_apply]
  refine Finset.sum_congr rfl fun e _ => ?_
  have hl : lidx_main_v9 (ix5 b (group h) c n (member h)) e = ix4 b c (group h) e := eq_ix4 _
  have hr : ridx_main_v9 (ix5 b (group h) c n (member h)) e = ix5 b n (group h) (member h) e := eq_ix5 _
  rw [hl, hr, key_at, query_at]
  exact mul_comm _ _

/-- The reference's sink. -/
theorem sink_at (b : Fin 32) (n : Fin 256) (h : Fin 8) :
    val_main_v12 (F := Ideal) x0 (ix5 b (group h) (member h) n (0 : Fin 1)) = x0 (ix1 h) := by
  rw [val_main_v12_apply, val_main_v11_apply]
  refine congrArg x0 (funext fun a => Fin.ext ?_)
  match a with
  | ⟨0, _⟩ => show ((h.val / 4 * 4 + h.val % 4) * 1 + 0) * 1 + 0 = h.val
              omega

/-- The two parts of a row of scores: the context's and the sink. -/
abbrev place : Fin 256 ⊕ Fin 1 ≃ Fin 257 := finSumFinEquiv (m := 256) (n := 1)

/-- A row of the joined scores. -/
def row (b : Fin 32) (n : Fin 256) (h : Fin 8) (k : Fin 257) : EReal :=
  val_main_v13 (F := Ideal) x0 x1 (ix5 b (group h) (member h) n k)

/-- A row of two joined arrays, the column in the first or the second. -/
theorem joined_at (y : FVec Ideal S32x2x4x256x256 .f32) (w : FVec Ideal S32x2x4x256x1 .f32)
    (b : Fin 32) (g : Fin 2) (u : Fin 4) (n : Fin 256) (k : Fin 257) :
    concatenate S32x2x4x256x257 4 [⟨S32x2x4x256x256, y⟩, ⟨S32x2x4x256x1, w⟩]
        concatenates_S32x2x4x256x256_S32x2x4x256x1_S32x2x4x256x257_d4 (ix5 b g u n k)
      = if h : k.val < 256 then y (ix5 b g u n ⟨k.val, h⟩)
        else w (ix5 b g u n ⟨k.val - 256, by have := k.isLt; omega⟩) := by
  pointwise []

theorem row_key (b : Fin 32) (n : Fin 256) (h : Fin 8) (k : Fin 256) : row x0 x1 b n h (place (.inl k)) = scoreOf x1 b n h k := by
  unfold row val_main_v13
  refine (joined_at _ _ b (group h) (member h) n _).trans ?_
  have hv : (place (.inl k)).val = k.val := rfl
  rw [dif_pos (by rw [hv]; exact k.isLt)]
  exact score_at x1 b n h k

theorem row_sink (b : Fin 32) (n : Fin 256) (h : Fin 8) : row x0 x1 b n h (place (.inr 0)) = x0 (ix1 h) := by
  unfold row val_main_v13
  refine (joined_at _ _ b (group h) (member h) n _).trans ?_
  have hv : (place (.inr 0)).val = 256 := rfl
  rw [dif_neg (by rw [hv]; omega)]
  exact sink_at x0 b n h

/-- The reference's maximum over a row, of any array. -/
theorem host_largest (y : FVec Ideal S32x2x4x256x257 .f32) (b : Fin 32) (g : Fin 2) (u : Fin 4) (n : Fin 256) :
    Host.reduce FloatOps.maximumf y (val_main_cst_0 (F := Ideal)) reducesTo_S32x2x4x256x257_S32x2x4x256_d4 h_S_ (ix4 b g u n)
      = Finset.univ.fold max ⊥ (fun k : Fin 257 => y (ix5 b g u n k)) := by
  rw [Host.reduce_eq_fold_single FloatOps.maximumf y _ _ (by decide) _ (ix4 b g u n), val_main_cst_0_apply]
  show Finset.univ.fold max (Ideal.ofBits .f32 0xFF800000#32) _ = _
  rw [bottom]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl))

/-- The largest of a row: the largest of the scores and the sink. -/
theorem largest_at (b : Fin 32) (n : Fin 256) (h : Fin 8) :
    val_main_v16 (F := Ideal) x0 x1 (ix4 b (group h) (member h) n) = peak (scoreOf x1 b n h) (x0 (ix1 h)) := by
  have h0 : (val_main_v15 (F := Ideal) (ix4 b (group h) (member h) n) : EReal) = ⊥ := by
    rw [val_main_v15_apply, val_main_cst_1_apply]; exact bottom
  have h1 : (val_main_v14 (F := Ideal) x0 x1 (ix4 b (group h) (member h) n) : EReal) = peak (scoreOf x1 b n h) (x0 (ix1 h)) :=
    (host_largest _ b (group h) (member h) n).trans
      (peak_joined place (row x0 x1 b n h) _ _ (row_key x0 x1 b n h) (row_sink x0 x1 b n h))
  rw [val_main_v16_apply, h1]
  show max (val_main_v15 (F := Ideal) (ix4 b (group h) (member h) n) : EReal) _ = _
  rw [h0]
  exact max_eq_right bot_le

/-- The exponentials of a row. -/
theorem exp_at (b : Fin 32) (n : Fin 256) (h : Fin 8) (k : Fin 257) :
    val_main_v20 (F := Ideal) x0 x1 (ix5 b (group h) (member h) n k)
      = Ideal.exp (row x0 x1 b n h k - peak (scoreOf x1 b n h) (x0 (ix1 h))) := by
  have hi : idx_main_v18 (ix5 b (group h) (member h) n k) = ix5 b (group h) (member h) n (0 : Fin 1) := eq_ix5 _
  have hj : idx_main_v17 (ix5 b (group h) (member h) n (0 : Fin 1)) = ix4 b (group h) (member h) n := eq_ix4 _
  rw [val_main_v20_apply, val_main_v19_apply, val_main_v18_apply, hi, val_main_v17_apply, hj, largest_at]
  rfl

/-- What the weights of a query are divided by. -/
def total (b : Fin 32) (n : Fin 256) (h : Fin 8) : EReal :=
  ∑ i, Ideal.exp (scoreOf x1 b n h i - peak (scoreOf x1 b n h) (x0 (ix1 h)))
    + Ideal.exp (x0 (ix1 h) - peak (scoreOf x1 b n h) (x0 (ix1 h)))

/-- The sum of a row's exponentials. -/
theorem total_at (b : Fin 32) (n : Fin 256) (h : Fin 8) :
    val_main_v21 (F := Ideal) x0 x1 (ix4 b (group h) (member h) n) = total x0 x1 b n h := by
  have hz : (val_main_cst_2 (F := Ideal) (Shape.Idx.first h_S_) : EReal) = 0 := by
    rw [val_main_cst_2_apply]
    show Ideal.ofBits .f32 0x00000000#32 = 0
    simp [Ideal.ofBits, Ideal.ieee]
  rw [val_main_v21_apply, hz, zero_add]
  refine Eq.trans (Finset.sum_congr rfl fun k _ => ?_)
    (sum_joined place (row x0 x1 b n h) _ _ (row_key x0 x1 b n h) (row_sink x0 x1 b n h)
      (fun s => Ideal.exp (s - peak (scoreOf x1 b n h) (x0 (ix1 h)))))
  have hi : idx_main_v21 (ix4 b (group h) (member h) n) k = ix5 b (group h) (member h) n k := eq_ix5 _
  rw [hi, exp_at]

/-- The weight of a key in the reference. -/
def weight (b : Fin 32) (n : Fin 256) (h : Fin 8) (i : Fin 256) : EReal :=
  Ideal.div (Ideal.exp (scoreOf x1 b n h i - peak (scoreOf x1 b n h) (x0 (ix1 h)))) (total x0 x1 b n h)

theorem weight_at (b : Fin 32) (n : Fin 256) (h : Fin 8) (i : Fin 256) (k : Fin 257) (hk : k = place (.inl i)) :
    val_main_v24 (F := Ideal) x0 x1 (ix5 b (group h) (member h) n k) = weight x0 x1 b n h i := by
  have hi : idx_main_v23 (ix5 b (group h) (member h) n k) = ix5 b (group h) (member h) n (0 : Fin 1) := eq_ix5 _
  have hj : idx_main_v22 (ix5 b (group h) (member h) n (0 : Fin 1)) = ix4 b (group h) (member h) n := eq_ix4 _
  rw [val_main_v24_apply, val_main_v23_apply, hi, val_main_v22_apply, hj, total_at, exp_at, hk, row_key]
  rfl

/-- The weighted values. -/
theorem weighted_at (b : Fin 32) (n : Fin 256) (h : Fin 8) (d : Fin 64) :
    val_main_v27 (F := Ideal) x0 x1 (ix5 b n (group h) (member h) d)
      = ∑ c : Fin 256, valueOf x1 b h d c * weight x0 x1 b n h c := by
  have hi : idx_main_v27 (ix5 b n (group h) (member h) d) = ix5 b (group h) d (member h) n := eq_ix5 _
  rw [val_main_v27_apply, hi, val_main_v26_apply]
  refine Finset.sum_congr rfl fun c _ => ?_
  have hl : lidx_main_v26 (ix5 b (group h) d (member h) n) c = ix4 b c (group h) d := eq_ix4 _
  have hr : ridx_main_v26 (ix5 b (group h) d (member h) n) c = ix5 b (group h) (member h) n c := eq_ix5 _
  have hs : idx_main_v25 (ix5 b (group h) (member h) n c)
      = ix5 b (group h) (member h) n (⟨c.val, by omega⟩ : Fin 257) := eq_ix5 _
  rw [hl, hr, value_at, val_main_v25_apply, hs]
  exact congrArg (_ * ·) (weight_at x0 x1 b n h c _ rfl)

/-- The reference's result, entry by entry: attention with a sink, when no score is infinite and the sink is finite. -/
theorem result_at (b : Fin 32) (n : Fin 256) (h : Fin 8) (d : Fin 64) (j : Fin 512) (hj : j.val = 64 * h.val + d.val)
    (hs : ∀ i, scoreOf x1 b n h i ≠ ⊤) (sink : ℝ) (hz : x0 (ix1 h) = sink) :
    val_main_v28 (F := Ideal) x0 x1 (ix3 b n j) = attend (scoreOf x1 b n h) (valueOf x1 b h d) (x0 (ix1 h)) := by
  have hi : idx_main_v28 (ix3 b n j) = ix5 b n (group h) (member h) d := by
    refine funext fun a => Fin.ext ?_
    match a with
    | ⟨0, _⟩ => show ((b.val * 256 + n.val) * 512 + j.val) / 131072 = b.val
                omega
    | ⟨1, _⟩ => show ((b.val * 256 + n.val) * 512 + j.val) / 512 % 256 = n.val
                omega
    | ⟨2, _⟩ => show ((b.val * 256 + n.val) * 512 + j.val) / 256 % 2 = h.val / 4
                omega
    | ⟨3, _⟩ => show ((b.val * 256 + n.val) * 512 + j.val) / 64 % 4 = h.val % 4
                omega
    | ⟨4, _⟩ => show ((b.val * 256 + n.val) * 512 + j.val) % 64 = d.val
                omega
  rw [val_main_v28_apply, hi, weighted_at, hz, attend_spread _ _ hs]
  unfold weight total
  rw [hz]

end Cert.CattnRefIdeal.Entry

end
-- ==== Proof.CattnValue.lean ====
/- The context attention: what the kernel leaves in its result array is the reference's result, entry by entry over the
   extended reals. -/
module

public import proofs.«01_k».proof.Proof.CattnHeads
public import proofs.«01_k».proof.Proof.CattnRefValue
public import proofs.«01_k».proof.Proof.Gen.CattnIdeal.Value
public import proofs.«01_k».proof.Proof.Gen.CattnRefIdeal.Run

@[expose] public section

set_option maxRecDepth 16384

noncomputable section

namespace Cert.CattnIdeal.Row

open Cert.CattnIdeal Cert.CattnIdeal.Gen Cert.CattnIdeal.Heads Cert.SinkSoftmax Idealize.ShloMosaic Idealize.ShloMosaic.TcCoe Idealize.SL.Sem
open Cert.CattnRefIdeal.Entry (scoreOf valueOf)

variable (m : (ℓ : Loc nD τ sig) → Buf (Elt Ideal) ℓ) (ρ : Dev nD → PrngReg)

/-- The sinks and the projections of the context. -/
abbrev sinks (c : Dev nD) : S8.Idx → EReal := m ((c : Thread nD τ).loc main_arg0)
@[inherit_doc sinks] abbrev context (c : Dev nD) : S32x256x1792.Idx → EReal := m ((c : Thread nD τ).loc main_arg1)

/-- The word of the sinks' block a scalar load takes. -/
theorem sink_load (X : Vec Ideal S8 .f32) (k : ℕ) (hk : k < 8) (inb) (h) :
    View.ld X (Rect.unit (s := S8) ![k] S1.size inb) (Shape.Idx.first h) = X (ix1 (⟨k, hk⟩ : Fin 8)) :=
  congrArg X (funext fun a => Fin.ext (match a with | ⟨0, _⟩ => rfl))

/-- What the body leaves in the result's buffer: the eight heads of its blocks. -/
theorem out_at (c : Dev nD) (t : Fin cfg0.N) (x0 : Vec Ideal S8 .f32) (x1 : Vec Ideal S1x256x512 .f32)
    (x2 x3 : Vec Ideal S1x256x128 .f32) :
    out0_A_4 c (grid0.coords t) (ms0_0 t) (hs0_0 t) (ms0_1 t) (hs0_1 t) (ms0_2 t) (hs0_2 t) (ms0_3 t) (hs0_3 t) (ms0_4 t) (hs0_4 t)
      x0 x1 x2 x3
    = leaves x1 x2 x3 (x0 (ix1 (0 : Fin 8))) (x0 (ix1 (1 : Fin 8))) (x0 (ix1 (2 : Fin 8))) (x0 (ix1 (3 : Fin 8)))
        (x0 (ix1 (4 : Fin 8))) (x0 (ix1 (5 : Fin 8))) (x0 (ix1 (6 : Fin 8))) (x0 (ix1 (7 : Fin 8))) := by
  have origin3 : (![0, 0, 0] : Fin 3 → Nat) = fun _ => 0 := funext fun a => by fin_cases a <;> rfl
  unfold out0_A_4
  rw [View.read_writes_eq_canon _ _ _ (fun y => cover0_A_4 _ _ _ _ _ _ _ _ _ _ _ _ _ _ _ _ y)]
  unfold kernelRun0_A
  dsimp only
  sl_unfold_words
  refine (View.canon_unit_zero origin3 _ _).trans ?_
  have e1 : ∀ (X : Vec Ideal S1x256x512 .f32), View.ld X (Rect.unit ![0, 0, 0] S1x256x512.size inb_S1x256x512_S1x256x512_0_0_0) = X :=
    View.ld_unit_zero origin3 _
  have e2 : ∀ (X : Vec Ideal S1x256x128 .f32), View.ld X (Rect.unit ![0, 0, 0] S1x256x128.size inb_S1x256x128_S1x256x128_0_0_0) = X :=
    View.ld_unit_zero origin3 _
  have ez : ∀ (k : ℕ) (hk : k < 8) (inb) (h), View.ld x0 (Rect.unit (s := S8) ![k] S1.size inb) (Shape.Idx.first h)
      = x0 (ix1 (⟨k, hk⟩ : Fin 8)) := fun k hk inb h => sink_load x0 k hk inb h
  simp only [View.readAt_eq_ld, Memref.IsWhole.read_unread, e1, e2, ez _ (by decide : 0 < 8), ez _ (by decide : 1 < 8),
    ez _ (by decide : 2 < 8), ez _ (by decide : 3 < 8), ez _ (by decide : 4 < 8), ez _ (by decide : 5 < 8),
    ez _ (by decide : 6 < 8), ez _ (by decide : 7 < 8)]
  rfl

/-- The result's buffer at a point, from the point's blocks. -/
theorem out_eq (c : Dev nD) (t : Fin cfg0.N) : outsAt0 m c t
    = leaves (X0_1 m c t) (iblk m c 2 t) (iblk m c 3 t)
        (iblk m c 0 t (ix1 (0 : Fin 8))) (iblk m c 0 t (ix1 (1 : Fin 8))) (iblk m c 0 t (ix1 (2 : Fin 8)))
        (iblk m c 0 t (ix1 (3 : Fin 8))) (iblk m c 0 t (ix1 (4 : Fin 8))) (iblk m c 0 t (ix1 (5 : Fin 8)))
        (iblk m c 0 t (ix1 (6 : Fin 8))) (iblk m c 0 t (ix1 (7 : Fin 8))) := by
  unfold outsAt0
  exact out_at c t _ _ _ _

/-- Where each window's block lies: point `t` is batch row `t`. -/
theorem block_at : ∀ t : Fin cfg0.N, win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 4)
    ∧ (win0_3.index t 0 = t.val ∧ win0_3.index t 1 = 0 ∧ win0_3.index t 2 = 5)
    ∧ (win0_4.index t 0 = t.val ∧ win0_4.index t 1 = 0 ∧ win0_4.index t 2 = 0)
    ∧ (cfg0.win 4).flush t = true :=
  (by decide +kernel : ∀ t : Fin grid0.N, win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 4)
    ∧ (win0_3.index t 0 = t.val ∧ win0_3.index t 1 = 0 ∧ win0_3.index t 2 = 5)
    ∧ (win0_4.index t 0 = t.val ∧ win0_4.index t 1 = 0 ∧ win0_4.index t 2 = 0)
    ∧ (cfg0.win 4).flush t = true)

/-- A point's batch row. -/
abbrev batchOf (t : Fin cfg0.N) : Fin 32 := ⟨t.val, by have hN : cfg0.N = 32 := N_0; have := t.isLt; omega⟩

/-- The sinks' block is the whole of them. -/
theorem sink_at (c : Dev nD) (t : Fin cfg0.N) (h : Fin 8) : (iblk m c 0 t (ix1 h) : EReal) = sinks m c (ix1 h) := by
  have e := (block_at t).1
  unfold iblk
  rw [View.read_apply, cast_eq]
  refine congrArg (V m c main_arg0) (funext fun a => Fin.ext ?_)
  match a with
  | ⟨0, _⟩ => show win0_0.index t 0 * 8 + 1 * h.val = h.val
              rw [e]; omega

/-- A point's queries. -/
theorem query_at (c : Dev nD) (t : Fin cfg0.N) (r : Fin 256) (j : Fin 512) :
    (X0_1 m c t (ix3 (0 : Fin 1) r j) : EReal) = context m c (ix3 (batchOf t) r (⟨j.val, by omega⟩ : Fin 1792)) := by
  have e := (block_at t).2.1
  unfold X0_1 Pipeline.Window.fill
  rw [dif_pos (moved0_1 t _)]
  unfold iblk
  rw [View.read_apply, cast_eq]
  refine congrArg (V m c main_arg1) (funext fun a => Fin.ext ?_)
  match a with
  | ⟨0, _⟩ => show win0_1.index t 0 * 1 + 1 * 0 = t.val
              rw [e.1]; omega
  | ⟨1, _⟩ => show win0_1.index t 1 * 256 + 1 * r.val = r.val
              rw [e.2.1]; omega
  | ⟨2, _⟩ => show win0_1.index t 2 * 512 + 1 * j.val = j.val
              rw [e.2.2]; omega

/-- A point's keys. -/
theorem key_at (c : Dev nD) (t : Fin cfg0.N) (r : Fin 256) (e : Fin 128) :
    (iblk m c 2 t (ix3 (0 : Fin 1) r e) : EReal) = context m c (ix3 (batchOf t) r (⟨512 + e.val, by omega⟩ : Fin 1792)) := by
  have h := (block_at t).2.2.1
  unfold iblk
  rw [View.read_apply, cast_eq]
  refine congrArg (V m c main_arg1) (funext fun a => Fin.ext ?_)
  match a with
  | ⟨0, _⟩ => show win0_2.index t 0 * 1 + 1 * 0 = t.val
              rw [h.1]; omega
  | ⟨1, _⟩ => show win0_2.index t 1 * 256 + 1 * r.val = r.val
              rw [h.2.1]; omega
  | ⟨2, _⟩ => show win0_2.index t 2 * 128 + 1 * e.val = 512 + e.val
              rw [h.2.2]; omega

/-- A point's values. -/
theorem value_at (c : Dev nD) (t : Fin cfg0.N) (r : Fin 256) (e : Fin 128) :
    (iblk m c 3 t (ix3 (0 : Fin 1) r e) : EReal) = context m c (ix3 (batchOf t) r (⟨640 + e.val, by omega⟩ : Fin 1792)) := by
  have h := (block_at t).2.2.2.1
  unfold iblk
  rw [View.read_apply, cast_eq]
  refine congrArg (V m c main_arg1) (funext fun a => Fin.ext ?_)
  match a with
  | ⟨0, _⟩ => show win0_3.index t 0 * 1 + 1 * 0 = t.val
              rw [h.1]; omega
  | ⟨1, _⟩ => show win0_3.index t 1 * 256 + 1 * r.val = r.val
              rw [h.2.1]; omega
  | ⟨2, _⟩ => show win0_3.index t 2 * 128 + 1 * e.val = 640 + e.val
              rw [h.2.2]; omega

/-- What a grid point computes for a head, a row and a column is the reference's attention with a sink. -/
theorem entry_at (c : Dev nD) (t : Fin cfg0.N) (h : Fin 8) (r : Fin 256) (d : Fin 64) :
    entry (X0_1 m c t) (iblk m c 2 t) (iblk m c 3 t) (fun h => iblk m c 0 t (ix1 h)) h r d
      = attend (scoreOf (context m c) (batchOf t) r h) (valueOf (context m c) (batchOf t) h d) (sinks m c (ix1 h)) := by
  unfold entry
  congr 1
  · funext l
    unfold scoreOf
    refine Finset.sum_congr rfl fun e _ => ?_
    rw [query_at, key_at]
  · funext l
    exact value_at m c t l _
  · exact sink_at m c t h

/-- The reference's result for the kernel's arguments. -/
abbrev result (c : Dev nD) : S32x256x512.Idx → EReal :=
  Cert.CattnRefIdeal.Read.val_main_v28 (F := Ideal) (sinks m c) (context m c)

/-- No score is infinite and every sink is a real number. -/
structure Bounded (c : Dev nD) : Prop where
  score : ∀ b n h i, scoreOf (context m c) b n h i ≠ ⊤
  sink : ∀ h : Fin 8, ∃ x : ℝ, sinks m c (ix1 h) = x

/-- Where entry `(a, r, j)` of point `t`'s block lies in the result. -/
theorem place_at (t : Fin cfg0.N) (a : Fin 1) (r : Fin 256) (j : Fin 512) :
    (win0_4.blk t).view.emb (ix3 a r j) = ix3 (batchOf t) r j := by
  have e := (block_at t).2.2.2.2.1
  refine funext fun x => Fin.ext ?_
  match x with
  | ⟨0, _⟩ => show win0_4.index t 0 * 1 + 1 * a.val = t.val
              rw [e.1]; omega
  | ⟨1, _⟩ => show win0_4.index t 1 * 256 + 1 * r.val = r.val
              rw [e.2.1]; omega
  | ⟨2, _⟩ => show win0_4.index t 2 * 512 + 1 * j.val = j.val
              rw [e.2.2]; omega

/-- What point `t` writes back is its block of the reference's result. -/
theorem flushed_eq (c : Dev nD) (hb : Bounded m c) (t : Fin cfg0.N) :
    (dats m 0 c).flushed 4 t = (win0_4.blk t).view.read (Elt Ideal) (result m c) := by
  rw [Value.flushed4, out_eq]
  funext x
  rw [View.read_apply, cast_eq]
  obtain ⟨a, r, j, rfl⟩ : ∃ (a : Fin 1) (r : Fin 256) (j : Fin 512), x = ix3 a r j := ⟨x 0, x 1, x 2, eq_ix3 x⟩
  rw [place_at t a r j]
  have hj := j.isLt
  obtain ⟨h, d, hd⟩ : ∃ (h : Fin 8) (d : Fin 64), j.val = 64 * h.val + d.val :=
    ⟨⟨j.val / 64, by omega⟩, ⟨j.val % 64, by omega⟩, by show j.val = 64 * (j.val / 64) + j.val % 64; omega⟩
  obtain ⟨s, hs⟩ := hb.sink h
  exact ((leaves_at _ _ _ (fun h => iblk m c 0 t (ix1 h)) a r h d j hd).trans (entry_at m c t h r d)).trans
    (Cert.CattnRefIdeal.Entry.result_at _ _ _ _ h d j hd (hb.score _ _ _) s hs).symm

/-- Every entry of the result lies in the block of its batch row's point. -/
theorem cover (i : S32x256x512.Idx) :
    ∃ t : Fin cfg0.N, (cfg0.win 4).flush t = true ∧ i ∈ ((cfg0.win 4).blk t).view.set := by
  have h0 : (i 0).val < 32 := (i 0).isLt
  have h1 : (i 1).val < 256 := (i 1).isLt
  have h2 : (i 2).val < 512 := (i 2).isLt
  have hN : cfg0.N = 32 := N_0
  obtain ⟨t, ht⟩ : ∃ t : Fin cfg0.N, t.val = (i 0).val := ⟨⟨(i 0).val, by omega⟩, rfl⟩
  have e := (block_at t).2.2.2.2
  refine ⟨t, e.2, ?_⟩
  show i ∈ ((View.whole main_v0).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [e.1.1]; omega
  | ⟨1, _⟩ => show win0_4.index t 1 * 256 ≤ (i 1).val ∧ (i 1).val < win0_4.index t 1 * 256 + 256
              rw [e.1.2.1]; omega
  | ⟨2, _⟩ => show win0_4.index t 2 * 512 ≤ (i 2).val ∧ (i 2).val < win0_4.index t 2 * 512 + 512
              rw [e.1.2.2]; omega

/-- The result array after the run is the reference's result. -/
theorem final (c : Dev nD) (hb : Bounded m c) : (dats m 0 c).arrAt 4 cfg0.N = result m c :=
  (dats m 0 c).arrAt_eq_of_cover 4 (result m c) (fun t _ => flushed_eq m c hb t) cover

/-- The run: the result array at the reference's result, the arguments unchanged. -/
theorem run (hb : ∀ c, Bounded m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c (hb c)), (h c).2⟩) (Value.run_blocks m ρ)

end Cert.CattnIdeal.Row

end
-- ==== Proof.CattnClaims.lean ====
/- The claims about the context attention. -/
module

public import proofs.«01_k».proof.Defs
public import proofs.«01_k».proof.Proof.Finite
public import proofs.«01_k».proof.Proof.Gen.Pre_finite_context
public import proofs.«01_k».proof.Proof.Gen.Cattn.Frame
public import proofs.«01_k».proof.Proof.Gen.CattnIdeal.Frame
public import proofs.«01_k».proof.Proof.CattnValue

@[expose] public section

set_option maxRecDepth 16384

noncomputable section

namespace Cert.Proof.Cattn

open Idealize.ShloMosaic Idealize.ShloMosaic.TcCoe Idealize.SL.Sem Cert.CattnIdeal.Row Cert.CattnRefIdeal.Entry

/-- The call runs to its end from any state, in machine words, and leaves its arguments as they were. -/
theorem frame : Cert.quiescent_Cattn := fun m ρ _ => Cert.Cattn.Gen.frame m ρ

/-- The same over the extended reals. -/
theorem frame_ideal : Cert.quiescent_CattnIdeal := fun m ρ _ => Cert.CattnIdeal.Gen.frame m ρ

/-- The same where the arguments are real numbers. -/
theorem frame_ideal_finite :
    Cert.quiescent_CattnIdeal_pre_finite_context (hPre_finite_context := Cert.Pre_finite_context.Gen.facts) :=
  fun m ρ _ => Cert.CattnIdeal.Gen.frame m ρ

/-- The reference runs to its end from any state and leaves its arguments as they were. -/
theorem frame_reference : Cert.quiescent_CattnRefIdeal := fun m ρ _ =>
  (θ_run Cert.CattnRefIdeal.defs _ _).mono (fun r h => ⟨fun c => (h c).2,
      Idealize.ShloMosaic.sem_eq_zero_of_no_sems (by decide) r.2⟩)
    (Cert.CattnRefIdeal.Value.run (F := Ideal) m ρ)

/-- The same where the arguments are real numbers. -/
theorem frame_reference_finite :
    Cert.quiescent_CattnRefIdeal_pre_finite_context (hPre_finite_context := Cert.Pre_finite_context.Gen.facts) :=
  fun m ρ _ => frame_reference m ρ trivial

/-- What the precondition says of the sinks and of the context: their entries are real numbers. -/
theorem reals (x0 : Cert.Pre_finite_context.S8.Idx → EReal) (x1 : Cert.Pre_finite_context.S32x256x1792.Idx → EReal)
    (h0 : (letI := Cert.Pre_finite_context.Gen.facts; Cert.Pre_finite_context.fn (F := Ideal) x0 x1).1 = fun _ => 1#1)
    (h1 : (letI := Cert.Pre_finite_context.Gen.facts; Cert.Pre_finite_context.fn (F := Ideal) x0 x1).2 = fun _ => 1#1) :
    (∀ i, ∃ r : ℝ, x0 i = r) ∧ ∀ i, ∃ r : ℝ, x1 i = r := by
  dsimp only [Cert.Pre_finite_context.fn] at h0 h1
  exact ⟨Cert.Finite.real_of_all _ _ _ _ _ _ (congrFun h0 (fun a => a.elim0)),
    Cert.Finite.real_of_all _ _ _ _ _ _ (congrFun h1 (fun a => a.elim0))⟩

/-- The scale of the queries is a real number. -/
theorem real_eighth : ∃ r : ℝ, eighth = r := by
  refine ⟨1 / 8, ?_⟩
  simp [eighth, Ideal.ofBits, Ideal.ieee, -EReal.coe_mul]; norm_num

/-- Real arguments have scores below infinity, and real sinks. -/
theorem bounded (m : (ℓ : Loc Cert.CattnIdeal.nD Cert.CattnIdeal.τ Cert.CattnIdeal.sig) → Buf (Elt Ideal) ℓ)
    (h : Cert.Pre_CattnIdeal_finite_context (hPre_finite_context := Cert.Pre_finite_context.Gen.facts) m)
    (c : Dev Cert.CattnIdeal.nD) : Bounded m c := by
  obtain ⟨h0, h1⟩ := h c
  obtain ⟨r0, r1⟩ := reals (sinks m c) (context m c) h0 h1
  obtain ⟨s, hs⟩ := real_eighth
  refine ⟨fun b n h i => ?_, fun h => r0 _⟩
  obtain ⟨r, hr⟩ := Cert.Finite.real_sum (fun e => context m c (ix3 b n (queryCol h e)) * eighth)
    (fun e => context m c (ix3 b i (keyCol h e)))
    (fun e => by
      obtain ⟨x, hx⟩ := r1 (ix3 b n (queryCol h e))
      exact ⟨x * s, by rw [hx, hs, EReal.coe_mul]⟩)
    (fun _ => r1 _)
  unfold scoreOf
  exact hr ▸ EReal.coe_ne_top r

/-- Over the extended reals the call and the reference leave the same result for the same real arguments. -/
theorem algebraic : Cert.algebraic_CattnIdeal_CattnRefIdeal_pre_finite_context
    (hPre_finite_context := Cert.Pre_finite_context.Gen.facts) :=
  fun m ρ m' ρ' hpre hag =>
  ⟨fun c => result m c, run m ρ (bounded m hpre),
    (θ_run Cert.CattnRefIdeal.defs _ _).mono
      (fun _ h c => ⟨(h c).1.trans (by
        unfold Cert.CattnRefIdeal.Value.res_main_v28
        rw [(hag c).1, (hag c).2]
        rfl), (h c).2⟩)
      (Cert.CattnRefIdeal.Value.run (F := Ideal) m' ρ')⟩

end Cert.Proof.Cattn

end
-- ==== Proof.lean ====
/- The claims about the calls of the two layers, put together. -/
module

public import proofs.«01_k».proof.Defs
public import proofs.«01_k».proof.Proof.Gen.Moe
public import proofs.«01_k».proof.Proof.Gen.Moe.Skeleton
public import proofs.«01_k».proof.Proof.Gen.Moe.Loops
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Loops
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmRefIdeal
public import proofs.«01_k».proof.Proof.Gen.MmIn
public import proofs.«01_k».proof.Proof.Gen.MmIn.Skeleton
public import proofs.«01_k».proof.Proof.Gen.MmIn.Launch
public import proofs.«01_k».proof.Proof.Gen.MmIn.Points
public import proofs.«01_k».proof.Proof.Gen.MmIn.Frame
public import proofs.«01_k».proof.Proof.Gen.MmInIdeal
public import proofs.«01_k».proof.Proof.Gen.MmInIdeal.Skeleton
public import proofs.«01_k».proof.Proof.Gen.MmInIdeal.Launch
public import proofs.«01_k».proof.Proof.Gen.MmInIdeal.Points
public import proofs.«01_k».proof.Proof.Gen.MmInIdeal.Frame
public import proofs.«01_k».proof.Proof.Gen.MmInRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.Scatter
public import proofs.«01_k».proof.Proof.Gen.Scatter.Skeleton
public import proofs.«01_k».proof.Proof.Gen.Scatter.Loops
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Loops
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Cattn
public import proofs.«01_k».proof.Proof.Gen.Cattn.Skeleton
public import proofs.«01_k».proof.Proof.Gen.Cattn.Launch
public import proofs.«01_k».proof.Proof.Gen.Cattn.Points
public import proofs.«01_k».proof.Proof.Gen.Cattn.Frame
public import proofs.«01_k».proof.Proof.Gen.CattnIdeal
public import proofs.«01_k».proof.Proof.Gen.CattnIdeal.Skeleton
public import proofs.«01_k».proof.Proof.Gen.CattnIdeal.Launch
public import proofs.«01_k».proof.Proof.Gen.CattnIdeal.Points
public import proofs.«01_k».proof.Proof.Gen.CattnIdeal.Frame
public import proofs.«01_k».proof.Proof.Gen.CattnRefIdeal
public import proofs.«01_k».proof.Proof.Gen.Pre_finite
public import proofs.«01_k».proof.Proof.Gen.Pre_finite_context
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.MmIdeal.Value
public import proofs.«01_k».proof.Proof.Gen.MmRefIdeal.Run
public import proofs.«01_k».proof.Proof.Gen.MmRefIdeal.Read
public import proofs.«01_k».proof.Proof.Gen.MmInIdeal.Value
public import proofs.«01_k».proof.Proof.Gen.MmInRefIdeal.Run
public import proofs.«01_k».proof.Proof.Gen.MmInRefIdeal.Read
public import proofs.«01_k».proof.Proof.Gen.RouterIdeal.Value
public import proofs.«01_k».proof.Proof.Gen.RouterRefIdeal.Run
public import proofs.«01_k».proof.Proof.Gen.RouterRefIdeal.Read
public import proofs.«01_k».proof.Proof.Gen.ScatterIdeal.Value
public import proofs.«01_k».proof.Proof.Gen.ScatterRefIdeal.Run
public import proofs.«01_k».proof.Proof.Gen.ScatterRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.CattnIdeal.Value
public import proofs.«01_k».proof.Proof.Gen.CattnRefIdeal.Run
public import proofs.«01_k».proof.Proof.Gen.CattnRefIdeal.Read
public import proofs.«01_k».proof.Proof.Gen.LoraDown
public import proofs.«01_k».proof.Proof.Gen.LoraDown.Skeleton
public import proofs.«01_k».proof.Proof.Gen.LoraDown.Launch
public import proofs.«01_k».proof.Proof.Gen.LoraDown.Points
public import proofs.«01_k».proof.Proof.Gen.LoraDown.Frame
public import proofs.«01_k».proof.Proof.Gen.LoraDownIdeal
public import proofs.«01_k».proof.Proof.Gen.LoraDownIdeal.Skeleton
public import proofs.«01_k».proof.Proof.Gen.LoraDownIdeal.Launch
public import proofs.«01_k».proof.Proof.Gen.LoraDownIdeal.Points
public import proofs.«01_k».proof.Proof.Gen.LoraDownIdeal.Frame
public import proofs.«01_k».proof.Proof.Gen.LoraDownRefIdeal
public import proofs.«01_k».proof.Proof.Gen.LoraDownIdeal.Value
public import proofs.«01_k».proof.Proof.Gen.LoraDownRefIdeal.Run
public import proofs.«01_k».proof.Proof.Gen.LoraDownRefIdeal.Read
public import proofs.«01_k».proof.Proof.Gen.LoraUp
public import proofs.«01_k».proof.Proof.Gen.LoraUp.Skeleton
public import proofs.«01_k».proof.Proof.Gen.LoraUp.Launch
public import proofs.«01_k».proof.Proof.Gen.LoraUp.Points
public import proofs.«01_k».proof.Proof.Gen.LoraUp.Frame
public import proofs.«01_k».proof.Proof.Gen.LoraUpIdeal
public import proofs.«01_k».proof.Proof.Gen.LoraUpIdeal.Skeleton
public import proofs.«01_k».proof.Proof.Gen.LoraUpIdeal.Launch
public import proofs.«01_k».proof.Proof.Gen.LoraUpIdeal.Points
public import proofs.«01_k».proof.Proof.Gen.LoraUpIdeal.Frame
public import proofs.«01_k».proof.Proof.Gen.LoraUpRefIdeal
public import proofs.«01_k».proof.Proof.Gen.LoraUpIdeal.Value
public import proofs.«01_k».proof.Proof.Gen.LoraUpRefIdeal.Run
public import proofs.«01_k».proof.Proof.Gen.LoraUpRefIdeal.Read
public import proofs.«01_k».proof.Proof.Gen.GateDown
public import proofs.«01_k».proof.Proof.Gen.GateDown.Skeleton
public import proofs.«01_k».proof.Proof.Gen.GateDown.Launch
public import proofs.«01_k».proof.Proof.Gen.GateDown.Points
public import proofs.«01_k».proof.Proof.Gen.GateDown.Frame
public import proofs.«01_k».proof.Proof.Gen.GateDownIdeal
public import proofs.«01_k».proof.Proof.Gen.GateDownIdeal.Skeleton
public import proofs.«01_k».proof.Proof.Gen.GateDownIdeal.Launch
public import proofs.«01_k».proof.Proof.Gen.GateDownIdeal.Points
public import proofs.«01_k».proof.Proof.Gen.GateDownIdeal.Frame
public import proofs.«01_k».proof.Proof.Gen.GateDownRefIdeal
public import proofs.«01_k».proof.Proof.Gen.GateDownIdeal.Value
public import proofs.«01_k».proof.Proof.Gen.GateDownRefIdeal.Run
public import proofs.«01_k».proof.Proof.Gen.GateDownRefIdeal.Read
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.LruGates
public import proofs.«01_k».proof.Proof.Gen.LruGates.Skeleton
public import proofs.«01_k».proof.Proof.Gen.LruGates.Launch
public import proofs.«01_k».proof.Proof.Gen.LruGates.Points
public import proofs.«01_k».proof.Proof.Gen.LruGates.Frame
public import proofs.«01_k».proof.Proof.Gen.LruGatesIdeal
public import proofs.«01_k».proof.Proof.Gen.LruGatesIdeal.Skeleton
public import proofs.«01_k».proof.Proof.Gen.LruGatesIdeal.Launch
public import proofs.«01_k».proof.Proof.Gen.LruGatesIdeal.Points
public import proofs.«01_k».proof.Proof.Gen.LruGatesIdeal.Frame
public import proofs.«01_k».proof.Proof.Gen.LruGatesRefIdeal
public import proofs.«01_k».proof.Proof.Gen.LruGatesIdeal.Value
public import proofs.«01_k».proof.Proof.Gen.LruGatesRefIdeal.Run
public import proofs.«01_k».proof.Proof.Gen.LruGatesRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeIdeal.Value
public import proofs.«01_k».proof.Proof.Gen.RopeRefIdeal.Run
public import proofs.«01_k».proof.Proof.Gen.RopeRefIdeal.Read
public import proofs.«01_k».proof.Proof.MoeClaims
public import proofs.«01_k».proof.Proof.MmClaims
public import proofs.«01_k».proof.Proof.MmInClaims
public import proofs.«01_k».proof.Proof.LoraDownClaims
public import proofs.«01_k».proof.Proof.LoraUpClaims
public import proofs.«01_k».proof.Proof.GateDownClaims
public import proofs.«01_k».proof.Proof.GateUpClaims
public import proofs.«01_k».proof.Proof.LruGatesClaims
public import proofs.«01_k».proof.Proof.NormClaims
public import proofs.«01_k».proof.Proof.FinalClaims
public import proofs.«01_k».proof.Proof.RopeClaims
public import proofs.«01_k».proof.Proof.RouterClaims
public import proofs.«01_k».proof.Proof.ScatterClaims
public import proofs.«01_k».proof.Proof.AttnClaims
public import proofs.«01_k».proof.Proof.CattnClaims
public import Idealize.ShloMosaic.Adequacy
public import Idealize.ShloMosaic.Init

@[expose] public section

noncomputable section

namespace Cert.Proof

open Idealize.ShloMosaic Idealize.SL.Sem

/-- Everything claimed: for each call its frame in machine words and over the extended reals, the reference's frame, that
    its idealisation keeps its meaning, and that over the extended reals it computes what the reference computes. -/
theorem claim : Cert.Claim := ⟨
  Cert.Moe.Gen.facts, Cert.MoeIdeal.Gen.facts, Cert.MoeRefIdeal.Gen.facts, Cert.Mm.Gen.facts,
  Cert.MmIdeal.Gen.facts, Cert.MmRefIdeal.Gen.facts, Cert.MmIn.Gen.facts, Cert.MmInIdeal.Gen.facts,
  Cert.MmInRefIdeal.Gen.facts, Cert.LoraDown.Gen.facts, Cert.LoraDownIdeal.Gen.facts,
  Cert.LoraDownRefIdeal.Gen.facts, Cert.LoraUp.Gen.facts, Cert.LoraUpIdeal.Gen.facts,
  Cert.LoraUpRefIdeal.Gen.facts, Cert.GateDown.Gen.facts, Cert.GateDownIdeal.Gen.facts,
  Cert.GateDownRefIdeal.Gen.facts, Cert.GateUp.Gen.facts, Cert.GateUpIdeal.Gen.facts,
  Cert.GateUpRefIdeal.Gen.facts, Cert.LruGates.Gen.facts, Cert.LruGatesIdeal.Gen.facts,
  Cert.LruGatesRefIdeal.Gen.facts, Cert.Norm.Gen.facts, Cert.NormIdeal.Gen.facts, Cert.NormRefIdeal.Gen.facts,
  Cert.Final.Gen.facts, Cert.FinalIdeal.Gen.facts, Cert.FinalRefIdeal.Gen.facts, Cert.Rope.Gen.facts,
  Cert.RopeIdeal.Gen.facts, Cert.RopeRefIdeal.Gen.facts, Cert.Router.Gen.facts, Cert.RouterIdeal.Gen.facts,
  Cert.RouterRefIdeal.Gen.facts, Cert.Scatter.Gen.facts, Cert.ScatterIdeal.Gen.facts,
  Cert.ScatterRefIdeal.Gen.facts, Cert.Attn.Gen.facts, Cert.AttnIdeal.Gen.facts, Cert.AttnRefIdeal.Gen.facts,
  Cert.Cattn.Gen.facts, Cert.CattnIdeal.Gen.facts, Cert.CattnRefIdeal.Gen.facts, Cert.Pre_finite.Gen.facts,
  Cert.Pre_finite_context.Gen.facts,
  Moe.frame, Moe.frame_ideal, Moe.frame_reference,
  Mm.frame, Mm.frame_ideal, Mm.frame_reference,
  MmIn.frame, MmIn.frame_ideal, MmIn.frame_reference,
  LoraDown.frame, LoraDown.frame_ideal, LoraDown.frame_reference,
  LoraUp.frame, LoraUp.frame_ideal, LoraUp.frame_reference,
  GateDown.frame, GateDown.frame_ideal, GateDown.frame_reference,
  GateUp.frame, GateUp.frame_ideal, GateUp.frame_reference,
  LruGates.frame, LruGates.frame_ideal, LruGates.frame_reference,
  Norm.frame, Norm.frame_ideal, Norm.frame_reference,
  Final.frame, Final.frame_ideal, Final.frame_reference,
  Rope.frame, Rope.frame_ideal, Rope.frame_reference,
  Router.frame, Router.frame_ideal, Router.frame_reference,
  Scatter.frame, Scatter.frame_ideal, Scatter.frame_reference,
  Attn.frame, Attn.frame_ideal, Attn.frame_ideal_finite, Attn.frame_reference, Attn.frame_reference_finite,
  Cattn.frame, Cattn.frame_ideal, Cattn.frame_ideal_finite, Cattn.frame_reference, Cattn.frame_reference_finite,
  trivial, Moe.algebraic,
  trivial, Mm.algebraic,
  trivial, MmIn.algebraic,
  trivial, LoraDown.algebraic,
  trivial, LoraUp.algebraic,
  trivial, GateDown.algebraic,
  trivial, GateUp.algebraic,
  trivial, LruGates.algebraic,
  trivial, Norm.algebraic,
  trivial, Final.algebraic,
  trivial, Rope.algebraic,
  trivial, Router.algebraic,
  trivial, Scatter.algebraic,
  Attn.preserves, Attn.algebraic,
  trivial, Cattn.algebraic⟩

end Cert.Proof

end
